-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_dy_finite [hPre_dy_finite : Cert.Pre_dy_finite.Facts] (m : (ℓ : Loc Cert.KernelIdeal.nD Cert.KernelIdeal.τ Cert.KernelIdeal.sig) → Buf (Elt Ideal) ℓ) : Prop :=
  ∀ c : Dev Cert.KernelIdeal.nD,
    (Cert.Pre_dy_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_dy_finite [hPre_dy_finite : Cert.Pre_dy_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_dy_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_dy_finite [hKernelIdeal : Cert.KernelIdeal.Facts] [hPre_dy_finite : Cert.Pre_dy_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_dy_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_dy_finite [hReferenceIdeal : Cert.ReferenceIdeal.Facts] [hPre_dy_finite : Cert.Pre_dy_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_dy_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_dy_finite [hKernelIdeal : Cert.KernelIdeal.Facts] [hReferenceIdeal : Cert.ReferenceIdeal.Facts] [hPre_dy_finite : Cert.Pre_dy_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_dy_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v8) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25_0) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_v17) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_dy_finite : Cert.Pre_dy_finite.Facts),
    quiescent_Kernel (hKernel := hKernel)
    ∧ quiescent_KernelIdeal (hKernelIdeal := hKernelIdeal)
    ∧ quiescent_KernelIdeal_pre_dy_finite (hKernelIdeal := hKernelIdeal) (hPre_dy_finite := hPre_dy_finite)
    ∧ quiescent_ReferenceIdeal (hReferenceIdeal := hReferenceIdeal)
    ∧ quiescent_ReferenceIdeal_pre_dy_finite (hReferenceIdeal := hReferenceIdeal) (hPre_dy_finite := hPre_dy_finite)
    ∧ preserves_Kernel_KernelIdeal
    ∧ algebraic_KernelIdeal_ReferenceIdeal_pre_dy_finite (hKernelIdeal := hKernelIdeal) (hReferenceIdeal := hReferenceIdeal) (hPre_dy_finite := hPre_dy_finite)
-- ==== Pre_dy_finite.lean ====
abbrev S4x8192x6912 : Shape := ⟨3, ![4, 8192, 6912]⟩
abbrev S_ : Shape := ⟨0, ![]⟩
abbrev S4x8192x5120 : Shape := ⟨3, ![4, 8192, 5120]⟩
abbrev S6912x5120 : Shape := ⟨2, ![6912, 5120]⟩

class Facts : Prop where
  bcast_S_S4x8192x5120 : S_.BroadcastsInDim S4x8192x5120 (![] : Fin 0 → Fin S4x8192x5120.rank)
  reducesTo_S4x8192x5120_S_d0_1_2 : S4x8192x5120.ReducesTo [0, 1, 2] S_
  h_S_ : 0 < S_.numel

variable [Facts]

def fn {F : FTy → Type} [FloatOps F] (main_arg0 : FVec F S4x8192x6912 .fp8e4m3) (main_arg1 : FVec F S_ .f32) (main_arg2 : FVec F S4x8192x5120 .bf16) (main_arg3 : FVec F S6912x5120 .f32) : IVec S_ 1 :=
  let main_v0 : FVec F S4x8192x5120 .bf16 := Host.absf main_arg2
  let main_cst : FVec F S_ .bf16 := constant S_ .bf16 0x7F7F#16
  let main_v1 : FVec F S4x8192x5120 .bf16 := broadcastInDim S4x8192x5120 ![] bcast_S_S4x8192x5120 main_cst
  let main_v2 : IVec S4x8192x5120 1 := cmpf .ole main_v0 main_v1
  let main_c : IVec S_ 1 := constantI S_ 1 1#1
  let main_v3 : IVec S_ 1 := (fun x v => Host.reduce IntOp.andi x v reducesTo_S4x8192x5120_S_d0_1_2 h_S_) main_v2 main_c
  main_v3
-- ==== Kernel.lean ====
abbrev S4x8192x6912 : Shape := ⟨3, ![4, 8192, 6912]⟩
abbrev S_ : Shape := ⟨0, ![]⟩
abbrev S4x8192x5120 : Shape := ⟨3, ![4, 8192, 5120]⟩
abbrev S6912x5120 : Shape := ⟨2, ![6912, 5120]⟩
abbrev S32768x6912 : Shape := ⟨2, ![32768, 6912]⟩
abbrev S32768x5120 : Shape := ⟨2, ![32768, 5120]⟩
abbrev S1x2 : Shape := ⟨2, ![1, 2]⟩
abbrev S512x5120 : Shape := ⟨2, ![512, 5120]⟩
abbrev S16x5120 : Shape := ⟨2, ![16, 5120]⟩
abbrev S32x16x5120 : Shape := ⟨3, ![32, 16, 5120]⟩
abbrev S1x16x5120 : Shape := ⟨3, ![1, 16, 5120]⟩
abbrev S1 : Shape := ⟨1, ![1]⟩
abbrev S1x1x1 : Shape := ⟨3, ![1, 1, 1]⟩
abbrev S2x128 : Shape := ⟨2, ![2, 128]⟩
abbrev S1x2x128 : Shape := ⟨3, ![1, 2, 128]⟩
abbrev S1x1 : Shape := ⟨2, ![1, 1]⟩
abbrev S1024x2304 : Shape := ⟨2, ![1024, 2304]⟩
abbrev S1024x1280 : Shape := ⟨2, ![1024, 1280]⟩
abbrev S2304x1280 : Shape := ⟨2, ![2304, 1280]⟩

abbrev nBuf : Space → Nat
  | .hbm => 13
  | .vmem => 15
  | .smem => 4
  | _ => 0

abbrev bufTy : (tb : Table) → Fin (tcTables nBuf tb) → BufTy
  | .hbm, ⟨0, _⟩ => ⟨S4x8192x6912, .fp8e4m3⟩
  | .hbm, ⟨1, _⟩ => ⟨S_, .f32⟩
  | .hbm, ⟨2, _⟩ => ⟨S4x8192x5120, .bf16⟩
  | .hbm, ⟨3, _⟩ => ⟨S6912x5120, .f32⟩
  | .hbm, ⟨4, _⟩ => ⟨S32768x6912, .fp8e4m3⟩
  | .hbm, ⟨5, _⟩ => ⟨S32768x5120, .bf16⟩
  | .hbm, ⟨6, _⟩ => ⟨S1x2, .f32⟩
  | .hbm, ⟨7, _⟩ => ⟨S32768x5120, .fp8e5m2⟩
  | .hbm, ⟨8, _⟩ => ⟨S1x1, .f32⟩
  | .hbm, ⟨9, _⟩ => ⟨S6912x5120, .f32⟩
  | .hbm, ⟨10, _⟩ => ⟨S4x8192x5120, .fp8e5m2⟩
  | .hbm, ⟨11, _⟩ => ⟨S1x1, .f32⟩
  | .hbm, ⟨12, _⟩ => ⟨S_, .f32⟩
  | .local _ .vmem, ⟨0, _⟩ => ⟨S512x5120, .bf16⟩
  | .local _ .vmem, ⟨1, _⟩ => ⟨S512x5120, .bf16⟩
  | .local _ .vmem, ⟨2, _⟩ => ⟨S16x5120, .bf16⟩
  | .local _ .vmem, ⟨3, _⟩ => ⟨S512x5120, .bf16⟩
  | .local _ .vmem, ⟨4, _⟩ => ⟨S512x5120, .bf16⟩
  | .local _ .vmem, ⟨5, _⟩ => ⟨S512x5120, .fp8e5m2⟩
  | .local _ .vmem, ⟨6, _⟩ => ⟨S512x5120, .fp8e5m2⟩
  | .local _ .vmem, ⟨7, _⟩ => ⟨S1024x2304, .fp8e4m3⟩
  | .local _ .vmem, ⟨8, _⟩ => ⟨S1024x2304, .fp8e4m3⟩
  | .local _ .vmem, ⟨9, _⟩ => ⟨S1024x1280, .fp8e5m2⟩
  | .local _ .vmem, ⟨10, _⟩ => ⟨S1024x1280, .fp8e5m2⟩
  | .local _ .vmem, ⟨11, _⟩ => ⟨S2304x1280, .f32⟩
  | .local _ .vmem, ⟨12, _⟩ => ⟨S2304x1280, .f32⟩
  | .local _ .vmem, ⟨13, _⟩ => ⟨S2304x1280, .f32⟩
  | .local _ .vmem, ⟨14, _⟩ => ⟨S2304x1280, .f32⟩
  | .local _ .smem, ⟨0, _⟩ => ⟨S1x2, .f32⟩
  | .local _ .smem, ⟨1, _⟩ => ⟨S1x2, .f32⟩
  | .local _ .smem, ⟨2, _⟩ => ⟨S1x2, .f32⟩
  | .local _ .smem, ⟨3, _⟩ => ⟨S1x1, .f32⟩
  | _, _ => ⟨S4x8192x6912, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_scratch0 : Ref sig .tc := ⟨.vmem, 2, rfl⟩
abbrev cc1_stg1_0 : Ref sig .tc := ⟨.vmem, 3, rfl⟩
abbrev cc1_stg1_1 : Ref sig .tc := ⟨.vmem, 4, rfl⟩
abbrev cc1_stg2_0 : Ref sig .tc := ⟨.vmem, 5, rfl⟩
abbrev cc1_stg2_1 : Ref sig .tc := ⟨.vmem, 6, rfl⟩
abbrev cc2_stg2_0 : Ref sig .tc := ⟨.vmem, 7, rfl⟩
abbrev cc2_stg2_1 : Ref sig .tc := ⟨.vmem, 8, rfl⟩
abbrev cc2_stg3_0 : Ref sig .tc := ⟨.vmem, 9, rfl⟩
abbrev cc2_stg3_1 : Ref sig .tc := ⟨.vmem, 10, rfl⟩
abbrev cc2_stg4_0 : Ref sig .tc := ⟨.vmem, 11, rfl⟩
abbrev cc2_stg4_1 : Ref sig .tc := ⟨.vmem, 12, rfl⟩
abbrev cc2_stg5_0 : Ref sig .tc := ⟨.vmem, 13, rfl⟩
abbrev cc2_stg5_1 : Ref sig .tc := ⟨.vmem, 14, rfl⟩
abbrev cc0_stg1_0 : Ref sig .tc := ⟨.smem, 0, rfl⟩
abbrev cc1_stg0_0 : Ref sig .tc := ⟨.smem, 1, rfl⟩
abbrev cc2_stg0_0 : Ref sig .tc := ⟨.smem, 2, rfl⟩
abbrev cc2_stg1_0 : Ref sig .tc := ⟨.smem, 3, rfl⟩
abbrev cc0_sem0_0 : DmaSem sig := 0
abbrev cc0_sem0_1 : DmaSem sig := 1
abbrev cc0_sem1_0 : DmaSem sig := 2
abbrev cc1_sem0_0 : DmaSem sig := 3
abbrev cc1_sem1_0 : DmaSem sig := 4
abbrev cc1_sem1_1 : DmaSem sig := 5
abbrev cc1_sem2_0 : DmaSem sig := 6
abbrev cc1_sem2_1 : DmaSem sig := 7
abbrev cc2_sem0_0 : DmaSem sig := 8
abbrev cc2_sem1_0 : DmaSem sig := 9
abbrev cc2_sem2_0 : DmaSem sig := 10
abbrev cc2_sem2_1 : DmaSem sig := 11
abbrev cc2_sem3_0 : DmaSem sig := 12
abbrev cc2_sem3_1 : DmaSem sig := 13
abbrev cc2_sem4_0 : DmaSem sig := 14
abbrev cc2_sem4_1 : DmaSem sig := 15
abbrev cc2_sem5_0 : DmaSem sig := 16
abbrev cc2_sem5_1 : DmaSem sig := 17

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v13 : BitVec 1 := Scalar.cmpi .eq arg0 c63_i32
  let v14 : BitVec 32 := Scalar.extui v13
  let c0_i32_6 : BitVec 32 := 0#32
  let v15 : BitVec 1 := Scalar.cmpi .ne v14 c0_i32_6
  v15

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .smem S1x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .smem S1x2 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S512x5120 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x5120 .fp8e5m2 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨3, ![3, 4, 32], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_4 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_5 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 1 → Memref sig .tc .smem S1x2 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false, false, false]

abbrev stage2_1 : Fin 1 → Memref sig .tc .smem S1x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false, false]

abbrev stage2_2 : Fin 2 → Memref sig .tc .vmem S1024x2304 .fp8e4m3 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false, true]

abbrev stage2_3 : Fin 2 → Memref sig .tc .vmem S1024x1280 .fp8e5m2 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true, true]

abbrev stage2_4 : Fin 2 → Memref sig .tc .vmem S2304x1280 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true, false]

abbrev stage2_5 : Fin 2 → Memref sig .tc .vmem S2304x1280 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true, false]
-- ==== ReferenceIdeal.lean ====
abbrev S4x8192x6912 : Shape := ⟨3, ![4, 8192, 6912]⟩
abbrev S_ : Shape := ⟨0, ![]⟩
abbrev S4x8192x5120 : Shape := ⟨3, ![4, 8192, 5120]⟩
abbrev S6912x5120 : Shape := ⟨2, ![6912, 5120]⟩
abbrev S254 : Shape := ⟨1, ![254]⟩
abbrev S32768x6912 : Shape := ⟨2, ![32768, 6912]⟩
abbrev S32768x5120 : Shape := ⟨2, ![32768, 5120]⟩
abbrev S1x1 : Shape := ⟨2, ![1, 1]⟩

abbrev nBuf : Space → Nat
  | .hbm => 48
  | .vmem => 7
  | .smem => 0
  | _ => 0

abbrev bufTy : (tb : Table) → Fin (tcTables nBuf tb) → BufTy
  | .hbm, ⟨0, _⟩ => ⟨S4x8192x6912, .fp8e4m3⟩
  | .hbm, ⟨1, _⟩ => ⟨S_, .f32⟩
  | .hbm, ⟨2, _⟩ => ⟨S4x8192x5120, .bf16⟩
  | .hbm, ⟨3, _⟩ => ⟨S6912x5120, .f32⟩
  | .hbm, ⟨4, _⟩ => ⟨S4x8192x5120, .bf16⟩
  | .hbm, ⟨5, _⟩ => ⟨S_, .bf16⟩
  | .hbm, ⟨6, _⟩ => ⟨S_, .bf16⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S254, .f32⟩
  | .hbm, ⟨11, _⟩ => ⟨S_, .f32⟩
  | .hbm, ⟨12, _⟩ => ⟨S254, .f32⟩
  | .hbm, ⟨13, _⟩ => ⟨S254, .f32⟩
  | .hbm, ⟨14, _⟩ => ⟨S_, .f32⟩
  | .hbm, ⟨15, _⟩ => ⟨S254, .f32⟩
  | .hbm, ⟨16, _⟩ => ⟨S254, .f32⟩
  | .hbm, ⟨17, _⟩ => ⟨S254, .f32⟩
  | .hbm, ⟨18, _⟩ => ⟨S254, .i1⟩
  | .hbm, ⟨19, _⟩ => ⟨S_, .f32⟩
  | .hbm, ⟨20, _⟩ => ⟨S_, .f32⟩
  | .hbm, ⟨21, _⟩ => ⟨S254, .f32⟩
  | .hbm, ⟨22, _⟩ => ⟨S254, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .i1⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .i1⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S32768x6912, .fp8e4m3⟩
  | .hbm, ⟨41, _⟩ => ⟨S32768x5120, .bf16⟩
  | .hbm, ⟨42, _⟩ => ⟨S1x1, .f32⟩
  | .hbm, ⟨43, _⟩ => ⟨S_, .f32⟩
  | .hbm, ⟨44, _⟩ => ⟨S1x1, .f32⟩
  | .hbm, ⟨45, _⟩ => ⟨S6912x5120, .f32⟩
  | .hbm, ⟨46, _⟩ => ⟨S32768x5120, .fp8e5m2⟩
  | .hbm, ⟨47, _⟩ => ⟨S4x8192x5120, .fp8e5m2⟩
  | .local _ .vmem, ⟨0, _⟩ => ⟨S32768x6912, .fp8e4m3⟩
  | .local _ .vmem, ⟨1, _⟩ => ⟨S32768x5120, .bf16⟩
  | .local _ .vmem, ⟨2, _⟩ => ⟨S6912x5120, .f32⟩
  | .local _ .vmem, ⟨3, _⟩ => ⟨S1x1, .f32⟩
  | .local _ .vmem, ⟨4, _⟩ => ⟨S1x1, .f32⟩
  | .local _ .vmem, ⟨5, _⟩ => ⟨S6912x5120, .f32⟩
  | .local _ .vmem, ⟨6, _⟩ => ⟨S32768x5120, .fp8e5m2⟩
  | _, _ => ⟨S4x8192x6912, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_call0_v0 : Ref sig .tc := ⟨.hbm, 20, rfl⟩
abbrev main_call0_v1 : Ref sig .tc := ⟨.hbm, 21, rfl⟩
abbrev main_v11 : Ref sig .tc := ⟨.hbm, 22, rfl⟩
abbrev main_cst_4 : Ref sig .tc := ⟨.hbm, 23, rfl⟩
abbrev main_v12 : Ref sig .tc := ⟨.hbm, 24, rfl⟩
abbrev main_cst_5 : Ref sig .tc := ⟨.hbm, 25, rfl⟩
abbrev main_v13 : Ref sig .tc := ⟨.hbm, 26, rfl⟩
abbrev main_cst_6 : Ref sig .tc := ⟨.hbm, 27, rfl⟩
abbrev main_call1_v0 : Ref sig .tc := ⟨.hbm, 28, rfl⟩
abbrev main_v14 : Ref sig .tc := ⟨.hbm, 29, rfl⟩
abbrev main_cst_7 : Ref sig .tc := ⟨.hbm, 30, rfl⟩
abbrev main_v15 : Ref sig .tc := ⟨.hbm, 31, rfl⟩
abbrev main_cst_8 : Ref sig .tc := ⟨.hbm, 32, rfl⟩
abbrev main_call2_v0 : Ref sig .tc := ⟨.hbm, 33, rfl⟩
abbrev main_v16 : Ref sig .tc := ⟨.hbm, 34, rfl⟩
abbrev main_cst_9 : Ref sig .tc := ⟨.hbm, 35, rfl⟩
abbrev main_v17 : Ref sig .tc := ⟨.hbm, 36, rfl⟩
abbrev main_v18 : Ref sig .tc := ⟨.hbm, 37, rfl⟩
abbrev main_cst_10 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25_0 : Ref sig .tc := ⟨.hbm, 45, rfl⟩
abbrev main_v25_1 : Ref sig .tc := ⟨.hbm, 46, rfl⟩
abbrev main_v26 : Ref sig .tc := ⟨.hbm, 47, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S32768x6912 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32768x5120 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6912x5120 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6912x5120 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32768x5120 .fp8e5m2 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.KR0Run.lean ====
/- Region 0 of `Kernel` (the running maximum and the scale pair): its branch conditions, its blocks and the runs of its body. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 64 = 0 :=
  (fun t => by
    have ht : t.val < 64 := Nat.lt_of_lt_of_eq t.isLt N_0
    have e0 : (grid0.coords t 0).val = t.val / 1 % 64 := Pipeline.Grid.coords_val t 0 (by decide) rfl
    simp only [cond0_0, e0]
    word_cmp
   : ∀ t : Fin grid0.N, cond0_0 (grid0.coords t) ↔ t.val % 64 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 64 = 63 :=
  (fun t => by
    have ht : t.val < 64 := Nat.lt_of_lt_of_eq t.isLt N_0
    have e0 : (grid0.coords t 0).val = t.val / 1 % 64 := Pipeline.Grid.coords_val t 0 (by decide) rfl
    simp only [cond0_1, k0_cond2, e0]
    word_cmp
   : ∀ t : Fin grid0.N, cond0_1 (grid0.coords t) ↔ t.val % 64 = 63)

/-! ## Where the windows are idle (the printed configuration's table `Cfg.idle`) -/

/-- Window 0 is never idle (an input). -/
theorem liveAt0_0 : ∀ t : Fin cfg0.N, cfg0.idle 0 (grid0.coords t) = false := fun _ => rfl
/-- At the points of case A the printed configuration (`Cfg.idle`) calls output 1 idle: the case stores nothing into it. -/
theorem idleAt0_1_A : ∀ t : Fin cfg0.N, cond0_0 (grid0.coords t) → ¬cond0_1 (grid0.coords t) → cfg0.idle 1 (grid0.coords t) = true := by decide +kernel
/-- At the points of case A the pipeline does not write output 1's block back. -/
theorem noFlush0_1_A : ∀ t : Fin cfg0.N, cond0_0 (grid0.coords t) → ¬cond0_1 (grid0.coords t) → (cfg0.win 1).flush t = false := by decide +kernel
/-- At the points of case B the printed configuration (`Cfg.idle`) calls output 1 idle: the case stores nothing into it. -/
theorem idleAt0_1_B : ∀ t : Fin cfg0.N, ¬cond0_0 (grid0.coords t) → ¬cond0_1 (grid0.coords t) → cfg0.idle 1 (grid0.coords t) = true := by decide +kernel
/-- At the points of case B the pipeline does not write output 1's block back. -/
theorem noFlush0_1_B : ∀ t : Fin cfg0.N, ¬cond0_0 (grid0.coords t) → ¬cond0_1 (grid0.coords t) → (cfg0.win 1).flush t = false := by decide +kernel
/-- At the points of case C the printed configuration (`Cfg.idle`) calls output 1 live: the case stores into it. -/
theorem liveAt0_1_C : ∀ t : Fin cfg0.N, ¬cond0_0 (grid0.coords t) → cond0_1 (grid0.coords t) → cfg0.idle 1 (grid0.coords t) = false := by decide +kernel

/-! ## The kernel body on any staging memrefs: a subtype the run finds -/

/-- One staging buffer of output window 1, through which its contents are stated (`View.read_writes_of_cover`: the
    choice does not matter). -/
abbrev VO0_1 : View sig .tc .smem S1x2 .f32 := (Memref.whole cc0_stg1_0 : Memref sig .tc .smem S1x2 .f32).view
/-- Each window's current staging memref at point `t`, spelled as the pipeline passes it (`bodyAt0`), and its wholeness. -/
abbrev ms0_0 (t : Fin cfg0.N) : Memref sig .tc .vmem S512x5120 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S1x2 .f32 := win0_1.stage (cfg0.slots t 1)
abbrev hs0_1 (t : Fin cfg0.N) : (ms0_1 t).IsWhole := hstage0_1 ((cfg0.slots t 1).cast nbuf0_1)
/-- The scratch operands: whole scoped buffers of the kernel's own, passed beside the windows. -/
abbrev scM0_0 : Memref sig .tc .vmem S16x5120 .bf16 := Memref.whole cc0_scratch0
/-- The scratch `arg3` the kernel carries between points, as a view: what it holds is stated through it. -/
abbrev VS0_0 : View sig .tc .vmem S16x5120 .bf16 := scM0_0.view

/-- The scoped buffers other than the carried scratch, each at some contents, and the generator register at some state. -/
def others (c : Dev nD) : sProp 𝕄 :=
  iprop(((∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg4_1), ((c : Thread nD τ).loc cc2_stg4_1) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg5_1), ((c : Thread nD τ).loc cc2_stg5_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg1_0), ((c : Thread nD τ).loc cc2_stg1_0) ↦{fullShare} f)) ∗ (∃ r, prngReg c r))

/-- Separating conjunction reassociates, as an equality. -/
theorem sep_assoc_eq (P Q R : sProp 𝕄) : iprop((P ∗ Q) ∗ R) = iprop(P ∗ Q ∗ R) := equiv_iff.mp ⟨BI.sep_assoc, BI.sep_assoc'⟩

/-- The region's invariant with the scratch as a memref owned at some contents, the rest set apart. -/
theorem PhiA0_eq (c : Dev nD) :
    (Pipeline.ΦA spec0 c : sProp 𝕄) = iprop((∃ d, owns (c : Thread nD τ) scM0_0 fullShare d) ∗ others c) := by
  unfold Pipeline.ΦA others; rw [scopedRest0_eq, sep_assoc_eq]; simp only [scM0_0, owns_whole]; try rfl

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0), WITH the
    proof that on whole staging memrefs — the inputs' at their contents, the outputs it leaves idle (1: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S512x5120 .bf16) (harg1 : arg1.IsWhole) (arg2 : Memref sig .tc .smem S1x2 .f32) (harg2 : arg2.IsWhole) (arg3 : Memref sig .tc .vmem S16x5120 .bf16) (harg3 : arg3.IsWhole) (hc0 : cond0_0 i) (hc1 : ¬cond0_1 i)
    (x0 : Vec F S512x5120 .bf16) :
    Σ' (L1 : List (View.Piece (Elt F) S1x2 .f32)), { LS0 : List (View.Piece (Elt F) S16x5120 .bf16) //
      ∀ (xi1 : Vec F S1x2 .f32) (E : Set ℕ) (K : PUnit → sProp 𝕄),
        iprop(owns (c : Thread nD τ) arg1 fullShare x0 ∗ owns (c : Thread nD τ) arg2 fullShare xi1 ∗ (∃ d, owns (c : Thread nD τ) arg3 fullShare d)
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS0)) -∗ K ⟨⟩))
          ⊢ wp frame (wpE (defs₀ (F := F)) Variants.none c none) E (cc0_amax_scale i arg1 harg1 arg2 harg2 arg3 harg3) K } := by
  refine ⟨[], ?_, fun xi1 E K => ?run⟩
  case run =>
    simp only [cc0_amax_scale_eq_skeleton]; unfold cc0_amax_scale_skel
    unfold owns
    iintro ⟨⟨%f0, %hf0, H0⟩, ⟨%f1, %hf1, H1⟩, ⟨%ds0, %fs0, -, HS0⟩, Hk⟩
    obtain rfl := harg1.eq_unread hf0; obtain rfl := harg2.eq_unread hf1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 62: 62 of 64), WITH the
    proof that on whole staging memrefs — the inputs' at their contents, the outputs it leaves idle (1: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S512x5120 .bf16) (harg1 : arg1.IsWhole) (arg2 : Memref sig .tc .smem S1x2 .f32) (harg2 : arg2.IsWhole) (arg3 : Memref sig .tc .vmem S16x5120 .bf16) (harg3 : arg3.IsWhole) (hc0 : ¬cond0_0 i) (hc1 : ¬cond0_1 i)
    (x0 : Vec F S512x5120 .bf16) (xs0 : Vec F S16x5120 .bf16) :
    Σ' (L1 : List (View.Piece (Elt F) S1x2 .f32)), { LS0 : List (View.Piece (Elt F) S16x5120 .bf16) //
      ∀ (xi1 : Vec F S1x2 .f32) (E : Set ℕ) (K : PUnit → sProp 𝕄),
        iprop(owns (c : Thread nD τ) arg1 fullShare x0 ∗ owns (c : Thread nD τ) arg2 fullShare xi1 ∗ owns (c : Thread nD τ) arg3 fullShare xs0
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS0)) -∗ K ⟨⟩))
          ⊢ wp frame (wpE (defs₀ (F := F)) Variants.none c none) E (cc0_amax_scale i arg1 harg1 arg2 harg2 arg3 harg3) K } := by
  refine ⟨[], ?_, fun xi1 E K => ?run⟩
  case run =>
    simp only [cc0_amax_scale_eq_skeleton]; unfold cc0_amax_scale_skel
    unfold owns
    iintro ⟨⟨%f0, %hf0, H0⟩, ⟨%f1, %hf1, H1⟩, ⟨%fs0, %hfs0, HS0⟩, Hk⟩
    obtain rfl := harg1.eq_unread hf0; obtain rfl := harg2.eq_unread hf1; obtain rfl := harg3.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

-- (the run's proof term is large: the definition's epilogue — `abstractNestedProofs` — walks it past the default budget)
set_option maxHeartbeats 1000000 in
/-- What the body's stores leave in each output's staging memref, as pieces (last first) IN CASE C (`scf.if` 0 not taken, `scf.if` 1 taken: points 63), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg1 : Memref sig .tc .vmem S512x5120 .bf16) (harg1 : arg1.IsWhole) (arg2 : Memref sig .tc .smem S1x2 .f32) (harg2 : arg2.IsWhole) (arg3 : Memref sig .tc .vmem S16x5120 .bf16) (harg3 : arg3.IsWhole) (hc0 : ¬cond0_0 i) (hc1 : cond0_1 i)
    (x0 : Vec F S512x5120 .bf16) (xs0 : Vec F S16x5120 .bf16) :
    Σ' (L1 : List (View.Piece (Elt F) S1x2 .f32)), { LS0 : List (View.Piece (Elt F) S16x5120 .bf16) //
      ∀ (E : Set ℕ) (K : PUnit → sProp 𝕄),
        iprop(owns (c : Thread nD τ) arg1 fullShare x0 ∗ (∃ d, owns (c : Thread nD τ) arg2 fullShare d) ∗ owns (c : Thread nD τ) arg3 fullShare xs0
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f LS0)) -∗ K ⟨⟩))
          ⊢ wp frame (wpE (defs₀ (F := F)) Variants.none c none) E (cc0_amax_scale i arg1 harg1 arg2 harg2 arg3 harg3) K } := by
  refine ⟨?_, ?_, fun E K => ?run⟩
  case run =>
    simp only [cc0_amax_scale_eq_skeleton]; unfold cc0_amax_scale_skel
    simp only [k0_part1_eq_skeleton]
    unfold owns
    iintro ⟨⟨%f0, %hf0, H0⟩, ⟨%d1, %f1, -, H1⟩, ⟨%fs0, %hfs0, HS0⟩, Hk⟩
    obtain rfl := harg1.eq_unread hf0; obtain rfl := harg3.eq_unread hfs0
    sl_exec (disch := first | sl_exact hc0 | sl_exact hc1)
    sl_step
    iapply Hk
    isplitl [H0]
    · iexists _; isplitr; · ipureintro; exact harg1.read_unread _
      iexact H0
    isplitl [H1]; · iexists _; iexact H1
    iexists _; iexact HS0

end Cert.Kernel.R0

end
-- ==== Proof.KR0.lean ====
/- Region 0 of `Kernel` (the running maximum and the scale pair): what each point leaves, the proof data and the body obligation. -/
module

public import proofs.«01_k».proof.Proof.KR0Run
public import Idealize.ShloMosaic.Lib.Claim

@[expose] public section

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Case A stores nothing into output 1 (the window is idle at its points and not written back there):
    no pieces — a placeholder (junk read back) that nothing consults, since at these points the window is neither
    written back nor read at the next point (Lib/Pipeline.lean "Idle points"). -/
def out0_A_1 (c : Dev nD) (i : grid0.Coords) (arg1 : Memref sig .tc .vmem S512x5120 .bf16) (harg1 : arg1.IsWhole) (arg2 : Memref sig .tc .smem S1x2 .f32) (harg2 : arg2.IsWhole) (arg3 : Memref sig .tc .vmem S16x5120 .bf16) (harg3 : arg3.IsWhole) (hc0 : cond0_0 i) (hc1 : ¬cond0_1 i)
    (x0 : Vec F S512x5120 .bf16) : Vec F S1x2 .f32 :=
  VO0_1.read (Elt F) (VO0_1.writes (Elt F) VO0_1.junk (kernelRun0_A c i arg1 harg1 arg2 harg2 arg3 harg3 hc0 hc1 x0).1)

/-- Case A's pieces for scratch `arg3`, which the kernel carries between points, cover it: 2 pieces of `S16x5120` tiling it (Lib/Ring.lean `Piece.tiledL`). -/
theorem scover0_A_0 (c : Dev nD) (i : grid0.Coords) (arg1 : Memref sig .tc .vmem S512x5120 .bf16) (harg1 : arg1.IsWhole) (arg2 : Memref sig .tc .smem S1x2 .f32) (harg2 : arg2.IsWhole) (arg3 : Memref sig .tc .vmem S16x5120 .bf16) (harg3 : arg3.IsWhole) (hc0 : cond0_0 i) (hc1 : ¬cond0_1 i)
    (x0 : Vec F S512x5120 .bf16) (y : S16x5120.Idx) :
    ∃ pc ∈ (kernelRun0_A c i arg1 harg1 arg2 harg2 arg3 harg3 hc0 hc1 x0).2.1, y ∈ pc.1.set :=
  View.cover_of_tiledL (kernelRun0_A c i arg1 harg1 arg2 harg2 arg3 harg3 hc0 hc1 x0).2.1 S16x5120.size (by sl_kernel_rfl) y

/-- What case A leaves in scratch `arg3`: its pieces read back over junk. -/
def sout0_A_0 (c : Dev nD) (i : grid0.Coords) (arg1 : Memref sig .tc .vmem S512x5120 .bf16) (harg1 : arg1.IsWhole) (arg2 : Memref sig .tc .smem S1x2 .f32) (harg2 : arg2.IsWhole) (arg3 : Memref sig .tc .vmem S16x5120 .bf16) (harg3 : arg3.IsWhole) (hc0 : cond0_0 i) (hc1 : ¬cond0_1 i)
    (x0 : Vec F S512x5120 .bf16) : Vec F S16x5120 .bf16 :=
  VS0_0.read (Elt F) (VS0_0.writes (Elt F) VS0_0.junk (kernelRun0_A c i arg1 harg1 arg2 harg2 arg3 harg3 hc0 hc1 x0).2.1)

/-- Case B stores nothing into output 1 (the window is idle at its points and not written back there):
    no pieces — a placeholder (junk read back) that nothing consults, since at these points the window is neither
    written back nor read at the next point (Lib/Pipeline.lean "Idle points"). -/
def out0_B_1 (c : Dev nD) (i : grid0.Coords) (arg1 : Memref sig .tc .vmem S512x5120 .bf16) (harg1 : arg1.IsWhole) (arg2 : Memref sig .tc .smem S1x2 .f32) (harg2 : arg2.IsWhole) (arg3 : Memref sig .tc .vmem S16x5120 .bf16) (harg3 : arg3.IsWhole) (hc0 : ¬cond0_0 i) (hc1 : ¬cond0_1 i)
    (x0 : Vec F S512x5120 .bf16) (xs0 : Vec F S16x5120 .bf16) : Vec F S1x2 .f32 :=
  VO0_1.read (Elt F) (VO0_1.writes (Elt F) VO0_1.junk (kernelRun0_B c i arg1 harg1 arg2 harg2 arg3 harg3 hc0 hc1 x0 xs0).1)

/-- Case B's pieces for scratch `arg3`, which the kernel carries between points, cover it: 1 piece of `S16x5120` tiling it (Lib/Ring.lean `Piece.tiledL`). -/
theorem scover0_B_0 (c : Dev nD) (i : grid0.Coords) (arg1 : Memref sig .tc .vmem S512x5120 .bf16) (harg1 : arg1.IsWhole) (arg2 : Memref sig .tc .smem S1x2 .f32) (harg2 : arg2.IsWhole) (arg3 : Memref sig .tc .vmem S16x5120 .bf16) (harg3 : arg3.IsWhole) (hc0 : ¬cond0_0 i) (hc1 : ¬cond0_1 i)
    (x0 : Vec F S512x5120 .bf16) (xs0 : Vec F S16x5120 .bf16) (y : S16x5120.Idx) :
    ∃ pc ∈ (kernelRun0_B c i arg1 harg1 arg2 harg2 arg3 harg3 hc0 hc1 x0 xs0).2.1, y ∈ pc.1.set :=
  View.cover_of_tiledL (kernelRun0_B c i arg1 harg1 arg2 harg2 arg3 harg3 hc0 hc1 x0 xs0).2.1 S16x5120.size (by sl_kernel_rfl) y

/-- What case B leaves in scratch `arg3`: its pieces read back over junk. -/
def sout0_B_0 (c : Dev nD) (i : grid0.Coords) (arg1 : Memref sig .tc .vmem S512x5120 .bf16) (harg1 : arg1.IsWhole) (arg2 : Memref sig .tc .smem S1x2 .f32) (harg2 : arg2.IsWhole) (arg3 : Memref sig .tc .vmem S16x5120 .bf16) (harg3 : arg3.IsWhole) (hc0 : ¬cond0_0 i) (hc1 : ¬cond0_1 i)
    (x0 : Vec F S512x5120 .bf16) (xs0 : Vec F S16x5120 .bf16) : Vec F S16x5120 .bf16 :=
  VS0_0.read (Elt F) (VS0_0.writes (Elt F) VS0_0.junk (kernelRun0_B c i arg1 harg1 arg2 harg2 arg3 harg3 hc0 hc1 x0 xs0).2.1)

/-- Case C's pieces for output 1 tile its block (2 stores of `S1x1`, checked by the kernel's evaluation: Lib/Ring.lean `Piece.tiledL`, linear in the pieces, through a loop's `@[irreducible]` trip theorem too), so they cover it. -/
theorem cover0_C_1 (c : Dev nD) (i : grid0.Coords) (arg1 : Memref sig .tc .vmem S512x5120 .bf16) (harg1 : arg1.IsWhole) (arg2 : Memref sig .tc .smem S1x2 .f32) (harg2 : arg2.IsWhole) (arg3 : Memref sig .tc .vmem S16x5120 .bf16) (harg3 : arg3.IsWhole) (hc0 : ¬cond0_0 i) (hc1 : cond0_1 i)
    (x0 : Vec F S512x5120 .bf16) (xs0 : Vec F S16x5120 .bf16) (y : S1x2.Idx) :
    ∃ pc ∈ (kernelRun0_C c i arg1 harg1 arg2 harg2 arg3 harg3 hc0 hc1 x0 xs0).1, y ∈ pc.1.set :=
  View.cover_of_tiledL (kernelRun0_C c i arg1 harg1 arg2 harg2 arg3 harg3 hc0 hc1 x0 xs0).1 S1x1.size (by sl_kernel_rfl) y

/-- What case C leaves in output 1's staging buffer: its pieces read back over junk. -/
def out0_C_1 (c : Dev nD) (i : grid0.Coords) (arg1 : Memref sig .tc .vmem S512x5120 .bf16) (harg1 : arg1.IsWhole) (arg2 : Memref sig .tc .smem S1x2 .f32) (harg2 : arg2.IsWhole) (arg3 : Memref sig .tc .vmem S16x5120 .bf16) (harg3 : arg3.IsWhole) (hc0 : ¬cond0_0 i) (hc1 : cond0_1 i)
    (x0 : Vec F S512x5120 .bf16) (xs0 : Vec F S16x5120 .bf16) : Vec F S1x2 .f32 :=
  VO0_1.read (Elt F) (VO0_1.writes (Elt F) VO0_1.junk (kernelRun0_C c i arg1 harg1 arg2 harg2 arg3 harg3 hc0 hc1 x0 xs0).1)

/-- Case C's pieces for scratch `arg3`, which the kernel carries between points, cover it: 1 piece of `S16x5120` tiling it (Lib/Ring.lean `Piece.tiledL`). -/
theorem scover0_C_0 (c : Dev nD) (i : grid0.Coords) (arg1 : Memref sig .tc .vmem S512x5120 .bf16) (harg1 : arg1.IsWhole) (arg2 : Memref sig .tc .smem S1x2 .f32) (harg2 : arg2.IsWhole) (arg3 : Memref sig .tc .vmem S16x5120 .bf16) (harg3 : arg3.IsWhole) (hc0 : ¬cond0_0 i) (hc1 : cond0_1 i)
    (x0 : Vec F S512x5120 .bf16) (xs0 : Vec F S16x5120 .bf16) (y : S16x5120.Idx) :
    ∃ pc ∈ (kernelRun0_C c i arg1 harg1 arg2 harg2 arg3 harg3 hc0 hc1 x0 xs0).2.1, y ∈ pc.1.set :=
  View.cover_of_tiledL (kernelRun0_C c i arg1 harg1 arg2 harg2 arg3 harg3 hc0 hc1 x0 xs0).2.1 S16x5120.size (by sl_kernel_rfl) y

/-- What case C leaves in scratch `arg3`: its pieces read back over junk. -/
def sout0_C_0 (c : Dev nD) (i : grid0.Coords) (arg1 : Memref sig .tc .vmem S512x5120 .bf16) (harg1 : arg1.IsWhole) (arg2 : Memref sig .tc .smem S1x2 .f32) (harg2 : arg2.IsWhole) (arg3 : Memref sig .tc .vmem S16x5120 .bf16) (harg3 : arg3.IsWhole) (hc0 : ¬cond0_0 i) (hc1 : cond0_1 i)
    (x0 : Vec F S512x5120 .bf16) (xs0 : Vec F S16x5120 .bf16) : Vec F S16x5120 .bf16 :=
  VS0_0.read (Elt F) (VS0_0.writes (Elt F) VS0_0.junk (kernelRun0_C c i arg1 harg1 arg2 harg2 arg3 harg3 hc0 hc1 x0 xs0).2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1x2 .f32 × Vec F S16x5120 .bf16
  | 0, hn => (out0_A_1 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk V c 0 ⟨0, hn⟩), sout0_A_0 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk V c 0 ⟨0, hn⟩))
  | n + 1, hn =>
    if h0 : (n + 1) % 64 = 0 then
      if h1 : (n + 1) % 64 = 63 then
        False.elim (by have hN : n + 1 < 64 := lt_of_lt_of_eq hn (show cfg0.N = 64 from N_0); omega)
      else
        (out0_A_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (iblk V c 0 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (iblk V c 0 ⟨n + 1, hn⟩))
    else
      if h1 : (n + 1) % 64 = 63 then
        (out0_C_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk V c 0 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk V c 0 ⟨n + 1, hn⟩) (outsAt0 c n (Nat.lt_of_succ_lt hn)).2)
      else
        (out0_B_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk V c 0 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk V c 0 ⟨n + 1, hn⟩) (outsAt0 c n (Nat.lt_of_succ_lt hn)).2)

/-- `outsAt0` at a point of case A: that case's contents. -/
theorem outsAt0_A (c : Dev nD) (t : Fin cfg0.N) (h0 : t.val % 64 = 0) (h1 : ¬t.val % 64 = 63) :
    outsAt0 V c t.val t.isLt = (out0_A_1 c (grid0.coords t) (ms0_0 t) (hs0_0 t) (ms0_1 t) (hs0_1 t) scM0_0 (Memref.isWhole_whole _) ((hcond0_0 t).mpr h0) (fun h => h1 ((hcond0_1 t).mp h)) (iblk V c 0 t), sout0_A_0 c (grid0.coords t) (ms0_0 t) (hs0_0 t) (ms0_1 t) (hs0_1 t) scM0_0 (Memref.isWhole_whole _) ((hcond0_0 t).mpr h0) (fun h => h1 ((hcond0_1 t).mp h)) (iblk V c 0 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 64 = 0) (h1 : ¬t.val % 64 = 63) :
    outsAt0 V c t.val t.isLt = (out0_B_1 c (grid0.coords t) (ms0_0 t) (hs0_0 t) (ms0_1 t) (hs0_1 t) scM0_0 (Memref.isWhole_whole _) (fun h => h0 ((hcond0_0 t).mp h)) (fun h => h1 ((hcond0_1 t).mp h)) (iblk V c 0 t) (outsAt0 V c (t.val - 1) (Nat.lt_of_le_of_lt (Nat.sub_le _ _) t.isLt)).2, sout0_B_0 c (grid0.coords t) (ms0_0 t) (hs0_0 t) (ms0_1 t) (hs0_1 t) scM0_0 (Memref.isWhole_whole _) (fun h => h0 ((hcond0_0 t).mp h)) (fun h => h1 ((hcond0_1 t).mp h)) (iblk V c 0 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 64 = 0) (h1 : t.val % 64 = 63) :
    outsAt0 V c t.val t.isLt = (out0_C_1 c (grid0.coords t) (ms0_0 t) (hs0_0 t) (ms0_1 t) (hs0_1 t) scM0_0 (Memref.isWhole_whole _) (fun h => h0 ((hcond0_0 t).mp h)) ((hcond0_1 t).mpr h1) (iblk V c 0 t) (outsAt0 V c (t.val - 1) (Nat.lt_of_le_of_lt (Nat.sub_le _ _) t.isLt)).2, sout0_C_0 c (grid0.coords t) (ms0_0 t) (hs0_0 t) (ms0_1 t) (hs0_1 t) scM0_0 (Memref.isWhole_whole _) (fun h => h0 ((hcond0_0 t).mp h)) ((hcond0_1 t).mpr h1) (iblk V c 0 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(owns (c : Thread nD τ) scM0_0 fullShare ((outsAt0 V c n hn).2) ∗ others c)

theorem PhiS_zero (c : Dev nD) (n : ℕ) (h : n ≤ cfg0.N) (hz : n = 0) : PhiS V c n h = Pipeline.ΦA spec0 c := by
  subst hz; rfl

/-- After point `n` (before point `n + 1`): the carried scratch at that point's contents. -/
theorem PhiS_succ (c : Dev nD) (n : ℕ) (hn : n < cfg0.N) :
    PhiS V c (n + 1) hn = iprop(owns (c : Thread nD τ) scM0_0 fullShare ((outsAt0 V c n hn).2) ∗ others c) := rfl

/-- Before a point that is not the first: the carried scratch at what the point before left. -/
theorem PhiS_pos (c : Dev nD) (n : ℕ) (h : n ≤ cfg0.N) (hz : n ≠ 0) :
    PhiS V c n h = iprop(owns (c : Thread nD τ) scM0_0 fullShare ((outsAt0 V c (n - 1) (by omega)).2) ∗ others c) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => (outsAt0 V c t.val t.isLt).1
  Φ t := PhiS V c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dat V c).A w = V c (Pipeline.arrRef spec0 w) := by
  dsimp only [dat]

/-- The invariant at a point's start (the proof data at `t.castSucc`), restated at `t.val`. -/
theorem PhiS_castSucc (c : Dev nD) (t : Fin cfg0.N) :
    (dat V c).Φ t.castSucc = PhiS V c t.val (Nat.le_of_lt t.isLt) := by
  dsimp only [dat]; exact Pipeline.Dat.Φ_castSucc (PhiS V c) t

/-- What the body leaves, window by window (the proof data's `match` reduced by `dsimp`). -/
theorem after0_0 (c : Dev nD) (t : Fin cfg0.N) : (dat V c).after 0 t = iblk V c 0 t := by dsimp only [dat]
theorem after0_1 (c : Dev nD) (t : Fin cfg0.N) : (dat V c).after 1 t = (outsAt0 V c t.val t.isLt).1 := by dsimp only [dat]

/-- Each input's current staging buffer holds its block at every point, fetched there or not (`beforeK_W_of`). -/
theorem before0_0 (c : Dev nD) (t : Fin cfg0.N) (d) : (dat V c).before 0 t d = iblk V c 0 t :=
  before0_0_of V (dat V c) (A_eq V c 0) (after0_0 V c) t d

/-! ## The body obligation, at a generic point -/

/-- What the body is called with at point `t` (Lib/Pipeline.lean `BodyObligation`'s precondition, the windows one by one), -/
def bodyPre (c : Dev nD) (t : Fin cfg0.N) : sProp 𝕄 :=
  iprop((dat V c).Φ t.castSucc ∗ (dat V c).owesAt () t.castSucc
    ∗ (∃ d, owns (c : Thread nD τ) (ms0_0 t) fullShare ((dat V c).before 0 t d))
    ∗ (∃ d, owns (c : Thread nD τ) (ms0_1 t) fullShare ((dat V c).before 1 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t)

set_option maxHeartbeats 4800000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0]
  rw [show (dat V c).owesAt () t.succ = (dat V c).owesAt () t.castSucc from rfl]
  rw [show (dat V c).Φ t.succ = PhiS V c (t.val + 1) t.isLt from rfl, PhiS_succ]
  have hN : t.val < 64 := lt_of_lt_of_eq t.isLt (show cfg0.N = 64 from N_0)
  by_cases h0 : t.val % 64 = 0
  · by_cases h1 : t.val % 64 = 63
    · exfalso; omega
    · rw [show (dat V c).leavesExact 0 t = owns (c : Thread nD τ) (ms0_0 t) fullShare ((dat V c).after 0 t) from by
      unfold Dat.leavesExact; rw [liveAt0_0 t], after0_0]
      rw [Dat.leavesExact_idle (dat V c) 1 t (idleAt0_1_A t ((hcond0_0 t).mpr h0) (fun h => h1 ((hcond0_1 t).mp h))) (noFlush0_1_A t ((hcond0_0 t).mpr h0) (fun h => h1 ((hcond0_1 t).mp h)))]
      by_cases hz : t.val = 0
      · rw [PhiS_castSucc V c t, PhiS_zero V c _ _ hz, PhiA0_eq]
        rw [outsAt0_A V c t h0 h1]
        unfold sout0_A_0; (try dsimp only)
        iintro ⟨⟨HS0, Hg⟩, Ho, ⟨%d0, H0⟩, ⟨%d1, H1⟩⟩
        iapply ((kernelRun0_A c (grid0.coords t) _ _ _ _ _ _ ((hcond0_0 t).mpr h0) (fun h => h1 ((hcond0_1 t).mp h)) (iblk V c 0 t)).2.2 _ Set.univ _)
        isplitl [H0]; · iexact H0
        isplitl [H1]; · iexact H1
        isplitl [HS0]; · iexact HS0
        iintro ⟨H0, H1, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _)
          iexact Hg
        isplitl [Ho]; · iexact Ho
        isplitl [H0]; · iexact H0
        iexists _; iexact H1
      · exfalso; have hN : t.val < 64 := lt_of_lt_of_eq t.isLt (show cfg0.N = 64 from N_0); omega
  · by_cases h1 : t.val % 64 = 63
    · rw [show (dat V c).leavesExact 0 t = owns (c : Thread nD τ) (ms0_0 t) fullShare ((dat V c).after 0 t) from by
      unfold Dat.leavesExact; rw [liveAt0_0 t], after0_0]
      rw [show (dat V c).leavesExact 1 t = owns (c : Thread nD τ) (ms0_1 t) fullShare ((dat V c).after 1 t) from by
      unfold Dat.leavesExact; rw [liveAt0_1_C t (fun h => h0 ((hcond0_0 t).mp h)) ((hcond0_1 t).mpr h1)], after0_1]
      by_cases hz : t.val = 0
      · exfalso; have hN : t.val < 64 := lt_of_lt_of_eq t.isLt (show cfg0.N = 64 from N_0); omega
      · rw [PhiS_castSucc V c t, PhiS_pos V c _ _ hz]
        rw [outsAt0_C V c t h0 h1]
        unfold out0_C_1 sout0_C_0; (try dsimp only)
        iintro ⟨⟨HS0, Hg⟩, Ho, ⟨%d0, H0⟩, ⟨%d1, H1⟩⟩
        iapply ((kernelRun0_C c (grid0.coords t) _ _ _ _ _ _ (fun h => h0 ((hcond0_0 t).mp h)) ((hcond0_1 t).mpr h1) (iblk V c 0 t) _).2.2 Set.univ _)
        isplitl [H0]; · iexact H0
        isplitl [H1]; · iexists _; iexact H1
        isplitl [HS0]; · iexact HS0
        iintro ⟨H0, ⟨%e1, H1⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _)
          iexact Hg
        isplitl [Ho]; · iexact Ho
        isplitl [H0]; · iexact H0
        unfold owns; iexists _; isplitr
        swap; · iexact H1
        ipureintro; exact View.read_writes_of_cover _ _ _ _ _ (cover0_C_1 c _ _ _ _ _ _ _ _ _ _ _)
    · rw [show (dat V c).leavesExact 0 t = owns (c : Thread nD τ) (ms0_0 t) fullShare ((dat V c).after 0 t) from by
      unfold Dat.leavesExact; rw [liveAt0_0 t], after0_0]
      rw [Dat.leavesExact_idle (dat V c) 1 t (idleAt0_1_B t (fun h => h0 ((hcond0_0 t).mp h)) (fun h => h1 ((hcond0_1 t).mp h))) (noFlush0_1_B t (fun h => h0 ((hcond0_0 t).mp h)) (fun h => h1 ((hcond0_1 t).mp h)))]
      by_cases hz : t.val = 0
      · exfalso; have hN : t.val < 64 := lt_of_lt_of_eq t.isLt (show cfg0.N = 64 from N_0); omega
      · rw [PhiS_castSucc V c t, PhiS_pos V c _ _ hz]
        rw [outsAt0_B V c t h0 h1]
        unfold sout0_B_0; (try dsimp only)
        iintro ⟨⟨HS0, Hg⟩, Ho, ⟨%d0, H0⟩, ⟨%d1, H1⟩⟩
        iapply ((kernelRun0_B c (grid0.coords t) _ _ _ _ _ _ (fun h => h0 ((hcond0_0 t).mp h)) (fun h => h1 ((hcond0_1 t).mp h)) (iblk V c 0 t) _).2.2 _ Set.univ _)
        isplitl [H0]; · iexact H0
        isplitl [H1]; · iexact H1
        isplitl [HS0]; · iexact HS0
        iintro ⟨H0, H1, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _)
          iexact Hg
        isplitl [Ho]; · iexact Ho
        isplitl [H0]; · iexact H0
        iexists _; iexact H1

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dat (F := F) V c) (defs₀ (F := F)) Variants.none () Set.univ := fun t => by
  rw [bigSep_W0, bigSep_W0, defs₀_row]
  exact triple_restated (sound_body V c t) rfl .rfl fun _ => .rfl

/-- What the launch hands the region (`ΦA`) is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dat V c).Φ t ⊢ Pipeline.ΦA spec0 c := by
  rw [show (dat V c).Φ t = PhiS V c t.val (Nat.le_of_lt_succ t.isLt) from rfl, PhiS_pos V c _ _ ht, PhiA0_eq]
  iintro ⟨HS0, Hg⟩
  isplitl [HS0]
  · iexists _; iexact HS0
  iexact Hg

/-- The same after the last point. -/
theorem hout (c : Dev nD) : (dat V c).Φ (Fin.last cfg0.N) ⊢ Pipeline.ΦA spec0 c :=
  Phi_out V c _ (by rw [Fin.val_last]; have : cfg0.N = 64 := N_0; omega)

end Cert.Kernel.R0

end
-- ==== Proof.KR1Run.lean ====
/- Region 1 of `Kernel` (the quantiser): its branch conditions, its blocks and the runs of its body. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The kernel body on any staging memrefs: a subtype the run finds -/

/-- One staging buffer of output window 2, through which its contents are stated (`View.read_writes_of_cover`: the
    choice does not matter). -/
abbrev VO0_2 : View sig .tc .vmem S512x5120 .fp8e5m2 := (Memref.whole cc1_stg2_0 : Memref sig .tc .vmem S512x5120 .fp8e5m2).view
/-- Each window's current staging memref at point `t`, spelled as the pipeline passes it (`bodyAt1`), and its wholeness. -/
abbrev ms0_0 (t : Fin cfg1.N) : Memref sig .tc .smem S1x2 .f32 := win1_0.stage (cfg1.slots t 0)
abbrev hs0_0 (t : Fin cfg1.N) : (ms0_0 t).IsWhole := hstage1_0 ((cfg1.slots t 0).cast nbuf1_0)
abbrev ms0_1 (t : Fin cfg1.N) : Memref sig .tc .vmem S512x5120 .bf16 := win1_1.stage (cfg1.slots t 1)
abbrev hs0_1 (t : Fin cfg1.N) : (ms0_1 t).IsWhole := hstage1_1 ((cfg1.slots t 1).cast nbuf1_1)
abbrev ms0_2 (t : Fin cfg1.N) : Memref sig .tc .vmem S512x5120 .fp8e5m2 := win1_2.stage (cfg1.slots t 2)
abbrev hs0_2 (t : Fin cfg1.N) : (ms0_2 t).IsWhole := hstage1_2 ((cfg1.slots t 2).cast nbuf1_2)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid1.Coords) (arg1 : Memref sig .tc .smem S1x2 .f32) (harg1 : arg1.IsWhole) (arg2 : Memref sig .tc .vmem S512x5120 .bf16) (harg2 : arg2.IsWhole) (arg3 : Memref sig .tc .vmem S512x5120 .fp8e5m2) (harg3 : arg3.IsWhole)
    (x0 : Vec F S1x2 .f32) (x1 : Vec F S512x5120 .bf16) :
    { L2 : List (View.Piece (Elt F) S512x5120 .fp8e5m2) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2)) -∗ K ⟨⟩))
          ⊢ wp frame (wpE (defs₀ (F := F)) Variants.none c none) E (cc1_quantise i arg1 harg1 arg2 harg2 arg3 harg3) K } := by
  refine ⟨?_, fun E K => ?run⟩
  case run =>
    simp only [cc1_quantise_eq_skeleton]; unfold cc1_quantise_skel
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    iexists _; iexact H2

end Cert.Kernel.R1

end
-- ==== Proof.KR1.lean ====
/- Region 1 of `Kernel` (the quantiser): what each point leaves, the proof data and the body obligation. -/
module

public import proofs.«01_k».proof.Proof.KR1Run
public import Idealize.ShloMosaic.Lib.Claim

@[expose] public section

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The run's pieces for output 2 tile its block (1 store of `S512x5120`, checked by the kernel's evaluation: Lib/Ring.lean `Piece.tiledL`, linear in the pieces, through a loop's `@[irreducible]` trip theorem too), so they cover it. -/
theorem cover0_A_2 (c : Dev nD) (i : grid1.Coords) (arg1 : Memref sig .tc .smem S1x2 .f32) (harg1 : arg1.IsWhole) (arg2 : Memref sig .tc .vmem S512x5120 .bf16) (harg2 : arg2.IsWhole) (arg3 : Memref sig .tc .vmem S512x5120 .fp8e5m2) (harg3 : arg3.IsWhole)
    (x0 : Vec F S1x2 .f32) (x1 : Vec F S512x5120 .bf16) (y : S512x5120.Idx) :
    ∃ pc ∈ (kernelRun0_A c i arg1 harg1 arg2 harg2 arg3 harg3 x0 x1).1, y ∈ pc.1.set :=
  View.cover_of_tiledL (kernelRun0_A c i arg1 harg1 arg2 harg2 arg3 harg3 x0 x1).1 S512x5120.size (by sl_kernel_rfl) y

/-- What the run leaves in output 2's staging buffer: its pieces read back over junk. -/
def out0_A_2 (c : Dev nD) (i : grid1.Coords) (arg1 : Memref sig .tc .smem S1x2 .f32) (harg1 : arg1.IsWhole) (arg2 : Memref sig .tc .vmem S512x5120 .bf16) (harg2 : arg2.IsWhole) (arg3 : Memref sig .tc .vmem S512x5120 .fp8e5m2) (harg3 : arg3.IsWhole)
    (x0 : Vec F S1x2 .f32) (x1 : Vec F S512x5120 .bf16) : Vec F S512x5120 .fp8e5m2 :=
  VO0_2.read (Elt F) (VO0_2.writes (Elt F) VO0_2.junk (kernelRun0_A c i arg1 harg1 arg2 harg2 arg3 harg3 x0 x1).1)

/-! ## What the outputs hold after each point -/

/-- What the outputs' staging buffers hold after the body at point `t`: the run's contents at
    the point's memrefs and input blocks. -/
def outsAt0 (c : Dev nD) (t : Fin cfg1.N) : Vec F S512x5120 .fp8e5m2 :=
  out0_A_2 c (grid1.coords t) (ms0_0 t) (hs0_0 t) (ms0_1 t) (hs0_1 t) (ms0_2 t) (hs0_2 t) (iblk V c 0 t) (iblk V c 1 t)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => (outsAt0 V c t)
  Φ _ := Pipeline.ΦA spec1 c
  q _ := fullShare
  owed _ := 0

/-- The proof data's arrays are the region-entry contents: the proof data's definition projected (`dsimp`), so that
    `V` — a fold over @main's host prefix, long for some programs — is never unfolded to check it. -/
theorem A_eq (c : Dev nD) (w : Fin cfg1.W) : (dat V c).A w = V c (Pipeline.arrRef spec1 w) := by
  dsimp only [dat]

/-- What the body leaves, window by window (the proof data's `match` reduced by `dsimp`). -/
theorem after0_0 (c : Dev nD) (t : Fin cfg1.N) : (dat V c).after 0 t = iblk V c 0 t := by dsimp only [dat]
theorem after0_1 (c : Dev nD) (t : Fin cfg1.N) : (dat V c).after 1 t = iblk V c 1 t := by dsimp only [dat]
theorem after0_2 (c : Dev nD) (t : Fin cfg1.N) : (dat V c).after 2 t = (outsAt0 V c t) := by dsimp only [dat]

/-- Each input's current staging buffer holds its block at every point, fetched there or not (`beforeK_W_of`). -/
theorem before0_0 (c : Dev nD) (t : Fin cfg1.N) (d) : (dat V c).before 0 t d = iblk V c 0 t :=
  before0_0_of V (dat V c) (A_eq V c 0) (after0_0 V c) t d
theorem before0_1 (c : Dev nD) (t : Fin cfg1.N) (d) : (dat V c).before 1 t d = iblk V c 1 t :=
  before0_1_of V (dat V c) (A_eq V c 1) (after0_1 V c) t d

/-! ## The body obligation, at a generic point -/

/-- What the body is called with at point `t` (Lib/Pipeline.lean `BodyObligation`'s precondition, the windows one by one), -/
def bodyPre (c : Dev nD) (t : Fin cfg1.N) : sProp 𝕄 :=
  iprop((dat V c).Φ t.castSucc ∗ (dat V c).owesAt () t.castSucc
    ∗ (∃ d, owns (c : Thread nD τ) (ms0_0 t) fullShare ((dat V c).before 0 t d))
    ∗ (∃ d, owns (c : Thread nD τ) (ms0_1 t) fullShare ((dat V c).before 1 t d))
    ∗ (∃ d, owns (c : Thread nD τ) (ms0_2 t) fullShare ((dat V c).before 2 t d)))

/-- and what it returns. -/
def bodyPost (c : Dev nD) (t : Fin cfg1.N) : sProp 𝕄 :=
  iprop((dat V c).Φ t.succ ∗ (dat V c).owesAt () t.succ
    ∗ owns (c : Thread nD τ) (ms0_0 t) fullShare ((dat V c).after 0 t)
    ∗ owns (c : Thread nD τ) (ms0_1 t) fullShare ((dat V c).after 1 t)
    ∗ owns (c : Thread nD τ) (ms0_2 t) fullShare ((dat V c).after 2 t))

/-- The body at any point: the inputs' memrefs hold their blocks (`before0_W`); so the
    run applies; the invariant passes through unread; the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0_0, before0_1]
  rw [show (dat V c).Φ t.succ = (dat V c).Φ t.castSucc from rfl,
    show (dat V c).owesAt () t.succ = (dat V c).owesAt () t.castSucc from rfl,
    after0_0, after0_1, after0_2]
  unfold outsAt0
  unfold out0_A_2
  iintro ⟨HΦ, Ho, ⟨%d0, H0⟩, ⟨%d1, H1⟩, ⟨%d2, H2⟩⟩
  iapply ((kernelRun0_A c (grid1.coords t) _ _ _ _ _ _ (iblk V c 0 t) (iblk V c 1 t)).2 Set.univ _)
  isplitl [H0]; · iexact H0
  isplitl [H1]; · iexact H1
  isplitl [H2]; · iexists _; iexact H2
  iintro ⟨H0, H1, ⟨%e2, H2⟩⟩
  isplitl [HΦ]; · iexact HΦ
  isplitl [Ho]; · iexact Ho
  isplitl [H0]; · iexact H0
  isplitl [H1]; · iexact H1
  unfold owns; iexists _; isplitr
  swap; · iexact H2
  ipureintro; exact View.read_writes_of_cover _ _ _ _ _ (cover0_A_2 c _ _ _ _ _ _ _ _ _)

/-- The body table's row at point `t`'s slots is the body as `bodyAt1` spells it. -/
theorem defs₀_row (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation (c : Dev nD) : BodyObligation (dat (F := F) V c) (defs₀ (F := F)) Variants.none () Set.univ := fun t => by
  rw [bigSep_W1, bigSep_W1, defs₀_row]
  exact triple_restated (sound_body V c t) rfl .rfl fun _ => .rfl

end Cert.Kernel.R1

end
-- ==== Proof.KR2Run.lean ====
/- Region 2 of `Kernel` (the product): its branch conditions, its blocks and the runs of its body. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.R2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg2 c) (hA : dat.A 4 = V c (Pipeline.arrRef spec2 4))
    (hafter : ∀ t, dat.after 4 t = iblk V c 4 t) (t : Fin cfg2.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k2_h1`), from the grid coordinates (the skeleton's scalar
    chain substituted). -/
abbrev cond0_0 (i : grid2.Coords) : Prop := (Scalar.cmpi .ne (Scalar.extui (Scalar.cmpi .eq (BitVec.ofNat 32 (i 2).val) 0#32)) 0#32) = 1#1
/-- It holds at the points ≡ 0 (mod 32) — by arithmetic of the point. -/
theorem hcond0_0 : ∀ t : Fin cfg2.N, cond0_0 (grid2.coords t) ↔ t.val % 32 = 0 :=
  (fun t => by
    have ht : t.val < 384 := Nat.lt_of_lt_of_eq t.isLt N_2
    have e0 : (grid2.coords t 0).val = t.val / 128 % 3 := Pipeline.Grid.coords_val t 0 (by decide) rfl
    have e1 : (grid2.coords t 1).val = t.val / 32 % 4 := Pipeline.Grid.coords_val t 1 (by decide) rfl
    have e2 : (grid2.coords t 2).val = t.val / 1 % 32 := Pipeline.Grid.coords_val t 2 (by decide) rfl
    simp only [cond0_0, e0, e1, e2]
    word_cmp
   : ∀ t : Fin grid2.N, cond0_0 (grid2.coords t) ↔ t.val % 32 = 0)

/-- The condition of the body's `scf.if` 1 (`k2_h2`), from the grid coordinates (the skeleton's scalar
    chain substituted). -/
abbrev cond0_1 (i : grid2.Coords) : Prop := (Scalar.cmpi .ne (Scalar.extui (Scalar.cmpi .eq (BitVec.ofNat 32 (i 2).val) 31#32)) 0#32) = 1#1
/-- It holds at the points ≡ 31 (mod 32) — by arithmetic of the point. -/
theorem hcond0_1 : ∀ t : Fin cfg2.N, cond0_1 (grid2.coords t) ↔ t.val % 32 = 31 :=
  (fun t => by
    have ht : t.val < 384 := Nat.lt_of_lt_of_eq t.isLt N_2
    have e0 : (grid2.coords t 0).val = t.val / 128 % 3 := Pipeline.Grid.coords_val t 0 (by decide) rfl
    have e1 : (grid2.coords t 1).val = t.val / 32 % 4 := Pipeline.Grid.coords_val t 1 (by decide) rfl
    have e2 : (grid2.coords t 2).val = t.val / 1 % 32 := Pipeline.Grid.coords_val t 2 (by decide) rfl
    simp only [cond0_1, e0, e1, e2]
    word_cmp
   : ∀ t : Fin grid2.N, cond0_1 (grid2.coords t) ↔ t.val % 32 = 31)

/-! ## The kernel body on any staging memrefs: a subtype the run finds -/

/-- One staging buffer of output window 5, through which its contents are stated (`View.read_writes_of_cover`: the
    choice does not matter). -/
abbrev VO0_5 : View sig .tc .vmem S2304x1280 .f32 := (Memref.whole cc2_stg5_0 : Memref sig .tc .vmem S2304x1280 .f32).view
/-- Each window's current staging memref at point `t`, spelled as the pipeline passes it (`bodyAt2`), and its wholeness. -/
abbrev ms0_0 (t : Fin cfg2.N) : Memref sig .tc .smem S1x2 .f32 := win2_0.stage (cfg2.slots t 0)
abbrev hs0_0 (t : Fin cfg2.N) : (ms0_0 t).IsWhole := hstage2_0 ((cfg2.slots t 0).cast nbuf2_0)
abbrev ms0_1 (t : Fin cfg2.N) : Memref sig .tc .smem S1x1 .f32 := win2_1.stage (cfg2.slots t 1)
abbrev hs0_1 (t : Fin cfg2.N) : (ms0_1 t).IsWhole := hstage2_1 ((cfg2.slots t 1).cast nbuf2_1)
abbrev ms0_2 (t : Fin cfg2.N) : Memref sig .tc .vmem S1024x2304 .fp8e4m3 := win2_2.stage (cfg2.slots t 2)
abbrev hs0_2 (t : Fin cfg2.N) : (ms0_2 t).IsWhole := hstage2_2 ((cfg2.slots t 2).cast nbuf2_2)
abbrev ms0_3 (t : Fin cfg2.N) : Memref sig .tc .vmem S1024x1280 .fp8e5m2 := win2_3.stage (cfg2.slots t 3)
abbrev hs0_3 (t : Fin cfg2.N) : (ms0_3 t).IsWhole := hstage2_3 ((cfg2.slots t 3).cast nbuf2_3)
abbrev ms0_4 (t : Fin cfg2.N) : Memref sig .tc .vmem S2304x1280 .f32 := win2_4.stage (cfg2.slots t 4)
abbrev hs0_4 (t : Fin cfg2.N) : (ms0_4 t).IsWhole := hstage2_4 ((cfg2.slots t 4).cast nbuf2_4)
abbrev ms0_5 (t : Fin cfg2.N) : Memref sig .tc .vmem S2304x1280 .f32 := win2_5.stage (cfg2.slots t 5)
abbrev hs0_5 (t : Fin cfg2.N) : (ms0_5 t).IsWhole := hstage2_5 ((cfg2.slots t 5).cast nbuf2_5)

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0, 32, … 352: 12 of 384), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid2.Coords) (arg3 : Memref sig .tc .smem S1x2 .f32) (harg3 : arg3.IsWhole) (arg4 : Memref sig .tc .smem S1x1 .f32) (harg4 : arg4.IsWhole) (arg5 : Memref sig .tc .vmem S1024x2304 .fp8e4m3) (harg5 : arg5.IsWhole) (arg6 : Memref sig .tc .vmem S1024x1280 .fp8e5m2) (harg6 : arg6.IsWhole) (arg7 : Memref sig .tc .vmem S2304x1280 .f32) (harg7 : arg7.IsWhole) (arg8 : Memref sig .tc .vmem S2304x1280 .f32) (harg8 : arg8.IsWhole) (hc0 : cond0_0 i) (hc1 : ¬cond0_1 i)
    (x0 : Vec F S1x2 .f32) (x1 : Vec F S1x1 .f32) (x2 : Vec F S1024x2304 .fp8e4m3) (x3 : Vec F S1024x1280 .fp8e5m2) (x4 : Vec F S2304x1280 .f32) :
    { L5 : List (View.Piece (Elt F) S2304x1280 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5)) -∗ K ⟨⟩))
          ⊢ wp frame (wpE (defs₀ (F := F)) Variants.none c none) E (cc2_wgrad i arg3 harg3 arg4 harg4 arg5 harg5 arg6 harg6 arg7 harg7 arg8 harg8) K } := by
  refine ⟨?_, fun E K => ?run⟩
  case run =>
    simp only [cc2_wgrad_eq_skeleton]; unfold cc2_wgrad_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg3.eq_unread hf0; obtain rfl := harg4.eq_unread hf1; obtain rfl := harg5.eq_unread hf2; obtain rfl := harg6.eq_unread hf3; obtain rfl := harg7.eq_unread hf4
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact H5

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 382: 360 of 384), WITH the
    proof that on whole staging memrefs — the inputs' at their contents, the outputs it reads before covering (5) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid2.Coords) (arg3 : Memref sig .tc .smem S1x2 .f32) (harg3 : arg3.IsWhole) (arg4 : Memref sig .tc .smem S1x1 .f32) (harg4 : arg4.IsWhole) (arg5 : Memref sig .tc .vmem S1024x2304 .fp8e4m3) (harg5 : arg5.IsWhole) (arg6 : Memref sig .tc .vmem S1024x1280 .fp8e5m2) (harg6 : arg6.IsWhole) (arg7 : Memref sig .tc .vmem S2304x1280 .f32) (harg7 : arg7.IsWhole) (arg8 : Memref sig .tc .vmem S2304x1280 .f32) (harg8 : arg8.IsWhole) (hc0 : ¬cond0_0 i) (hc1 : ¬cond0_1 i)
    (x0 : Vec F S1x2 .f32) (x1 : Vec F S1x1 .f32) (x2 : Vec F S1024x2304 .fp8e4m3) (x3 : Vec F S1024x1280 .fp8e5m2) (x4 : Vec F S2304x1280 .f32) (xo5 : Vec F S2304x1280 .f32) :
    { L5 : List (View.Piece (Elt F) S2304x1280 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xo5
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5)) -∗ K ⟨⟩))
          ⊢ wp frame (wpE (defs₀ (F := F)) Variants.none c none) E (cc2_wgrad i arg3 harg3 arg4 harg4 arg5 harg5 arg6 harg6 arg7 harg7 arg8 harg8) K } := by
  refine ⟨?_, fun E K => ?run⟩
  case run =>
    simp only [cc2_wgrad_eq_skeleton]; unfold cc2_wgrad_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact H5

-- (the run's proof term is large: the definition's epilogue — `abstractNestedProofs` — walks it past the default budget)
set_option maxHeartbeats 1000000 in
/-- What the body's stores leave in each output's staging memref, as pieces (last first) IN CASE C (`scf.if` 0 not taken, `scf.if` 1 taken: points 31, 63, … 383: 12 of 384), WITH the
    proof that on whole staging memrefs — the inputs' at their contents, the outputs it reads before covering (5) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid2.Coords) (arg3 : Memref sig .tc .smem S1x2 .f32) (harg3 : arg3.IsWhole) (arg4 : Memref sig .tc .smem S1x1 .f32) (harg4 : arg4.IsWhole) (arg5 : Memref sig .tc .vmem S1024x2304 .fp8e4m3) (harg5 : arg5.IsWhole) (arg6 : Memref sig .tc .vmem S1024x1280 .fp8e5m2) (harg6 : arg6.IsWhole) (arg7 : Memref sig .tc .vmem S2304x1280 .f32) (harg7 : arg7.IsWhole) (arg8 : Memref sig .tc .vmem S2304x1280 .f32) (harg8 : arg8.IsWhole) (hc0 : ¬cond0_0 i) (hc1 : cond0_1 i)
    (x0 : Vec F S1x2 .f32) (x1 : Vec F S1x1 .f32) (x2 : Vec F S1024x2304 .fp8e4m3) (x3 : Vec F S1024x1280 .fp8e5m2) (x4 : Vec F S2304x1280 .f32) (xo5 : Vec F S2304x1280 .f32) :
    { L5 : List (View.Piece (Elt F) S2304x1280 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xo5
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5)) -∗ K ⟨⟩))
          ⊢ wp frame (wpE (defs₀ (F := F)) Variants.none c none) E (cc2_wgrad i arg3 harg3 arg4 harg4 arg5 harg5 arg6 harg6 arg7 harg7 arg8 harg8) K } := by
  refine ⟨?_, fun E K => ?run⟩
  case run =>
    simp only [cc2_wgrad_eq_skeleton]; unfold cc2_wgrad_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact H5

end Cert.Kernel.R2

end
-- ==== Proof.KR2.lean ====
/- Region 2 of `Kernel` (the product): what each point leaves, the proof data and the body obligation. -/
module

public import proofs.«01_k».proof.Proof.KR2Run
public import Idealize.ShloMosaic.Lib.Claim

@[expose] public section

set_option maxRecDepth 16384

noncomputable section

namespace Cert.Kernel.R2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Case A's pieces for output 5 tile its block (2 stores of `S2304x1280`, checked by the kernel's evaluation: Lib/Ring.lean `Piece.tiledL`, linear in the pieces, through a loop's `@[irreducible]` trip theorem too), so they cover it. -/
theorem cover0_A_5 (c : Dev nD) (i : grid2.Coords) (arg3 : Memref sig .tc .smem S1x2 .f32) (harg3 : arg3.IsWhole) (arg4 : Memref sig .tc .smem S1x1 .f32) (harg4 : arg4.IsWhole) (arg5 : Memref sig .tc .vmem S1024x2304 .fp8e4m3) (harg5 : arg5.IsWhole) (arg6 : Memref sig .tc .vmem S1024x1280 .fp8e5m2) (harg6 : arg6.IsWhole) (arg7 : Memref sig .tc .vmem S2304x1280 .f32) (harg7 : arg7.IsWhole) (arg8 : Memref sig .tc .vmem S2304x1280 .f32) (harg8 : arg8.IsWhole) (hc0 : cond0_0 i) (hc1 : ¬cond0_1 i)
    (x0 : Vec F S1x2 .f32) (x1 : Vec F S1x1 .f32) (x2 : Vec F S1024x2304 .fp8e4m3) (x3 : Vec F S1024x1280 .fp8e5m2) (x4 : Vec F S2304x1280 .f32) (y : S2304x1280.Idx) :
    ∃ pc ∈ (kernelRun0_A c i arg3 harg3 arg4 harg4 arg5 harg5 arg6 harg6 arg7 harg7 arg8 harg8 hc0 hc1 x0 x1 x2 x3 x4).1, y ∈ pc.1.set :=
  View.cover_of_tiledL (kernelRun0_A c i arg3 harg3 arg4 harg4 arg5 harg5 arg6 harg6 arg7 harg7 arg8 harg8 hc0 hc1 x0 x1 x2 x3 x4).1 S2304x1280.size (by sl_kernel_rfl) y

/-- What case A leaves in output 5's staging buffer: its pieces read back over junk. -/
def out0_A_5 (c : Dev nD) (i : grid2.Coords) (arg3 : Memref sig .tc .smem S1x2 .f32) (harg3 : arg3.IsWhole) (arg4 : Memref sig .tc .smem S1x1 .f32) (harg4 : arg4.IsWhole) (arg5 : Memref sig .tc .vmem S1024x2304 .fp8e4m3) (harg5 : arg5.IsWhole) (arg6 : Memref sig .tc .vmem S1024x1280 .fp8e5m2) (harg6 : arg6.IsWhole) (arg7 : Memref sig .tc .vmem S2304x1280 .f32) (harg7 : arg7.IsWhole) (arg8 : Memref sig .tc .vmem S2304x1280 .f32) (harg8 : arg8.IsWhole) (hc0 : cond0_0 i) (hc1 : ¬cond0_1 i)
    (x0 : Vec F S1x2 .f32) (x1 : Vec F S1x1 .f32) (x2 : Vec F S1024x2304 .fp8e4m3) (x3 : Vec F S1024x1280 .fp8e5m2) (x4 : Vec F S2304x1280 .f32) : Vec F S2304x1280 .f32 :=
  VO0_5.read (Elt F) (VO0_5.writes (Elt F) VO0_5.junk (kernelRun0_A c i arg3 harg3 arg4 harg4 arg5 harg5 arg6 harg6 arg7 harg7 arg8 harg8 hc0 hc1 x0 x1 x2 x3 x4).1)

/-- Case B's pieces for output 5 tile its block (1 store of `S2304x1280`, checked by the kernel's evaluation: Lib/Ring.lean `Piece.tiledL`, linear in the pieces, through a loop's `@[irreducible]` trip theorem too), so they cover it. -/
theorem cover0_B_5 (c : Dev nD) (i : grid2.Coords) (arg3 : Memref sig .tc .smem S1x2 .f32) (harg3 : arg3.IsWhole) (arg4 : Memref sig .tc .smem S1x1 .f32) (harg4 : arg4.IsWhole) (arg5 : Memref sig .tc .vmem S1024x2304 .fp8e4m3) (harg5 : arg5.IsWhole) (arg6 : Memref sig .tc .vmem S1024x1280 .fp8e5m2) (harg6 : arg6.IsWhole) (arg7 : Memref sig .tc .vmem S2304x1280 .f32) (harg7 : arg7.IsWhole) (arg8 : Memref sig .tc .vmem S2304x1280 .f32) (harg8 : arg8.IsWhole) (hc0 : ¬cond0_0 i) (hc1 : ¬cond0_1 i)
    (x0 : Vec F S1x2 .f32) (x1 : Vec F S1x1 .f32) (x2 : Vec F S1024x2304 .fp8e4m3) (x3 : Vec F S1024x1280 .fp8e5m2) (x4 : Vec F S2304x1280 .f32) (xo5 : Vec F S2304x1280 .f32) (y : S2304x1280.Idx) :
    ∃ pc ∈ (kernelRun0_B c i arg3 harg3 arg4 harg4 arg5 harg5 arg6 harg6 arg7 harg7 arg8 harg8 hc0 hc1 x0 x1 x2 x3 x4 xo5).1, y ∈ pc.1.set :=
  View.cover_of_tiledL (kernelRun0_B c i arg3 harg3 arg4 harg4 arg5 harg5 arg6 harg6 arg7 harg7 arg8 harg8 hc0 hc1 x0 x1 x2 x3 x4 xo5).1 S2304x1280.size (by sl_kernel_rfl) y

/-- What case B leaves in output 5's staging buffer: its pieces read back over junk. -/
def out0_B_5 (c : Dev nD) (i : grid2.Coords) (arg3 : Memref sig .tc .smem S1x2 .f32) (harg3 : arg3.IsWhole) (arg4 : Memref sig .tc .smem S1x1 .f32) (harg4 : arg4.IsWhole) (arg5 : Memref sig .tc .vmem S1024x2304 .fp8e4m3) (harg5 : arg5.IsWhole) (arg6 : Memref sig .tc .vmem S1024x1280 .fp8e5m2) (harg6 : arg6.IsWhole) (arg7 : Memref sig .tc .vmem S2304x1280 .f32) (harg7 : arg7.IsWhole) (arg8 : Memref sig .tc .vmem S2304x1280 .f32) (harg8 : arg8.IsWhole) (hc0 : ¬cond0_0 i) (hc1 : ¬cond0_1 i)
    (x0 : Vec F S1x2 .f32) (x1 : Vec F S1x1 .f32) (x2 : Vec F S1024x2304 .fp8e4m3) (x3 : Vec F S1024x1280 .fp8e5m2) (x4 : Vec F S2304x1280 .f32) (xo5 : Vec F S2304x1280 .f32) : Vec F S2304x1280 .f32 :=
  VO0_5.read (Elt F) (VO0_5.writes (Elt F) VO0_5.junk (kernelRun0_B c i arg3 harg3 arg4 harg4 arg5 harg5 arg6 harg6 arg7 harg7 arg8 harg8 hc0 hc1 x0 x1 x2 x3 x4 xo5).1)

/-- Case C's pieces for output 5 tile its block (2 stores of `S2304x1280`, checked by the kernel's evaluation: Lib/Ring.lean `Piece.tiledL`, linear in the pieces, through a loop's `@[irreducible]` trip theorem too), so they cover it. -/
theorem cover0_C_5 (c : Dev nD) (i : grid2.Coords) (arg3 : Memref sig .tc .smem S1x2 .f32) (harg3 : arg3.IsWhole) (arg4 : Memref sig .tc .smem S1x1 .f32) (harg4 : arg4.IsWhole) (arg5 : Memref sig .tc .vmem S1024x2304 .fp8e4m3) (harg5 : arg5.IsWhole) (arg6 : Memref sig .tc .vmem S1024x1280 .fp8e5m2) (harg6 : arg6.IsWhole) (arg7 : Memref sig .tc .vmem S2304x1280 .f32) (harg7 : arg7.IsWhole) (arg8 : Memref sig .tc .vmem S2304x1280 .f32) (harg8 : arg8.IsWhole) (hc0 : ¬cond0_0 i) (hc1 : cond0_1 i)
    (x0 : Vec F S1x2 .f32) (x1 : Vec F S1x1 .f32) (x2 : Vec F S1024x2304 .fp8e4m3) (x3 : Vec F S1024x1280 .fp8e5m2) (x4 : Vec F S2304x1280 .f32) (xo5 : Vec F S2304x1280 .f32) (y : S2304x1280.Idx) :
    ∃ pc ∈ (kernelRun0_C c i arg3 harg3 arg4 harg4 arg5 harg5 arg6 harg6 arg7 harg7 arg8 harg8 hc0 hc1 x0 x1 x2 x3 x4 xo5).1, y ∈ pc.1.set :=
  View.cover_of_tiledL (kernelRun0_C c i arg3 harg3 arg4 harg4 arg5 harg5 arg6 harg6 arg7 harg7 arg8 harg8 hc0 hc1 x0 x1 x2 x3 x4 xo5).1 S2304x1280.size (by sl_kernel_rfl) y

/-- What case C leaves in output 5's staging buffer: its pieces read back over junk. -/
def out0_C_5 (c : Dev nD) (i : grid2.Coords) (arg3 : Memref sig .tc .smem S1x2 .f32) (harg3 : arg3.IsWhole) (arg4 : Memref sig .tc .smem S1x1 .f32) (harg4 : arg4.IsWhole) (arg5 : Memref sig .tc .vmem S1024x2304 .fp8e4m3) (harg5 : arg5.IsWhole) (arg6 : Memref sig .tc .vmem S1024x1280 .fp8e5m2) (harg6 : arg6.IsWhole) (arg7 : Memref sig .tc .vmem S2304x1280 .f32) (harg7 : arg7.IsWhole) (arg8 : Memref sig .tc .vmem S2304x1280 .f32) (harg8 : arg8.IsWhole) (hc0 : ¬cond0_0 i) (hc1 : cond0_1 i)
    (x0 : Vec F S1x2 .f32) (x1 : Vec F S1x1 .f32) (x2 : Vec F S1024x2304 .fp8e4m3) (x3 : Vec F S1024x1280 .fp8e5m2) (x4 : Vec F S2304x1280 .f32) (xo5 : Vec F S2304x1280 .f32) : Vec F S2304x1280 .f32 :=
  VO0_5.read (Elt F) (VO0_5.writes (Elt F) VO0_5.junk (kernelRun0_C c i arg3 harg3 arg4 harg4 arg5 harg5 arg6 harg6 arg7 harg7 arg8 harg8 hc0 hc1 x0 x1 x2 x3 x4 xo5).1)

/-! ## What the outputs hold after each point -/

/-- THE ACCUMULATION. What the outputs' staging buffers hold after the body at position `n`:
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg2.N → Vec F S2304x1280 .f32
  | 0, hn => out0_A_5 c (grid2.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (fun h => (fun h => by (try dsimp only at h); omega) ((hcond0_1 ⟨0, hn⟩).mp h)) (iblk V c 0 ⟨0, hn⟩) (iblk V c 1 ⟨0, hn⟩) (iblk V c 2 ⟨0, hn⟩) (iblk V c 3 ⟨0, hn⟩) (iblk V c 4 ⟨0, hn⟩)
  | n + 1, hn =>
    if h0 : (n + 1) % 32 = 0 then
      if h1 : (n + 1) % 32 = 31 then
        False.elim (by have hN : n + 1 < 384 := lt_of_lt_of_eq hn (show cfg2.N = 384 from N_2); omega)
      else
        out0_A_5 c (grid2.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (fun h => h1 ((hcond0_1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩)
    else
      if h1 : (n + 1) % 32 = 31 then
        out0_C_5 c (grid2.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) ((hcond0_1 ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (outsAt0 c n (Nat.lt_of_succ_lt hn))
      else
        out0_B_5 c (grid2.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) (fun h => h1 ((hcond0_1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (outsAt0 c n (Nat.lt_of_succ_lt hn))

/-- `outsAt0` at a point of case A: that case's contents. -/
theorem outsAt0_A (c : Dev nD) (t : Fin cfg2.N) (h0 : t.val % 32 = 0) (h1 : ¬t.val % 32 = 31) :
    outsAt0 V c t.val t.isLt = out0_A_5 c (grid2.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (fun h => h1 ((hcond0_1 t).mp h)) (iblk V c 0 t) (iblk V c 1 t) (iblk V c 2 t) (iblk V c 3 t) (iblk V c 4 t) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg2.N) (h0 : ¬t.val % 32 = 0) (h1 : ¬t.val % 32 = 31) :
    outsAt0 V c t.val t.isLt = out0_B_5 c (grid2.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (fun h => h1 ((hcond0_1 t).mp h)) (iblk V c 0 t) (iblk V c 1 t) (iblk V c 2 t) (iblk V c 3 t) (iblk V c 4 t) (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg2.N) (h0 : ¬t.val % 32 = 0) (h1 : t.val % 32 = 31) :
    outsAt0 V c t.val t.isLt = out0_C_5 c (grid2.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) ((hcond0_1 t).mpr h1) (iblk V c 0 t) (iblk V c 1 t) (iblk V c 2 t) (iblk V c 3 t) (iblk V c 4 t) (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => (outsAt0 V c t.val t.isLt)
  Φ _ := Pipeline.ΦA spec2 c
  q _ := fullShare
  owed _ := 0

/-- The proof data's arrays are the region-entry contents: the proof data's definition projected (`dsimp`), so that
    `V` — a fold over @main's host prefix, long for some programs — is never unfolded to check it. -/
theorem A_eq (c : Dev nD) (w : Fin cfg2.W) : (dat V c).A w = V c (Pipeline.arrRef spec2 w) := by
  dsimp only [dat]

/-- What the body leaves, window by window (the proof data's `match` reduced by `dsimp`). -/
theorem after0_0 (c : Dev nD) (t : Fin cfg2.N) : (dat V c).after 0 t = iblk V c 0 t := by dsimp only [dat]
theorem after0_1 (c : Dev nD) (t : Fin cfg2.N) : (dat V c).after 1 t = iblk V c 1 t := by dsimp only [dat]
theorem after0_2 (c : Dev nD) (t : Fin cfg2.N) : (dat V c).after 2 t = iblk V c 2 t := by dsimp only [dat]
theorem after0_3 (c : Dev nD) (t : Fin cfg2.N) : (dat V c).after 3 t = iblk V c 3 t := by dsimp only [dat]
theorem after0_4 (c : Dev nD) (t : Fin cfg2.N) : (dat V c).after 4 t = iblk V c 4 t := by dsimp only [dat]
theorem after0_5 (c : Dev nD) (t : Fin cfg2.N) : (dat V c).after 5 t = (outsAt0 V c t.val t.isLt) := by dsimp only [dat]

/-- Each input's current staging buffer holds its block at every point, fetched there or not (`beforeK_W_of`). -/
theorem before0_0 (c : Dev nD) (t : Fin cfg2.N) (d) : (dat V c).before 0 t d = iblk V c 0 t :=
  before0_0_of V (dat V c) (A_eq V c 0) (after0_0 V c) t d
theorem before0_1 (c : Dev nD) (t : Fin cfg2.N) (d) : (dat V c).before 1 t d = iblk V c 1 t :=
  before0_1_of V (dat V c) (A_eq V c 1) (after0_1 V c) t d
theorem before0_2 (c : Dev nD) (t : Fin cfg2.N) (d) : (dat V c).before 2 t d = iblk V c 2 t :=
  before0_2_of V (dat V c) (A_eq V c 2) (after0_2 V c) t d
theorem before0_3 (c : Dev nD) (t : Fin cfg2.N) (d) : (dat V c).before 3 t d = iblk V c 3 t :=
  before0_3_of V (dat V c) (A_eq V c 3) (after0_3 V c) t d
theorem before0_4 (c : Dev nD) (t : Fin cfg2.N) (d) : (dat V c).before 4 t d = iblk V c 4 t :=
  before0_4_of V (dat V c) (A_eq V c 4) (after0_4 V c) t d
/-- At a point of case B output 5's current staging buffer holds what the body left at the point before: the point is
    not the first, the buffer was not written back between (`flush2_5`), the window is live and uncut (Lib/Pipeline/Frame.lean
    `Dat.before_out_kept`). -/
theorem before0_5_B (c : Dev nD) (t : Fin cfg2.N) (h0 : ¬t.val % 32 = 0) (h1 : ¬t.val % 32 = 31) (d) :
    (dat V c).before 5 t d = (outsAt0 V c (t.val - 1) (Nat.lt_of_le_of_lt (Nat.sub_le _ _) t.isLt)) := by
  have hN : t.val < 384 := lt_of_lt_of_eq t.isLt (show cfg2.N = 384 from N_2)
  rw [Dat.before_out_kept _ 5 rfl t (by omega) (Bool.eq_false_iff.mpr fun h => by have := (flush2_5 _).mp h; dsimp only at this; omega)
    (fun _ => rfl) (fun _ _ => rfl)]
  dsimp only [dat]
/-- At a point of case C output 5's current staging buffer holds what the body left at the point before: the point is
    not the first, the buffer was not written back between (`flush2_5`), the window is live and uncut (Lib/Pipeline/Frame.lean
    `Dat.before_out_kept`). -/
theorem before0_5_C (c : Dev nD) (t : Fin cfg2.N) (h0 : ¬t.val % 32 = 0) (h1 : t.val % 32 = 31) (d) :
    (dat V c).before 5 t d = (outsAt0 V c (t.val - 1) (Nat.lt_of_le_of_lt (Nat.sub_le _ _) t.isLt)) := by
  have hN : t.val < 384 := lt_of_lt_of_eq t.isLt (show cfg2.N = 384 from N_2)
  rw [Dat.before_out_kept _ 5 rfl t (by omega) (Bool.eq_false_iff.mpr fun h => by have := (flush2_5 _).mp h; dsimp only at this; omega)
    (fun _ => rfl) (fun _ _ => rfl)]
  dsimp only [dat]

/-! ## The body obligation, at a generic point -/

/-- What the body is called with at point `t` (Lib/Pipeline.lean `BodyObligation`'s precondition, the windows one by one), -/
def bodyPre (c : Dev nD) (t : Fin cfg2.N) : sProp 𝕄 :=
  iprop((dat V c).Φ t.castSucc ∗ (dat V c).owesAt () t.castSucc
    ∗ (∃ d, owns (c : Thread nD τ) (ms0_0 t) fullShare ((dat V c).before 0 t d))
    ∗ (∃ d, owns (c : Thread nD τ) (ms0_1 t) fullShare ((dat V c).before 1 t d))
    ∗ (∃ d, owns (c : Thread nD τ) (ms0_2 t) fullShare ((dat V c).before 2 t d))
    ∗ (∃ d, owns (c : Thread nD τ) (ms0_3 t) fullShare ((dat V c).before 3 t d))
    ∗ (∃ d, owns (c : Thread nD τ) (ms0_4 t) fullShare ((dat V c).before 4 t d))
    ∗ (∃ d, owns (c : Thread nD τ) (ms0_5 t) fullShare ((dat V c).before 5 t d)))

/-- and what it returns. -/
def bodyPost (c : Dev nD) (t : Fin cfg2.N) : sProp 𝕄 :=
  iprop((dat V c).Φ t.succ ∗ (dat V c).owesAt () t.succ
    ∗ owns (c : Thread nD τ) (ms0_0 t) fullShare ((dat V c).after 0 t)
    ∗ owns (c : Thread nD τ) (ms0_1 t) fullShare ((dat V c).after 1 t)
    ∗ owns (c : Thread nD τ) (ms0_2 t) fullShare ((dat V c).after 2 t)
    ∗ owns (c : Thread nD τ) (ms0_3 t) fullShare ((dat V c).after 3 t)
    ∗ owns (c : Thread nD τ) (ms0_4 t) fullShare ((dat V c).after 4 t)
    ∗ owns (c : Thread nD τ) (ms0_5 t) fullShare ((dat V c).after 5 t))

set_option maxHeartbeats 1200000 in
/-- The body at any point: the inputs' memrefs hold their blocks (`before0_W`); the closed forms say which case the point is in (`by_cases`), an output the case reads before covering holds what the point before left (`before0_W_κ`); so the
    run applies; the invariant passes through unread; the core owes nothing throughout. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before0_0, before0_1, before0_2, before0_3, before0_4]
  rw [show (dat V c).Φ t.succ = (dat V c).Φ t.castSucc from rfl,
    show (dat V c).owesAt () t.succ = (dat V c).owesAt () t.castSucc from rfl,
    after0_0, after0_1, after0_2, after0_3, after0_4, after0_5]
  have hN : t.val < 384 := lt_of_lt_of_eq t.isLt (show cfg2.N = 384 from N_2)
  by_cases h0 : t.val % 32 = 0
  · by_cases h1 : t.val % 32 = 31
    · exfalso; omega
    · rw [outsAt0_A V c t h0 h1]
      unfold out0_A_5
      iintro ⟨HΦ, Ho, ⟨%d0, H0⟩, ⟨%d1, H1⟩, ⟨%d2, H2⟩, ⟨%d3, H3⟩, ⟨%d4, H4⟩, ⟨%d5, H5⟩⟩
      iapply ((kernelRun0_A c (grid2.coords t) _ _ _ _ _ _ _ _ _ _ _ _ ((hcond0_0 t).mpr h0) (fun h => h1 ((hcond0_1 t).mp h)) (iblk V c 0 t) (iblk V c 1 t) (iblk V c 2 t) (iblk V c 3 t) (iblk V c 4 t)).2 Set.univ _)
      isplitl [H0]; · iexact H0
      isplitl [H1]; · iexact H1
      isplitl [H2]; · iexact H2
      isplitl [H3]; · iexact H3
      isplitl [H4]; · iexact H4
      isplitl [H5]; · iexists _; iexact H5
      iintro ⟨H0, H1, H2, H3, H4, ⟨%e5, H5⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover0_A_5 c _ _ _ _ _ _ _ _ _ _ _ _ _ _ _ _ _ _ _ _)
  · by_cases h1 : t.val % 32 = 31
    · rw [outsAt0_C V c t h0 h1]
      simp only [before0_5_C V c t h0 h1]
      unfold out0_C_5
      iintro ⟨HΦ, Ho, ⟨%d0, H0⟩, ⟨%d1, H1⟩, ⟨%d2, H2⟩, ⟨%d3, H3⟩, ⟨%d4, H4⟩, ⟨%d5, H5⟩⟩
      iapply ((kernelRun0_C c (grid2.coords t) _ _ _ _ _ _ _ _ _ _ _ _ (fun h => h0 ((hcond0_0 t).mp h)) ((hcond0_1 t).mpr h1) (iblk V c 0 t) (iblk V c 1 t) (iblk V c 2 t) (iblk V c 3 t) (iblk V c 4 t) _).2 Set.univ _)
      isplitl [H0]; · iexact H0
      isplitl [H1]; · iexact H1
      isplitl [H2]; · iexact H2
      isplitl [H3]; · iexact H3
      isplitl [H4]; · iexact H4
      isplitl [H5]; · iexact H5
      iintro ⟨H0, H1, H2, H3, H4, ⟨%e5, H5⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover0_C_5 c _ _ _ _ _ _ _ _ _ _ _ _ _ _ _ _ _ _ _ _ _)
    · rw [outsAt0_B V c t h0 h1]
      simp only [before0_5_B V c t h0 h1]
      unfold out0_B_5
      iintro ⟨HΦ, Ho, ⟨%d0, H0⟩, ⟨%d1, H1⟩, ⟨%d2, H2⟩, ⟨%d3, H3⟩, ⟨%d4, H4⟩, ⟨%d5, H5⟩⟩
      iapply ((kernelRun0_B c (grid2.coords t) _ _ _ _ _ _ _ _ _ _ _ _ (fun h => h0 ((hcond0_0 t).mp h)) (fun h => h1 ((hcond0_1 t).mp h)) (iblk V c 0 t) (iblk V c 1 t) (iblk V c 2 t) (iblk V c 3 t) (iblk V c 4 t) _).2 Set.univ _)
      isplitl [H0]; · iexact H0
      isplitl [H1]; · iexact H1
      isplitl [H2]; · iexact H2
      isplitl [H3]; · iexact H3
      isplitl [H4]; · iexact H4
      isplitl [H5]; · iexact H5
      iintro ⟨H0, H1, H2, H3, H4, ⟨%e5, H5⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover0_B_5 c _ _ _ _ _ _ _ _ _ _ _ _ _ _ _ _ _ _ _ _ _)

/-- The body table's row at point `t`'s slots is the body as `bodyAt2` spells it. -/
theorem defs₀_row (t : Fin cfg2.N) :
    defs₀ (F := F) .tc cfg2.body (cfg2.bodyArgs t (cfg2.slots t)) = bodyAt2 t := by
  unfold defs₀; rw [Defs.onTc_tc]

/-- The library's body obligation, at every point: the body's triple restated (Lib/Pipeline/FrameBody.lean `triple_restated`). -/
theorem body_obligation (c : Dev nD) : BodyObligation (dat (F := F) V c) (defs₀ (F := F)) Variants.none () Set.univ := fun t => by
  rw [bigSep_W2, bigSep_W2, defs₀_row]
  exact triple_restated (sound_body V c t) rfl .rfl fun _ => .rfl

end Cert.Kernel.R2

end
-- ==== Proof.KRun.lean ====
/- The run of `Kernel`: three regions and the host operations around them, from any launch memory, with every buffer of
   the end named. -/
module

public import proofs.«01_k».proof.Proof.KR0
public import proofs.«01_k».proof.Proof.KR1
public import proofs.«01_k».proof.Proof.KR2
public import proofs.«01_k».proof.Proof.Gen.Kernel.Regions
public import Idealize.ShloMosaic.Lib.Pipeline.RegionArraysS

@[expose] public section

set_option maxRecDepth 16384

noncomputable section

namespace Cert.Kernel.Whole

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers between the items of @main -/

/-- A valuation of each core's buffers, read at the TensorCore's references. -/
abbrev atRefs (W : Dev nD → Valuation τ sig (Elt F)) (c : Dev nD) (b : Ref sig .tc) : Buf (Elt F) ((c : Thread nD τ).loc b) :=
  W c (Proc.devRef .tc b)

/-- The buffers at launch. -/
def W0 (c : Dev nD) : Valuation τ sig (Elt F) := fun b => m (c, b)
/-- After the two reshapes of the arguments. -/
def W1 (c : Dev nD) : Valuation τ sig (Elt F) := StableHlo.after hostOps0 (W0 m c)
/-- After the running maximum. -/
def W2 (c : Dev nD) : Valuation τ sig (Elt F) := Pipeline.afterRegion (R0.dat (atRefs (W1 m)) c) (W1 m c)
/-- After the quantiser. -/
def W3 (c : Dev nD) : Valuation τ sig (Elt F) := Pipeline.afterRegion (R1.dat (atRefs (W2 m)) c) (W2 m c)
/-- After the reshape of the scale of `x`. -/
def W4 (c : Dev nD) : Valuation τ sig (Elt F) := StableHlo.after hostOps2 (W3 m c)
/-- After the product. -/
def W5 (c : Dev nD) : Valuation τ sig (Elt F) := Pipeline.afterRegion (R2.dat (atRefs (W4 m)) c) (W4 m c)
/-- After the results are taken out. -/
def W6 (c : Dev nD) : Valuation τ sig (Elt F) := StableHlo.after hostOps3 (W5 m c)

/-! ## An item keeps what it does not write -/

theorem W1_of (c : Dev nD) (r : Ref sig .tc) (h : r ∉ hostOps0_W) : W1 m c r = W0 m c r :=
  StableHlo.after_of_writes_sub hostOps0 _ hostOps0_writes h
theorem W2_of (c : Dev nD) (r : Ref sig .tc) (h : ∀ w, Pipeline.arrRef spec0 w = r → (cfg0.win w).isOut = false) : W2 m c r = W1 m c r :=
  Pipeline.afterRegion_keeps (R0.dat (atRefs (W1 m)) c) (W1 m c) launch0.win.arr_inj (R0.A_eq (atRefs (W1 m)) c) r h
theorem W3_of (c : Dev nD) (r : Ref sig .tc) (h : ∀ w, Pipeline.arrRef spec1 w = r → (cfg1.win w).isOut = false) : W3 m c r = W2 m c r :=
  Pipeline.afterRegion_keeps (R1.dat (atRefs (W2 m)) c) (W2 m c) launch1.win.arr_inj (R1.A_eq (atRefs (W2 m)) c) r h
theorem W4_of (c : Dev nD) (r : Ref sig .tc) (h : r ∉ hostOps2_W) : W4 m c r = W3 m c r :=
  StableHlo.after_of_writes_sub hostOps2 _ hostOps2_writes h
theorem W5_of (c : Dev nD) (r : Ref sig .tc) (h : ∀ w, Pipeline.arrRef spec2 w = r → (cfg2.win w).isOut = false) : W5 m c r = W4 m c r :=
  Pipeline.afterRegion_keeps (R2.dat (atRefs (W4 m)) c) (W4 m c) launch2.win.arr_inj (R2.A_eq (atRefs (W4 m)) c) r h
theorem W6_of (c : Dev nD) (r : Ref sig .tc) (h : r ∉ hostOps3_W) : W6 m c r = W5 m c r :=
  StableHlo.after_of_writes_sub hostOps3 _ hostOps3_writes h

/-- A buffer no item writes ends as launched. -/
theorem W6_kept (c : Dev nD) (r : Ref sig .tc) (h0 : r ∉ hostOps0_W) (h2 : r ∉ hostOps2_W) (h3 : r ∉ hostOps3_W)
    (k0 : ∀ w, Pipeline.arrRef spec0 w = r → (cfg0.win w).isOut = false) (k1 : ∀ w, Pipeline.arrRef spec1 w = r → (cfg1.win w).isOut = false)
    (k2 : ∀ w, Pipeline.arrRef spec2 w = r → (cfg2.win w).isOut = false) : W6 m c r = m ((c : Thread nD τ).loc r) :=
  (W6_of m c r h3).trans <| (W5_of m c r k2).trans <| (W4_of m c r h2).trans <| (W3_of m c r k1).trans <| (W2_of m c r k0).trans <|
    (W1_of m c r h0).trans rfl

/-! ## The segments -/

/-- The three regions' proof data. -/
def pdats : (p : Fin 3) → (c : Dev nD) → Dat τ (Elt F) Unit ℕ (UR sig nD τ) ℕ (cfgs p) c
  | ⟨0, _⟩ => fun c => R0.dat (atRefs (W1 m)) c
  | ⟨1, _⟩ => fun c => R1.dat (atRefs (W2 m)) c
  | ⟨2, _⟩ => fun c => R2.dat (atRefs (W4 m)) c

/-- One level at every cell of a TensorCore. -/
def L : GSem nD τ sig → Finset Unit := fun g => if g.1.2 = .tc then Finset.univ else ∅
abbrev lv : GSem nD τ sig → Unit → ℕ := fun _ _ => 0

/-- What rides beside the buffers: the core owing nothing, and the generator register at some state. -/
abbrev E (c : Dev nD) : sProp 𝕄 :=
  iprop((∃ Wd, owes (c : Thread nD τ) (0 : CellTallies nD τ sig Unit) Wd) ∗ (∃ r, prngReg c r) ∗ emp)

theorem cut (p : Fin 3) : Pipeline.LevelCut (pcfgs (F := F)) adm () L lv p (fun _ => (0 : CellTallies nD τ sig Unit)) (fun _ => 0) where
  hι c w s := by unfold L; rw [if_pos rfl]; exact Finset.mem_univ _
  hιb c w s := le_refl _
  hD c g i h := absurd h (lt_irrefl _)

/-- The launch's invariant is the scoped rest beside the generator register. -/
theorem toPhiA {gr W : ℕ} (spec : Fin W → Pipeline.WinSpec sig gr) (c : Dev nD) :
    iprop(Pipeline.scopedRest spec c ∗ (∃ r, prngReg c r)) ⊢ (Pipeline.ΦA spec c : sProp 𝕄) := by
  unfold Pipeline.ΦA; exact .rfl
theorem ofPhiA {gr W : ℕ} (spec : Fin W → Pipeline.WinSpec sig gr) (c : Dev nD) :
    (Pipeline.ΦA spec c : sProp 𝕄) ⊢ iprop(Pipeline.scopedRest spec c ∗ (∃ r, prngReg c r)) := by
  unfold Pipeline.ΦA; exact .rfl

set_option backward.isDefEq.respectTransparency.types false in
/-- The region of the running maximum. -/
def reg0 : RegionSeg (pcfgs (F := F)) adm (pdats m) () defs₀ Variants.none L lv 0 :=
  RegionSeg.ofHeldIn (pcfgs (F := F)) adm (pdats m) () defs₀ Variants.none L lv 0 (fun _ => 0) (Pipeline.ucRefs τ sig)
    (fun c => iprop(∃ r, prngReg c r)) (fun c => iprop(∃ r, prngReg c r)) (launch0.toP) rfl
    (fun c => (R0.body_obligation (atRefs (W1 m)) c).loose) (fun _ _ => rfl) (fun _ => rfl)
    (fun c => (R0.dat (atRefs (W1 m)) c).share_full fun _ => rfl)
    (fun c => (toPhiA spec0 c).trans (R0.hin (atRefs (W1 m)) c))
    (fun c => (R0.hout (atRefs (W1 m)) c).trans (ofPhiA spec0 c))
    (fun _ => 0) (cut 0) (fun _ => iprop(emp)) (W1 m) (fun c w => R0.A_eq (atRefs (W1 m)) c w)

set_option backward.isDefEq.respectTransparency.types false in
/-- The region of the quantiser. -/
def reg1 : RegionSeg (pcfgs (F := F)) adm (pdats m) () defs₀ Variants.none L lv 1 :=
  RegionSeg.ofHeldIn (pcfgs (F := F)) adm (pdats m) () defs₀ Variants.none L lv 1 (fun _ => 0) (Pipeline.ucRefs τ sig)
    (fun c => iprop(∃ r, prngReg c r)) (fun c => iprop(∃ r, prngReg c r)) (launch1.toP) rfl
    (fun c => (R1.body_obligation (atRefs (W2 m)) c).loose) (fun _ _ => rfl) (fun _ => rfl)
    (fun c => (R1.dat (atRefs (W2 m)) c).share_full fun _ => rfl)
    (fun c => toPhiA spec1 c) (fun c => ofPhiA spec1 c)
    (fun _ => 0) (cut 1) (fun _ => iprop(emp)) (W2 m) (fun c w => R1.A_eq (atRefs (W2 m)) c w)

set_option backward.isDefEq.respectTransparency.types false in
/-- The region of the product. -/
def reg2 : RegionSeg (pcfgs (F := F)) adm (pdats m) () defs₀ Variants.none L lv 2 :=
  RegionSeg.ofHeldIn (pcfgs (F := F)) adm (pdats m) () defs₀ Variants.none L lv 2 (fun _ => 0) (Pipeline.ucRefs τ sig)
    (fun c => iprop(∃ r, prngReg c r)) (fun c => iprop(∃ r, prngReg c r)) (launch2.toP) rfl
    (fun c => (R2.body_obligation (atRefs (W4 m)) c).loose) (fun _ _ => rfl) (fun _ => rfl)
    (fun c => (R2.dat (atRefs (W4 m)) c).share_full fun _ => rfl)
    (fun c => toPhiA spec2 c) (fun c => ofPhiA spec2 c)
    (fun _ => 0) (cut 2) (fun _ => iprop(emp)) (W4 m) (fun c w => R2.A_eq (atRefs (W4 m)) c w)

/-- A host stretch over the unscoped buffers. -/
def host0 : HostSeg (Ix := Unit) (Name := ℕ) (U := UR sig nD τ) (Lvl := ℕ) (pcfgs (F := F)) defs₀ Variants.none L lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) E
def host2 : HostSeg (Ix := Unit) (Name := ℕ) (U := UR sig nD τ) (Lvl := ℕ) (pcfgs (F := F)) defs₀ Variants.none L lv :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W3 m) E
def host3 : HostSeg (Ix := Unit) (Name := ℕ) (U := UR sig nD τ) (Lvl := ℕ) (pcfgs (F := F)) defs₀ Variants.none L lv :=
  HostSeg.ofOps _ _ _ _ _ (Pipeline.ucRefs τ sig) hostOps3
    (fun op h => Pipeline.sub_ucRefs op ((List.forall_iff_forall_mem.mp hostOps3_sub) op h))
    (fun op h => (List.forall_iff_forall_mem.mp hostOps3_fresh) op h) (W5 m) E

/-- @main as the six items, in order. -/
abbrev items (_ : Dev nD) : List (Seg (pcfgs (F := F)) adm (pdats m) () defs₀ Variants.none L lv) :=
  [.host (host0 m), .region (reg0 m), .region (reg1 m), .host (host2 m), .region (reg2 m), .host (host3 m)]

/-- The windows' arrays are unscoped buffers. -/
theorem sub0 : Pipeline.arrRefs (τ := τ) (pcfgs (F := F) 0).spec ⊆ Pipeline.ucRefs τ sig := Pipeline.arrRefs_sub_ucRefs spec0 (by decide)
theorem sub1 : Pipeline.arrRefs (τ := τ) (pcfgs (F := F) 1).spec ⊆ Pipeline.ucRefs τ sig := Pipeline.arrRefs_sub_ucRefs spec1 (by decide)
theorem sub2 : Pipeline.arrRefs (τ := τ) (pcfgs (F := F) 2).spec ⊆ Pipeline.ucRefs τ sig := Pipeline.arrRefs_sub_ucRefs spec2 (by decide)

theorem pre0 (c : Dev nD) : iprop(StableHlo.held (c : Thread nD τ) (Pipeline.ucRefs τ sig) (W1 m c) ∗ E c) ⊢ (reg0 m).pre c :=
  by unfold reg0; exact RegionSeg.ofHeldIn_pre (p := 0) (D := fun _ => 0) (W := W1 m) (R := fun _ => iprop(emp)) (X := fun c => iprop(∃ r, prngReg c r)) (Y := fun c => iprop(∃ r, prngReg c r)) (sub0 (F := F)) c
theorem post0 (c : Dev nD) : (reg0 m).post c ⊢ iprop(StableHlo.held (c : Thread nD τ) (Pipeline.ucRefs τ sig) (W2 m c) ∗ E c) :=
  by unfold reg0; exact RegionSeg.ofHeldIn_post (p := 0) (D := fun _ => 0) (W := W1 m) (R := fun _ => iprop(emp)) (X := fun c => iprop(∃ r, prngReg c r)) (Y := fun c => iprop(∃ r, prngReg c r)) (sub0 (F := F)) c
theorem pre1 (c : Dev nD) : iprop(StableHlo.held (c : Thread nD τ) (Pipeline.ucRefs τ sig) (W2 m c) ∗ E c) ⊢ (reg1 m).pre c :=
  by unfold reg1; exact RegionSeg.ofHeldIn_pre (p := 1) (D := fun _ => 0) (W := W2 m) (R := fun _ => iprop(emp)) (X := fun c => iprop(∃ r, prngReg c r)) (Y := fun c => iprop(∃ r, prngReg c r)) (sub1 (F := F)) c
theorem post1 (c : Dev nD) : (reg1 m).post c ⊢ iprop(StableHlo.held (c : Thread nD τ) (Pipeline.ucRefs τ sig) (W3 m c) ∗ E c) :=
  by unfold reg1; exact RegionSeg.ofHeldIn_post (p := 1) (D := fun _ => 0) (W := W2 m) (R := fun _ => iprop(emp)) (X := fun c => iprop(∃ r, prngReg c r)) (Y := fun c => iprop(∃ r, prngReg c r)) (sub1 (F := F)) c
theorem pre2 (c : Dev nD) : iprop(StableHlo.held (c : Thread nD τ) (Pipeline.ucRefs τ sig) (W4 m c) ∗ E c) ⊢ (reg2 m).pre c :=
  by unfold reg2; exact RegionSeg.ofHeldIn_pre (p := 2) (D := fun _ => 0) (W := W4 m) (R := fun _ => iprop(emp)) (X := fun c => iprop(∃ r, prngReg c r)) (Y := fun c => iprop(∃ r, prngReg c r)) (sub2 (F := F)) c
theorem post2 (c : Dev nD) : (reg2 m).post c ⊢ iprop(StableHlo.held (c : Thread nD τ) (Pipeline.ucRefs τ sig) (W5 m c) ∗ E c) :=
  by unfold reg2; exact RegionSeg.ofHeldIn_post (p := 2) (D := fun _ => 0) (W := W4 m) (R := fun _ => iprop(emp)) (X := fun c => iprop(∃ r, prngReg c r)) (Y := fun c => iprop(∃ r, prngReg c r)) (sub2 (F := F)) c

set_option backward.isDefEq.respectTransparency.types false in
/-- From any launch memory with zero counters every fair execution of @main ends, every unscoped buffer of the end holds
    what `W6` says and every counter is zero. -/
theorem run : θ_run defs (onTc (τ := τ) (main (F := F))) ⟨m, fun _ => 0, ρ⟩ (fun r =>
    (∀ c : Dev nD, ∀ b ∈ Pipeline.ucRefs τ sig, r.2.mem (c, b) = W6 m c b) ∧ r.2.sem = fun _ => 0) := by
  refine Pipeline.θ_run_regions_kit_dev_sems (pcfgs (F := F)) adm (pdats m) () cellOf_inj emb₁ defs₀ Variants.none L lv m ρ main
    (items m)
    (fun c Q => by
      rewrite [main_chain c, Seg.run_eq_chain,
        show (items m c).map Seg.prog = [
          StableHlo.seq hostOps0,
          Prog.lift (.customCall (Pipeline.entry 0) ()),
          Prog.lift (.customCall (Pipeline.entry 1) ()),
          StableHlo.seq hostOps2,
          Prog.lift (.customCall (Pipeline.entry 2) ()),
          StableHlo.seq hostOps3 ] from rfl]
      exact .rfl)
    (fun c => by simp only [items, Seg.pipes_host, Seg.pipes_region, Seg.pipes_nil]; decide) (O₀ := 0)
    (hL := fun g h => by unfold L; rw [if_neg h]) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ E c))
    (Tₙ := fun c => StableHlo.held (c : Thread nD τ) (Pipeline.ucRefs τ sig) (W6 m c))
    (hch := fun c => ⟨.rfl, pre0 m c, (post0 m c).trans (pre1 m c), post1 m c, pre2 m c, post2 m c,
      (show iprop(StableHlo.held (c : Thread nD τ) (Pipeline.ucRefs τ sig) (W6 m c) ∗ E c) ⊢ (_ : sProp 𝕄) from by
        iintro ⟨Hh, HO, -, -⟩
        isplitl [Hh] <;> iassumption)⟩)
    (hinit := by
      refine Pipeline.initEach L lv fun c => ?_
      rw [show unscopedBufs c (fun b => m ((c.tc : Thread nD τ).loc b)) = StableHlo.held (c : Thread nD τ) (Pipeline.ucRefs τ sig) (W0 m c)
        from Pipeline.unscopedBufs_held (Ix := Unit) (Name := ℕ) (U := UR sig nD τ) (Lvl := ℕ) c (W0 m c)]
      iintro ⟨⟨Hh, -, HO, -, Hp, -⟩, -⟩
      imodintro
      isplitl [Hh]; · iexact Hh
      isplitl [HO]; · iexists ∅; iexact HO
      isplitl [Hp]; · iexists _; iexact Hp
      iempintro)
    (QY := fun c s => ∀ b ∈ Pipeline.ucRefs τ sig, s.mem (c, b) = W6 m c b)
    (hfin := fun c s' => ?_) (hQ := fun _ h hz => ⟨h, funext fun g => hz g (.inr (regions_no_unscoped g.2))⟩)
  unfold StableHlo.held
  iintro ⟨Hh, HSI⟩
  ihave Hr := (pointsTo_read_all (Pipeline.ucRefs τ sig) (fun b => ((c : Thread nD τ).1, b)) (W6 m c) s') $$ [Hh HSI]
  · isplitl [Hh] <;> iassumption
  icases Hr with ⟨%h, HSI⟩
  imodintro
  isplitr
  · ipureintro; exact h
  iexact HSI

/-- A TensorCore reference that is not scoped is among the buffers the run names. -/
theorem mem_uc (r : Ref sig .tc) (h : r.isScoped = false) : (Proc.devRef .tc r : DevRef τ sig) ∈ Pipeline.ucRefs τ sig :=
  Finset.mem_filter.mpr ⟨StableHlo.devRef_mem_tcRefs r, fun h' => Bool.false_ne_true (h.symm.trans h')⟩

theorem W6_main_arg0 (c : Dev nD) : W6 m c main_arg0 = m ((c : Thread nD τ).loc main_arg0) :=
  W6_kept m c main_arg0 (by decide) (by decide) (by decide) (by decide) (by decide) (by decide)
theorem W6_main_arg1 (c : Dev nD) : W6 m c main_arg1 = m ((c : Thread nD τ).loc main_arg1) :=
  W6_kept m c main_arg1 (by decide) (by decide) (by decide) (by decide) (by decide) (by decide)
theorem W6_main_arg2 (c : Dev nD) : W6 m c main_arg2 = m ((c : Thread nD τ).loc main_arg2) :=
  W6_kept m c main_arg2 (by decide) (by decide) (by decide) (by decide) (by decide) (by decide)
theorem W6_main_arg3 (c : Dev nD) : W6 m c main_arg3 = m ((c : Thread nD τ).loc main_arg3) :=
  W6_kept m c main_arg3 (by decide) (by decide) (by decide) (by decide) (by decide) (by decide)

/-- The run's end at the arguments and the results. -/
theorem run_ends : θ_run defs (onTc (τ := τ) (main (F := F))) ⟨m, fun _ => 0, ρ⟩ (fun r => (∀ c : Dev nD,
      (r.2.mem ((c.tc : Thread nD τ).loc main_v5) = W6 m c main_v5
      ∧ r.2.mem ((c.tc : Thread nD τ).loc main_v6) = W6 m c main_v6
      ∧ r.2.mem ((c.tc : Thread nD τ).loc main_v8) = W6 m c main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c =>
    ⟨⟨h.1 c _ (mem_uc main_v5 (by decide)), h.1 c _ (mem_uc main_v6 (by decide)), h.1 c _ (mem_uc main_v8 (by decide))⟩,
      (h.1 c _ (mem_uc main_arg0 (by decide))).trans (W6_main_arg0 m c),
      (h.1 c _ (mem_uc main_arg1 (by decide))).trans (W6_main_arg1 m c),
      (h.1 c _ (mem_uc main_arg2 (by decide))).trans (W6_main_arg2 m c),
      (h.1 c _ (mem_uc main_arg3 (by decide))).trans (W6_main_arg3 m c)⟩, h.2⟩) (run m ρ)

/-- The frame: the arguments end as launched, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => (h.1 c).2, h.2⟩) (run_ends m ρ)

end Cert.Kernel.Whole

end
-- ==== Proof.IR0Run.lean ====
/- Region 0 of `KernelIdeal` (the running maximum and the scale pair): its branch conditions, its blocks and the runs of its body. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 64 = 0 :=
  (fun t => by
    have ht : t.val < 64 := Nat.lt_of_lt_of_eq t.isLt N_0
    have e0 : (grid0.coords t 0).val = t.val / 1 % 64 := Pipeline.Grid.coords_val t 0 (by decide) rfl
    simp only [cond0_0, e0]
    word_cmp
   : ∀ t : Fin grid0.N, cond0_0 (grid0.coords t) ↔ t.val % 64 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 64 = 63 :=
  (fun t => by
    have ht : t.val < 64 := Nat.lt_of_lt_of_eq t.isLt N_0
    have e0 : (grid0.coords t 0).val = t.val / 1 % 64 := Pipeline.Grid.coords_val t 0 (by decide) rfl
    simp only [cond0_1, k0_cond2, e0]
    word_cmp
   : ∀ t : Fin grid0.N, cond0_1 (grid0.coords t) ↔ t.val % 64 = 63)

/-! ## Where the windows are idle (the printed configuration's table `Cfg.idle`) -/

/-- Window 0 is never idle (an input). -/
theorem liveAt0_0 : ∀ t : Fin cfg0.N, cfg0.idle 0 (grid0.coords t) = false := fun _ => rfl
/-- At the points of case A the printed configuration (`Cfg.idle`) calls output 1 idle: the case stores nothing into it. -/
theorem idleAt0_1_A : ∀ t : Fin cfg0.N, cond0_0 (grid0.coords t) → ¬cond0_1 (grid0.coords t) → cfg0.idle 1 (grid0.coords t) = true := by decide +kernel
/-- At the points of case A the pipeline does not write output 1's block back. -/
theorem noFlush0_1_A : ∀ t : Fin cfg0.N, cond0_0 (grid0.coords t) → ¬cond0_1 (grid0.coords t) → (cfg0.win 1).flush t = false := by decide +kernel
/-- At the points of case B the printed configuration (`Cfg.idle`) calls output 1 idle: the case stores nothing into it. -/
theorem idleAt0_1_B : ∀ t : Fin cfg0.N, ¬cond0_0 (grid0.coords t) → ¬cond0_1 (grid0.coords t) → cfg0.idle 1 (grid0.coords t) = true := by decide +kernel
/-- At the points of case B the pipeline does not write output 1's block back. -/
theorem noFlush0_1_B : ∀ t : Fin cfg0.N, ¬cond0_0 (grid0.coords t) → ¬cond0_1 (grid0.coords t) → (cfg0.win 1).flush t = false := by decide +kernel
/-- At the points of case C the printed configuration (`Cfg.idle`) calls output 1 live: the case stores into it. -/
theorem liveAt0_1_C : ∀ t : Fin cfg0.N, ¬cond0_0 (grid0.coords t) → cond0_1 (grid0.coords t) → cfg0.idle 1 (grid0.coords t) = false := by decide +kernel

/-! ## The kernel body on any staging memrefs: a subtype the run finds -/

/-- One staging buffer of output window 1, through which its contents are stated (`View.read_writes_of_cover`: the
    choice does not matter). -/
abbrev VO0_1 : View sig .tc .smem S1x2 .f32 := (Memref.whole cc0_stg1_0 : Memref sig .tc .smem S1x2 .f32).view
/-- Each window's current staging memref at point `t`, spelled as the pipeline passes it (`bodyAt0`), and its wholeness. -/
abbrev ms0_0 (t : Fin cfg0.N) : Memref sig .tc .vmem S512x5120 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S1x2 .f32 := win0_1.stage (cfg0.slots t 1)
abbrev hs0_1 (t : Fin cfg0.N) : (ms0_1 t).IsWhole := hstage0_1 ((cfg0.slots t 1).cast nbuf0_1)
/-- The scratch operands: whole scoped buffers of the kernel's own, passed beside the windows. -/
abbrev scM0_0 : Memref sig .tc .vmem S16x5120 .bf16 := Memref.whole cc0_scratch0
/-- The scratch `arg3` the kernel carries between points, as a view: what it holds is stated through it. -/
abbrev VS0_0 : View sig .tc .vmem S16x5120 .bf16 := scM0_0.view

/-- The scoped buffers other than the carried scratch, each at some contents, and the generator register at some state. -/
def others (c : Dev nD) : sProp 𝕄 :=
  iprop(((∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg4_1), ((c : Thread nD τ).loc cc2_stg4_1) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg5_1), ((c : Thread nD τ).loc cc2_stg5_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg1_0), ((c : Thread nD τ).loc cc2_stg1_0) ↦{fullShare} f)) ∗ (∃ r, prngReg c r))

/-- Separating conjunction reassociates, as an equality. -/
theorem sep_assoc_eq (P Q R : sProp 𝕄) : iprop((P ∗ Q) ∗ R) = iprop(P ∗ Q ∗ R) := equiv_iff.mp ⟨BI.sep_assoc, BI.sep_assoc'⟩

/-- The region's invariant with the scratch as a memref owned at some contents, the rest set apart. -/
theorem PhiA0_eq (c : Dev nD) :
    (Pipeline.ΦA spec0 c : sProp 𝕄) = iprop((∃ d, owns (c : Thread nD τ) scM0_0 fullShare d) ∗ others c) := by
  unfold Pipeline.ΦA others; rw [scopedRest0_eq, sep_assoc_eq]; simp only [scM0_0, owns_whole]; try rfl

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0), WITH the
    proof that on whole staging memrefs — the inputs' at their contents, the outputs it leaves idle (1: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S512x5120 .bf16) (harg1 : arg1.IsWhole) (arg2 : Memref sig .tc .smem S1x2 .f32) (harg2 : arg2.IsWhole) (arg3 : Memref sig .tc .vmem S16x5120 .bf16) (harg3 : arg3.IsWhole) (hc0 : cond0_0 i) (hc1 : ¬cond0_1 i)
    (x0 : Vec F S512x5120 .bf16) :
    Σ' (L1 : List (View.Piece (Elt F) S1x2 .f32)), { LS0 : List (View.Piece (Elt F) S16x5120 .bf16) //
      ∀ (xi1 : Vec F S1x2 .f32) (E : Set ℕ) (K : PUnit → sProp 𝕄),
        iprop(owns (c : Thread nD τ) arg1 fullShare x0 ∗ owns (c : Thread nD τ) arg2 fullShare xi1 ∗ (∃ d, owns (c : Thread nD τ) arg3 fullShare d)
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS0)) -∗ K ⟨⟩))
          ⊢ wp frame (wpE (defs₀ (F := F)) Variants.none c none) E (cc0_amax_scale i arg1 harg1 arg2 harg2 arg3 harg3) K } := by
  refine ⟨[], ?_, fun xi1 E K => ?run⟩
  case run =>
    simp only [cc0_amax_scale_eq_skeleton]; unfold cc0_amax_scale_skel
    unfold owns
    iintro ⟨⟨%f0, %hf0, H0⟩, ⟨%f1, %hf1, H1⟩, ⟨%ds0, %fs0, -, HS0⟩, Hk⟩
    obtain rfl := harg1.eq_unread hf0; obtain rfl := harg2.eq_unread hf1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 62: 62 of 64), WITH the
    proof that on whole staging memrefs — the inputs' at their contents, the outputs it leaves idle (1: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S512x5120 .bf16) (harg1 : arg1.IsWhole) (arg2 : Memref sig .tc .smem S1x2 .f32) (harg2 : arg2.IsWhole) (arg3 : Memref sig .tc .vmem S16x5120 .bf16) (harg3 : arg3.IsWhole) (hc0 : ¬cond0_0 i) (hc1 : ¬cond0_1 i)
    (x0 : Vec F S512x5120 .bf16) (xs0 : Vec F S16x5120 .bf16) :
    Σ' (L1 : List (View.Piece (Elt F) S1x2 .f32)), { LS0 : List (View.Piece (Elt F) S16x5120 .bf16) //
      ∀ (xi1 : Vec F S1x2 .f32) (E : Set ℕ) (K : PUnit → sProp 𝕄),
        iprop(owns (c : Thread nD τ) arg1 fullShare x0 ∗ owns (c : Thread nD τ) arg2 fullShare xi1 ∗ owns (c : Thread nD τ) arg3 fullShare xs0
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS0)) -∗ K ⟨⟩))
          ⊢ wp frame (wpE (defs₀ (F := F)) Variants.none c none) E (cc0_amax_scale i arg1 harg1 arg2 harg2 arg3 harg3) K } := by
  refine ⟨[], ?_, fun xi1 E K => ?run⟩
  case run =>
    simp only [cc0_amax_scale_eq_skeleton]; unfold cc0_amax_scale_skel
    unfold owns
    iintro ⟨⟨%f0, %hf0, H0⟩, ⟨%f1, %hf1, H1⟩, ⟨%fs0, %hfs0, HS0⟩, Hk⟩
    obtain rfl := harg1.eq_unread hf0; obtain rfl := harg2.eq_unread hf1; obtain rfl := harg3.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

-- (the run's proof term is large: the definition's epilogue — `abstractNestedProofs` — walks it past the default budget)
set_option maxHeartbeats 1000000 in
/-- What the body's stores leave in each output's staging memref, as pieces (last first) IN CASE C (`scf.if` 0 not taken, `scf.if` 1 taken: points 63), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg1 : Memref sig .tc .vmem S512x5120 .bf16) (harg1 : arg1.IsWhole) (arg2 : Memref sig .tc .smem S1x2 .f32) (harg2 : arg2.IsWhole) (arg3 : Memref sig .tc .vmem S16x5120 .bf16) (harg3 : arg3.IsWhole) (hc0 : ¬cond0_0 i) (hc1 : cond0_1 i)
    (x0 : Vec F S512x5120 .bf16) (xs0 : Vec F S16x5120 .bf16) :
    Σ' (L1 : List (View.Piece (Elt F) S1x2 .f32)), { LS0 : List (View.Piece (Elt F) S16x5120 .bf16) //
      ∀ (E : Set ℕ) (K : PUnit → sProp 𝕄),
        iprop(owns (c : Thread nD τ) arg1 fullShare x0 ∗ (∃ d, owns (c : Thread nD τ) arg2 fullShare d) ∗ owns (c : Thread nD τ) arg3 fullShare xs0
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f LS0)) -∗ K ⟨⟩))
          ⊢ wp frame (wpE (defs₀ (F := F)) Variants.none c none) E (cc0_amax_scale i arg1 harg1 arg2 harg2 arg3 harg3) K } := by
  refine ⟨?_, ?_, fun E K => ?run⟩
  case run =>
    simp only [cc0_amax_scale_eq_skeleton]; unfold cc0_amax_scale_skel
    simp only [k0_part1_eq_skeleton]
    unfold owns
    iintro ⟨⟨%f0, %hf0, H0⟩, ⟨%d1, %f1, -, H1⟩, ⟨%fs0, %hfs0, HS0⟩, Hk⟩
    obtain rfl := harg1.eq_unread hf0; obtain rfl := harg3.eq_unread hfs0
    sl_exec (disch := first | sl_exact hc0 | sl_exact hc1)
    sl_step
    iapply Hk
    isplitl [H0]
    · iexists _; isplitr; · ipureintro; exact harg1.read_unread _
      iexact H0
    isplitl [H1]; · iexists _; iexact H1
    iexists _; iexact HS0

end Cert.KernelIdeal.R0

end
-- ==== Proof.IR0.lean ====
/- Region 0 of `KernelIdeal` (the running maximum and the scale pair): what each point leaves, the proof data and the body obligation. -/
module

public import proofs.«01_k».proof.Proof.IR0Run
public import Idealize.ShloMosaic.Lib.Claim

@[expose] public section

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Case A stores nothing into output 1 (the window is idle at its points and not written back there):
    no pieces — a placeholder (junk read back) that nothing consults, since at these points the window is neither
    written back nor read at the next point (Lib/Pipeline.lean "Idle points"). -/
def out0_A_1 (c : Dev nD) (i : grid0.Coords) (arg1 : Memref sig .tc .vmem S512x5120 .bf16) (harg1 : arg1.IsWhole) (arg2 : Memref sig .tc .smem S1x2 .f32) (harg2 : arg2.IsWhole) (arg3 : Memref sig .tc .vmem S16x5120 .bf16) (harg3 : arg3.IsWhole) (hc0 : cond0_0 i) (hc1 : ¬cond0_1 i)
    (x0 : Vec F S512x5120 .bf16) : Vec F S1x2 .f32 :=
  VO0_1.read (Elt F) (VO0_1.writes (Elt F) VO0_1.junk (kernelRun0_A c i arg1 harg1 arg2 harg2 arg3 harg3 hc0 hc1 x0).1)

/-- Case A's pieces for scratch `arg3`, which the kernel carries between points, cover it: 2 pieces of `S16x5120` tiling it (Lib/Ring.lean `Piece.tiledL`). -/
theorem scover0_A_0 (c : Dev nD) (i : grid0.Coords) (arg1 : Memref sig .tc .vmem S512x5120 .bf16) (harg1 : arg1.IsWhole) (arg2 : Memref sig .tc .smem S1x2 .f32) (harg2 : arg2.IsWhole) (arg3 : Memref sig .tc .vmem S16x5120 .bf16) (harg3 : arg3.IsWhole) (hc0 : cond0_0 i) (hc1 : ¬cond0_1 i)
    (x0 : Vec F S512x5120 .bf16) (y : S16x5120.Idx) :
    ∃ pc ∈ (kernelRun0_A c i arg1 harg1 arg2 harg2 arg3 harg3 hc0 hc1 x0).2.1, y ∈ pc.1.set :=
  View.cover_of_tiledL (kernelRun0_A c i arg1 harg1 arg2 harg2 arg3 harg3 hc0 hc1 x0).2.1 S16x5120.size (by sl_kernel_rfl) y

/-- What case A leaves in scratch `arg3`: its pieces read back over junk. -/
def sout0_A_0 (c : Dev nD) (i : grid0.Coords) (arg1 : Memref sig .tc .vmem S512x5120 .bf16) (harg1 : arg1.IsWhole) (arg2 : Memref sig .tc .smem S1x2 .f32) (harg2 : arg2.IsWhole) (arg3 : Memref sig .tc .vmem S16x5120 .bf16) (harg3 : arg3.IsWhole) (hc0 : cond0_0 i) (hc1 : ¬cond0_1 i)
    (x0 : Vec F S512x5120 .bf16) : Vec F S16x5120 .bf16 :=
  VS0_0.read (Elt F) (VS0_0.writes (Elt F) VS0_0.junk (kernelRun0_A c i arg1 harg1 arg2 harg2 arg3 harg3 hc0 hc1 x0).2.1)

/-- Case B stores nothing into output 1 (the window is idle at its points and not written back there):
    no pieces — a placeholder (junk read back) that nothing consults, since at these points the window is neither
    written back nor read at the next point (Lib/Pipeline.lean "Idle points"). -/
def out0_B_1 (c : Dev nD) (i : grid0.Coords) (arg1 : Memref sig .tc .vmem S512x5120 .bf16) (harg1 : arg1.IsWhole) (arg2 : Memref sig .tc .smem S1x2 .f32) (harg2 : arg2.IsWhole) (arg3 : Memref sig .tc .vmem S16x5120 .bf16) (harg3 : arg3.IsWhole) (hc0 : ¬cond0_0 i) (hc1 : ¬cond0_1 i)
    (x0 : Vec F S512x5120 .bf16) (xs0 : Vec F S16x5120 .bf16) : Vec F S1x2 .f32 :=
  VO0_1.read (Elt F) (VO0_1.writes (Elt F) VO0_1.junk (kernelRun0_B c i arg1 harg1 arg2 harg2 arg3 harg3 hc0 hc1 x0 xs0).1)

/-- Case B's pieces for scratch `arg3`, which the kernel carries between points, cover it: 1 piece of `S16x5120` tiling it (Lib/Ring.lean `Piece.tiledL`). -/
theorem scover0_B_0 (c : Dev nD) (i : grid0.Coords) (arg1 : Memref sig .tc .vmem S512x5120 .bf16) (harg1 : arg1.IsWhole) (arg2 : Memref sig .tc .smem S1x2 .f32) (harg2 : arg2.IsWhole) (arg3 : Memref sig .tc .vmem S16x5120 .bf16) (harg3 : arg3.IsWhole) (hc0 : ¬cond0_0 i) (hc1 : ¬cond0_1 i)
    (x0 : Vec F S512x5120 .bf16) (xs0 : Vec F S16x5120 .bf16) (y : S16x5120.Idx) :
    ∃ pc ∈ (kernelRun0_B c i arg1 harg1 arg2 harg2 arg3 harg3 hc0 hc1 x0 xs0).2.1, y ∈ pc.1.set :=
  View.cover_of_tiledL (kernelRun0_B c i arg1 harg1 arg2 harg2 arg3 harg3 hc0 hc1 x0 xs0).2.1 S16x5120.size (by sl_kernel_rfl) y

/-- What case B leaves in scratch `arg3`: its pieces read back over junk. -/
def sout0_B_0 (c : Dev nD) (i : grid0.Coords) (arg1 : Memref sig .tc .vmem S512x5120 .bf16) (harg1 : arg1.IsWhole) (arg2 : Memref sig .tc .smem S1x2 .f32) (harg2 : arg2.IsWhole) (arg3 : Memref sig .tc .vmem S16x5120 .bf16) (harg3 : arg3.IsWhole) (hc0 : ¬cond0_0 i) (hc1 : ¬cond0_1 i)
    (x0 : Vec F S512x5120 .bf16) (xs0 : Vec F S16x5120 .bf16) : Vec F S16x5120 .bf16 :=
  VS0_0.read (Elt F) (VS0_0.writes (Elt F) VS0_0.junk (kernelRun0_B c i arg1 harg1 arg2 harg2 arg3 harg3 hc0 hc1 x0 xs0).2.1)

/-- Case C's pieces for output 1 tile its block (2 stores of `S1x1`, checked by the kernel's evaluation: Lib/Ring.lean `Piece.tiledL`, linear in the pieces, through a loop's `@[irreducible]` trip theorem too), so they cover it. -/
theorem cover0_C_1 (c : Dev nD) (i : grid0.Coords) (arg1 : Memref sig .tc .vmem S512x5120 .bf16) (harg1 : arg1.IsWhole) (arg2 : Memref sig .tc .smem S1x2 .f32) (harg2 : arg2.IsWhole) (arg3 : Memref sig .tc .vmem S16x5120 .bf16) (harg3 : arg3.IsWhole) (hc0 : ¬cond0_0 i) (hc1 : cond0_1 i)
    (x0 : Vec F S512x5120 .bf16) (xs0 : Vec F S16x5120 .bf16) (y : S1x2.Idx) :
    ∃ pc ∈ (kernelRun0_C c i arg1 harg1 arg2 harg2 arg3 harg3 hc0 hc1 x0 xs0).1, y ∈ pc.1.set :=
  View.cover_of_tiledL (kernelRun0_C c i arg1 harg1 arg2 harg2 arg3 harg3 hc0 hc1 x0 xs0).1 S1x1.size (by sl_kernel_rfl) y

/-- What case C leaves in output 1's staging buffer: its pieces read back over junk. -/
def out0_C_1 (c : Dev nD) (i : grid0.Coords) (arg1 : Memref sig .tc .vmem S512x5120 .bf16) (harg1 : arg1.IsWhole) (arg2 : Memref sig .tc .smem S1x2 .f32) (harg2 : arg2.IsWhole) (arg3 : Memref sig .tc .vmem S16x5120 .bf16) (harg3 : arg3.IsWhole) (hc0 : ¬cond0_0 i) (hc1 : cond0_1 i)
    (x0 : Vec F S512x5120 .bf16) (xs0 : Vec F S16x5120 .bf16) : Vec F S1x2 .f32 :=
  VO0_1.read (Elt F) (VO0_1.writes (Elt F) VO0_1.junk (kernelRun0_C c i arg1 harg1 arg2 harg2 arg3 harg3 hc0 hc1 x0 xs0).1)

/-- Case C's pieces for scratch `arg3`, which the kernel carries between points, cover it: 1 piece of `S16x5120` tiling it (Lib/Ring.lean `Piece.tiledL`). -/
theorem scover0_C_0 (c : Dev nD) (i : grid0.Coords) (arg1 : Memref sig .tc .vmem S512x5120 .bf16) (harg1 : arg1.IsWhole) (arg2 : Memref sig .tc .smem S1x2 .f32) (harg2 : arg2.IsWhole) (arg3 : Memref sig .tc .vmem S16x5120 .bf16) (harg3 : arg3.IsWhole) (hc0 : ¬cond0_0 i) (hc1 : cond0_1 i)
    (x0 : Vec F S512x5120 .bf16) (xs0 : Vec F S16x5120 .bf16) (y : S16x5120.Idx) :
    ∃ pc ∈ (kernelRun0_C c i arg1 harg1 arg2 harg2 arg3 harg3 hc0 hc1 x0 xs0).2.1, y ∈ pc.1.set :=
  View.cover_of_tiledL (kernelRun0_C c i arg1 harg1 arg2 harg2 arg3 harg3 hc0 hc1 x0 xs0).2.1 S16x5120.size (by sl_kernel_rfl) y

/-- What case C leaves in scratch `arg3`: its pieces read back over junk. -/
def sout0_C_0 (c : Dev nD) (i : grid0.Coords) (arg1 : Memref sig .tc .vmem S512x5120 .bf16) (harg1 : arg1.IsWhole) (arg2 : Memref sig .tc .smem S1x2 .f32) (harg2 : arg2.IsWhole) (arg3 : Memref sig .tc .vmem S16x5120 .bf16) (harg3 : arg3.IsWhole) (hc0 : ¬cond0_0 i) (hc1 : cond0_1 i)
    (x0 : Vec F S512x5120 .bf16) (xs0 : Vec F S16x5120 .bf16) : Vec F S16x5120 .bf16 :=
  VS0_0.read (Elt F) (VS0_0.writes (Elt F) VS0_0.junk (kernelRun0_C c i arg1 harg1 arg2 harg2 arg3 harg3 hc0 hc1 x0 xs0).2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1x2 .f32 × Vec F S16x5120 .bf16
  | 0, hn => (out0_A_1 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk V c 0 ⟨0, hn⟩), sout0_A_0 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk V c 0 ⟨0, hn⟩))
  | n + 1, hn =>
    if h0 : (n + 1) % 64 = 0 then
      if h1 : (n + 1) % 64 = 63 then
        False.elim (by have hN : n + 1 < 64 := lt_of_lt_of_eq hn (show cfg0.N = 64 from N_0); omega)
      else
        (out0_A_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (iblk V c 0 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (iblk V c 0 ⟨n + 1, hn⟩))
    else
      if h1 : (n + 1) % 64 = 63 then
        (out0_C_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk V c 0 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk V c 0 ⟨n + 1, hn⟩) (outsAt0 c n (Nat.lt_of_succ_lt hn)).2)
      else
        (out0_B_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk V c 0 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk V c 0 ⟨n + 1, hn⟩) (outsAt0 c n (Nat.lt_of_succ_lt hn)).2)

/-- `outsAt0` at a point of case A: that case's contents. -/
theorem outsAt0_A (c : Dev nD) (t : Fin cfg0.N) (h0 : t.val % 64 = 0) (h1 : ¬t.val % 64 = 63) :
    outsAt0 V c t.val t.isLt = (out0_A_1 c (grid0.coords t) (ms0_0 t) (hs0_0 t) (ms0_1 t) (hs0_1 t) scM0_0 (Memref.isWhole_whole _) ((hcond0_0 t).mpr h0) (fun h => h1 ((hcond0_1 t).mp h)) (iblk V c 0 t), sout0_A_0 c (grid0.coords t) (ms0_0 t) (hs0_0 t) (ms0_1 t) (hs0_1 t) scM0_0 (Memref.isWhole_whole _) ((hcond0_0 t).mpr h0) (fun h => h1 ((hcond0_1 t).mp h)) (iblk V c 0 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 64 = 0) (h1 : ¬t.val % 64 = 63) :
    outsAt0 V c t.val t.isLt = (out0_B_1 c (grid0.coords t) (ms0_0 t) (hs0_0 t) (ms0_1 t) (hs0_1 t) scM0_0 (Memref.isWhole_whole _) (fun h => h0 ((hcond0_0 t).mp h)) (fun h => h1 ((hcond0_1 t).mp h)) (iblk V c 0 t) (outsAt0 V c (t.val - 1) (Nat.lt_of_le_of_lt (Nat.sub_le _ _) t.isLt)).2, sout0_B_0 c (grid0.coords t) (ms0_0 t) (hs0_0 t) (ms0_1 t) (hs0_1 t) scM0_0 (Memref.isWhole_whole _) (fun h => h0 ((hcond0_0 t).mp h)) (fun h => h1 ((hcond0_1 t).mp h)) (iblk V c 0 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 64 = 0) (h1 : t.val % 64 = 63) :
    outsAt0 V c t.val t.isLt = (out0_C_1 c (grid0.coords t) (ms0_0 t) (hs0_0 t) (ms0_1 t) (hs0_1 t) scM0_0 (Memref.isWhole_whole _) (fun h => h0 ((hcond0_0 t).mp h)) ((hcond0_1 t).mpr h1) (iblk V c 0 t) (outsAt0 V c (t.val - 1) (Nat.lt_of_le_of_lt (Nat.sub_le _ _) t.isLt)).2, sout0_C_0 c (grid0.coords t) (ms0_0 t) (hs0_0 t) (ms0_1 t) (hs0_1 t) scM0_0 (Memref.isWhole_whole _) (fun h => h0 ((hcond0_0 t).mp h)) ((hcond0_1 t).mpr h1) (iblk V c 0 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(owns (c : Thread nD τ) scM0_0 fullShare ((outsAt0 V c n hn).2) ∗ others c)

theorem PhiS_zero (c : Dev nD) (n : ℕ) (h : n ≤ cfg0.N) (hz : n = 0) : PhiS V c n h = Pipeline.ΦA spec0 c := by
  subst hz; rfl

/-- After point `n` (before point `n + 1`): the carried scratch at that point's contents. -/
theorem PhiS_succ (c : Dev nD) (n : ℕ) (hn : n < cfg0.N) :
    PhiS V c (n + 1) hn = iprop(owns (c : Thread nD τ) scM0_0 fullShare ((outsAt0 V c n hn).2) ∗ others c) := rfl

/-- Before a point that is not the first: the carried scratch at what the point before left. -/
theorem PhiS_pos (c : Dev nD) (n : ℕ) (h : n ≤ cfg0.N) (hz : n ≠ 0) :
    PhiS V c n h = iprop(owns (c : Thread nD τ) scM0_0 fullShare ((outsAt0 V c (n - 1) (by omega)).2) ∗ others c) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => (outsAt0 V c t.val t.isLt).1
  Φ t := PhiS V c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dat V c).A w = V c (Pipeline.arrRef spec0 w) := by
  dsimp only [dat]

/-- The invariant at a point's start (the proof data at `t.castSucc`), restated at `t.val`. -/
theorem PhiS_castSucc (c : Dev nD) (t : Fin cfg0.N) :
    (dat V c).Φ t.castSucc = PhiS V c t.val (Nat.le_of_lt t.isLt) := by
  dsimp only [dat]; exact Pipeline.Dat.Φ_castSucc (PhiS V c) t

/-- What the body leaves, window by window (the proof data's `match` reduced by `dsimp`). -/
theorem after0_0 (c : Dev nD) (t : Fin cfg0.N) : (dat V c).after 0 t = iblk V c 0 t := by dsimp only [dat]
theorem after0_1 (c : Dev nD) (t : Fin cfg0.N) : (dat V c).after 1 t = (outsAt0 V c t.val t.isLt).1 := by dsimp only [dat]

/-- Each input's current staging buffer holds its block at every point, fetched there or not (`beforeK_W_of`). -/
theorem before0_0 (c : Dev nD) (t : Fin cfg0.N) (d) : (dat V c).before 0 t d = iblk V c 0 t :=
  before0_0_of V (dat V c) (A_eq V c 0) (after0_0 V c) t d

/-! ## The body obligation, at a generic point -/

/-- What the body is called with at point `t` (Lib/Pipeline.lean `BodyObligation`'s precondition, the windows one by one), -/
def bodyPre (c : Dev nD) (t : Fin cfg0.N) : sProp 𝕄 :=
  iprop((dat V c).Φ t.castSucc ∗ (dat V c).owesAt () t.castSucc
    ∗ (∃ d, owns (c : Thread nD τ) (ms0_0 t) fullShare ((dat V c).before 0 t d))
    ∗ (∃ d, owns (c : Thread nD τ) (ms0_1 t) fullShare ((dat V c).before 1 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t)

set_option maxHeartbeats 4800000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0]
  rw [show (dat V c).owesAt () t.succ = (dat V c).owesAt () t.castSucc from rfl]
  rw [show (dat V c).Φ t.succ = PhiS V c (t.val + 1) t.isLt from rfl, PhiS_succ]
  have hN : t.val < 64 := lt_of_lt_of_eq t.isLt (show cfg0.N = 64 from N_0)
  by_cases h0 : t.val % 64 = 0
  · by_cases h1 : t.val % 64 = 63
    · exfalso; omega
    · rw [show (dat V c).leavesExact 0 t = owns (c : Thread nD τ) (ms0_0 t) fullShare ((dat V c).after 0 t) from by
      unfold Dat.leavesExact; rw [liveAt0_0 t], after0_0]
      rw [Dat.leavesExact_idle (dat V c) 1 t (idleAt0_1_A t ((hcond0_0 t).mpr h0) (fun h => h1 ((hcond0_1 t).mp h))) (noFlush0_1_A t ((hcond0_0 t).mpr h0) (fun h => h1 ((hcond0_1 t).mp h)))]
      by_cases hz : t.val = 0
      · rw [PhiS_castSucc V c t, PhiS_zero V c _ _ hz, PhiA0_eq]
        rw [outsAt0_A V c t h0 h1]
        unfold sout0_A_0; (try dsimp only)
        iintro ⟨⟨HS0, Hg⟩, Ho, ⟨%d0, H0⟩, ⟨%d1, H1⟩⟩
        iapply ((kernelRun0_A c (grid0.coords t) _ _ _ _ _ _ ((hcond0_0 t).mpr h0) (fun h => h1 ((hcond0_1 t).mp h)) (iblk V c 0 t)).2.2 _ Set.univ _)
        isplitl [H0]; · iexact H0
        isplitl [H1]; · iexact H1
        isplitl [HS0]; · iexact HS0
        iintro ⟨H0, H1, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _)
          iexact Hg
        isplitl [Ho]; · iexact Ho
        isplitl [H0]; · iexact H0
        iexists _; iexact H1
      · exfalso; have hN : t.val < 64 := lt_of_lt_of_eq t.isLt (show cfg0.N = 64 from N_0); omega
  · by_cases h1 : t.val % 64 = 63
    · rw [show (dat V c).leavesExact 0 t = owns (c : Thread nD τ) (ms0_0 t) fullShare ((dat V c).after 0 t) from by
      unfold Dat.leavesExact; rw [liveAt0_0 t], after0_0]
      rw [show (dat V c).leavesExact 1 t = owns (c : Thread nD τ) (ms0_1 t) fullShare ((dat V c).after 1 t) from by
      unfold Dat.leavesExact; rw [liveAt0_1_C t (fun h => h0 ((hcond0_0 t).mp h)) ((hcond0_1 t).mpr h1)], after0_1]
      by_cases hz : t.val = 0
      · exfalso; have hN : t.val < 64 := lt_of_lt_of_eq t.isLt (show cfg0.N = 64 from N_0); omega
      · rw [PhiS_castSucc V c t, PhiS_pos V c _ _ hz]
        rw [outsAt0_C V c t h0 h1]
        unfold out0_C_1 sout0_C_0; (try dsimp only)
        iintro ⟨⟨HS0, Hg⟩, Ho, ⟨%d0, H0⟩, ⟨%d1, H1⟩⟩
        iapply ((kernelRun0_C c (grid0.coords t) _ _ _ _ _ _ (fun h => h0 ((hcond0_0 t).mp h)) ((hcond0_1 t).mpr h1) (iblk V c 0 t) _).2.2 Set.univ _)
        isplitl [H0]; · iexact H0
        isplitl [H1]; · iexists _; iexact H1
        isplitl [HS0]; · iexact HS0
        iintro ⟨H0, ⟨%e1, H1⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _)
          iexact Hg
        isplitl [Ho]; · iexact Ho
        isplitl [H0]; · iexact H0
        unfold owns; iexists _; isplitr
        swap; · iexact H1
        ipureintro; exact View.read_writes_of_cover _ _ _ _ _ (cover0_C_1 c _ _ _ _ _ _ _ _ _ _ _)
    · rw [show (dat V c).leavesExact 0 t = owns (c : Thread nD τ) (ms0_0 t) fullShare ((dat V c).after 0 t) from by
      unfold Dat.leavesExact; rw [liveAt0_0 t], after0_0]
      rw [Dat.leavesExact_idle (dat V c) 1 t (idleAt0_1_B t (fun h => h0 ((hcond0_0 t).mp h)) (fun h => h1 ((hcond0_1 t).mp h))) (noFlush0_1_B t (fun h => h0 ((hcond0_0 t).mp h)) (fun h => h1 ((hcond0_1 t).mp h)))]
      by_cases hz : t.val = 0
      · exfalso; have hN : t.val < 64 := lt_of_lt_of_eq t.isLt (show cfg0.N = 64 from N_0); omega
      · rw [PhiS_castSucc V c t, PhiS_pos V c _ _ hz]
        rw [outsAt0_B V c t h0 h1]
        unfold sout0_B_0; (try dsimp only)
        iintro ⟨⟨HS0, Hg⟩, Ho, ⟨%d0, H0⟩, ⟨%d1, H1⟩⟩
        iapply ((kernelRun0_B c (grid0.coords t) _ _ _ _ _ _ (fun h => h0 ((hcond0_0 t).mp h)) (fun h => h1 ((hcond0_1 t).mp h)) (iblk V c 0 t) _).2.2 _ Set.univ _)
        isplitl [H0]; · iexact H0
        isplitl [H1]; · iexact H1
        isplitl [HS0]; · iexact HS0
        iintro ⟨H0, H1, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _)
          iexact Hg
        isplitl [Ho]; · iexact Ho
        isplitl [H0]; · iexact H0
        iexists _; iexact H1

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dat (F := F) V c) (defs₀ (F := F)) Variants.none () Set.univ := fun t => by
  rw [bigSep_W0, bigSep_W0, defs₀_row]
  exact triple_restated (sound_body V c t) rfl .rfl fun _ => .rfl

/-- What the launch hands the region (`ΦA`) is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dat V c).Φ t ⊢ Pipeline.ΦA spec0 c := by
  rw [show (dat V c).Φ t = PhiS V c t.val (Nat.le_of_lt_succ t.isLt) from rfl, PhiS_pos V c _ _ ht, PhiA0_eq]
  iintro ⟨HS0, Hg⟩
  isplitl [HS0]
  · iexists _; iexact HS0
  iexact Hg

/-- The same after the last point. -/
theorem hout (c : Dev nD) : (dat V c).Φ (Fin.last cfg0.N) ⊢ Pipeline.ΦA spec0 c :=
  Phi_out V c _ (by rw [Fin.val_last]; have : cfg0.N = 64 := N_0; omega)

end Cert.KernelIdeal.R0

end
-- ==== Proof.IR1Run.lean ====
/- Region 1 of `KernelIdeal` (the quantiser): its branch conditions, its blocks and the runs of its body. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The kernel body on any staging memrefs: a subtype the run finds -/

/-- One staging buffer of output window 2, through which its contents are stated (`View.read_writes_of_cover`: the
    choice does not matter). -/
abbrev VO0_2 : View sig .tc .vmem S512x5120 .fp8e5m2 := (Memref.whole cc1_stg2_0 : Memref sig .tc .vmem S512x5120 .fp8e5m2).view
/-- Each window's current staging memref at point `t`, spelled as the pipeline passes it (`bodyAt1`), and its wholeness. -/
abbrev ms0_0 (t : Fin cfg1.N) : Memref sig .tc .smem S1x2 .f32 := win1_0.stage (cfg1.slots t 0)
abbrev hs0_0 (t : Fin cfg1.N) : (ms0_0 t).IsWhole := hstage1_0 ((cfg1.slots t 0).cast nbuf1_0)
abbrev ms0_1 (t : Fin cfg1.N) : Memref sig .tc .vmem S512x5120 .bf16 := win1_1.stage (cfg1.slots t 1)
abbrev hs0_1 (t : Fin cfg1.N) : (ms0_1 t).IsWhole := hstage1_1 ((cfg1.slots t 1).cast nbuf1_1)
abbrev ms0_2 (t : Fin cfg1.N) : Memref sig .tc .vmem S512x5120 .fp8e5m2 := win1_2.stage (cfg1.slots t 2)
abbrev hs0_2 (t : Fin cfg1.N) : (ms0_2 t).IsWhole := hstage1_2 ((cfg1.slots t 2).cast nbuf1_2)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid1.Coords) (arg1 : Memref sig .tc .smem S1x2 .f32) (harg1 : arg1.IsWhole) (arg2 : Memref sig .tc .vmem S512x5120 .bf16) (harg2 : arg2.IsWhole) (arg3 : Memref sig .tc .vmem S512x5120 .fp8e5m2) (harg3 : arg3.IsWhole)
    (x0 : Vec F S1x2 .f32) (x1 : Vec F S512x5120 .bf16) :
    { L2 : List (View.Piece (Elt F) S512x5120 .fp8e5m2) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2)) -∗ K ⟨⟩))
          ⊢ wp frame (wpE (defs₀ (F := F)) Variants.none c none) E (cc1_quantise i arg1 harg1 arg2 harg2 arg3 harg3) K } := by
  refine ⟨?_, fun E K => ?run⟩
  case run =>
    simp only [cc1_quantise_eq_skeleton]; unfold cc1_quantise_skel
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    iexists _; iexact H2

end Cert.KernelIdeal.R1

end
-- ==== Proof.IR1.lean ====
/- Region 1 of `KernelIdeal` (the quantiser): what each point leaves, the proof data and the body obligation. -/
module

public import proofs.«01_k».proof.Proof.IR1Run
public import Idealize.ShloMosaic.Lib.Claim

@[expose] public section

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The run's pieces for output 2 tile its block (1 store of `S512x5120`, checked by the kernel's evaluation: Lib/Ring.lean `Piece.tiledL`, linear in the pieces, through a loop's `@[irreducible]` trip theorem too), so they cover it. -/
theorem cover0_A_2 (c : Dev nD) (i : grid1.Coords) (arg1 : Memref sig .tc .smem S1x2 .f32) (harg1 : arg1.IsWhole) (arg2 : Memref sig .tc .vmem S512x5120 .bf16) (harg2 : arg2.IsWhole) (arg3 : Memref sig .tc .vmem S512x5120 .fp8e5m2) (harg3 : arg3.IsWhole)
    (x0 : Vec F S1x2 .f32) (x1 : Vec F S512x5120 .bf16) (y : S512x5120.Idx) :
    ∃ pc ∈ (kernelRun0_A c i arg1 harg1 arg2 harg2 arg3 harg3 x0 x1).1, y ∈ pc.1.set :=
  View.cover_of_tiledL (kernelRun0_A c i arg1 harg1 arg2 harg2 arg3 harg3 x0 x1).1 S512x5120.size (by sl_kernel_rfl) y

/-- What the run leaves in output 2's staging buffer: its pieces read back over junk. -/
def out0_A_2 (c : Dev nD) (i : grid1.Coords) (arg1 : Memref sig .tc .smem S1x2 .f32) (harg1 : arg1.IsWhole) (arg2 : Memref sig .tc .vmem S512x5120 .bf16) (harg2 : arg2.IsWhole) (arg3 : Memref sig .tc .vmem S512x5120 .fp8e5m2) (harg3 : arg3.IsWhole)
    (x0 : Vec F S1x2 .f32) (x1 : Vec F S512x5120 .bf16) : Vec F S512x5120 .fp8e5m2 :=
  VO0_2.read (Elt F) (VO0_2.writes (Elt F) VO0_2.junk (kernelRun0_A c i arg1 harg1 arg2 harg2 arg3 harg3 x0 x1).1)

/-! ## What the outputs hold after each point -/

/-- What the outputs' staging buffers hold after the body at point `t`: the run's contents at
    the point's memrefs and input blocks. -/
def outsAt0 (c : Dev nD) (t : Fin cfg1.N) : Vec F S512x5120 .fp8e5m2 :=
  out0_A_2 c (grid1.coords t) (ms0_0 t) (hs0_0 t) (ms0_1 t) (hs0_1 t) (ms0_2 t) (hs0_2 t) (iblk V c 0 t) (iblk V c 1 t)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => (outsAt0 V c t)
  Φ _ := Pipeline.ΦA spec1 c
  q _ := fullShare
  owed _ := 0

/-- The proof data's arrays are the region-entry contents: the proof data's definition projected (`dsimp`), so that
    `V` — a fold over @main's host prefix, long for some programs — is never unfolded to check it. -/
theorem A_eq (c : Dev nD) (w : Fin cfg1.W) : (dat V c).A w = V c (Pipeline.arrRef spec1 w) := by
  dsimp only [dat]

/-- What the body leaves, window by window (the proof data's `match` reduced by `dsimp`). -/
theorem after0_0 (c : Dev nD) (t : Fin cfg1.N) : (dat V c).after 0 t = iblk V c 0 t := by dsimp only [dat]
theorem after0_1 (c : Dev nD) (t : Fin cfg1.N) : (dat V c).after 1 t = iblk V c 1 t := by dsimp only [dat]
theorem after0_2 (c : Dev nD) (t : Fin cfg1.N) : (dat V c).after 2 t = (outsAt0 V c t) := by dsimp only [dat]

/-- Each input's current staging buffer holds its block at every point, fetched there or not (`beforeK_W_of`). -/
theorem before0_0 (c : Dev nD) (t : Fin cfg1.N) (d) : (dat V c).before 0 t d = iblk V c 0 t :=
  before0_0_of V (dat V c) (A_eq V c 0) (after0_0 V c) t d
theorem before0_1 (c : Dev nD) (t : Fin cfg1.N) (d) : (dat V c).before 1 t d = iblk V c 1 t :=
  before0_1_of V (dat V c) (A_eq V c 1) (after0_1 V c) t d

/-! ## The body obligation, at a generic point -/

/-- What the body is called with at point `t` (Lib/Pipeline.lean `BodyObligation`'s precondition, the windows one by one), -/
def bodyPre (c : Dev nD) (t : Fin cfg1.N) : sProp 𝕄 :=
  iprop((dat V c).Φ t.castSucc ∗ (dat V c).owesAt () t.castSucc
    ∗ (∃ d, owns (c : Thread nD τ) (ms0_0 t) fullShare ((dat V c).before 0 t d))
    ∗ (∃ d, owns (c : Thread nD τ) (ms0_1 t) fullShare ((dat V c).before 1 t d))
    ∗ (∃ d, owns (c : Thread nD τ) (ms0_2 t) fullShare ((dat V c).before 2 t d)))

/-- and what it returns. -/
def bodyPost (c : Dev nD) (t : Fin cfg1.N) : sProp 𝕄 :=
  iprop((dat V c).Φ t.succ ∗ (dat V c).owesAt () t.succ
    ∗ owns (c : Thread nD τ) (ms0_0 t) fullShare ((dat V c).after 0 t)
    ∗ owns (c : Thread nD τ) (ms0_1 t) fullShare ((dat V c).after 1 t)
    ∗ owns (c : Thread nD τ) (ms0_2 t) fullShare ((dat V c).after 2 t))

/-- The body at any point: the inputs' memrefs hold their blocks (`before0_W`); so the
    run applies; the invariant passes through unread; the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0_0, before0_1]
  rw [show (dat V c).Φ t.succ = (dat V c).Φ t.castSucc from rfl,
    show (dat V c).owesAt () t.succ = (dat V c).owesAt () t.castSucc from rfl,
    after0_0, after0_1, after0_2]
  unfold outsAt0
  unfold out0_A_2
  iintro ⟨HΦ, Ho, ⟨%d0, H0⟩, ⟨%d1, H1⟩, ⟨%d2, H2⟩⟩
  iapply ((kernelRun0_A c (grid1.coords t) _ _ _ _ _ _ (iblk V c 0 t) (iblk V c 1 t)).2 Set.univ _)
  isplitl [H0]; · iexact H0
  isplitl [H1]; · iexact H1
  isplitl [H2]; · iexists _; iexact H2
  iintro ⟨H0, H1, ⟨%e2, H2⟩⟩
  isplitl [HΦ]; · iexact HΦ
  isplitl [Ho]; · iexact Ho
  isplitl [H0]; · iexact H0
  isplitl [H1]; · iexact H1
  unfold owns; iexists _; isplitr
  swap; · iexact H2
  ipureintro; exact View.read_writes_of_cover _ _ _ _ _ (cover0_A_2 c _ _ _ _ _ _ _ _ _)

/-- The body table's row at point `t`'s slots is the body as `bodyAt1` spells it. -/
theorem defs₀_row (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation (c : Dev nD) : BodyObligation (dat (F := F) V c) (defs₀ (F := F)) Variants.none () Set.univ := fun t => by
  rw [bigSep_W1, bigSep_W1, defs₀_row]
  exact triple_restated (sound_body V c t) rfl .rfl fun _ => .rfl

end Cert.KernelIdeal.R1

end
-- ==== Proof.IR2Run.lean ====
/- Region 2 of `KernelIdeal` (the product): its branch conditions, its blocks and the runs of its body. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.R2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg2 c) (hA : dat.A 4 = V c (Pipeline.arrRef spec2 4))
    (hafter : ∀ t, dat.after 4 t = iblk V c 4 t) (t : Fin cfg2.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k2_h1`), from the grid coordinates (the skeleton's scalar
    chain substituted). -/
abbrev cond0_0 (i : grid2.Coords) : Prop := (Scalar.cmpi .ne (Scalar.extui (Scalar.cmpi .eq (BitVec.ofNat 32 (i 2).val) 0#32)) 0#32) = 1#1
/-- It holds at the points ≡ 0 (mod 32) — by arithmetic of the point. -/
theorem hcond0_0 : ∀ t : Fin cfg2.N, cond0_0 (grid2.coords t) ↔ t.val % 32 = 0 :=
  (fun t => by
    have ht : t.val < 384 := Nat.lt_of_lt_of_eq t.isLt N_2
    have e0 : (grid2.coords t 0).val = t.val / 128 % 3 := Pipeline.Grid.coords_val t 0 (by decide) rfl
    have e1 : (grid2.coords t 1).val = t.val / 32 % 4 := Pipeline.Grid.coords_val t 1 (by decide) rfl
    have e2 : (grid2.coords t 2).val = t.val / 1 % 32 := Pipeline.Grid.coords_val t 2 (by decide) rfl
    simp only [cond0_0, e0, e1, e2]
    word_cmp
   : ∀ t : Fin grid2.N, cond0_0 (grid2.coords t) ↔ t.val % 32 = 0)

/-- The condition of the body's `scf.if` 1 (`k2_h2`), from the grid coordinates (the skeleton's scalar
    chain substituted). -/
abbrev cond0_1 (i : grid2.Coords) : Prop := (Scalar.cmpi .ne (Scalar.extui (Scalar.cmpi .eq (BitVec.ofNat 32 (i 2).val) 31#32)) 0#32) = 1#1
/-- It holds at the points ≡ 31 (mod 32) — by arithmetic of the point. -/
theorem hcond0_1 : ∀ t : Fin cfg2.N, cond0_1 (grid2.coords t) ↔ t.val % 32 = 31 :=
  (fun t => by
    have ht : t.val < 384 := Nat.lt_of_lt_of_eq t.isLt N_2
    have e0 : (grid2.coords t 0).val = t.val / 128 % 3 := Pipeline.Grid.coords_val t 0 (by decide) rfl
    have e1 : (grid2.coords t 1).val = t.val / 32 % 4 := Pipeline.Grid.coords_val t 1 (by decide) rfl
    have e2 : (grid2.coords t 2).val = t.val / 1 % 32 := Pipeline.Grid.coords_val t 2 (by decide) rfl
    simp only [cond0_1, e0, e1, e2]
    word_cmp
   : ∀ t : Fin grid2.N, cond0_1 (grid2.coords t) ↔ t.val % 32 = 31)

/-! ## The kernel body on any staging memrefs: a subtype the run finds -/

/-- One staging buffer of output window 5, through which its contents are stated (`View.read_writes_of_cover`: the
    choice does not matter). -/
abbrev VO0_5 : View sig .tc .vmem S2304x1280 .f32 := (Memref.whole cc2_stg5_0 : Memref sig .tc .vmem S2304x1280 .f32).view
/-- Each window's current staging memref at point `t`, spelled as the pipeline passes it (`bodyAt2`), and its wholeness. -/
abbrev ms0_0 (t : Fin cfg2.N) : Memref sig .tc .smem S1x2 .f32 := win2_0.stage (cfg2.slots t 0)
abbrev hs0_0 (t : Fin cfg2.N) : (ms0_0 t).IsWhole := hstage2_0 ((cfg2.slots t 0).cast nbuf2_0)
abbrev ms0_1 (t : Fin cfg2.N) : Memref sig .tc .smem S1x1 .f32 := win2_1.stage (cfg2.slots t 1)
abbrev hs0_1 (t : Fin cfg2.N) : (ms0_1 t).IsWhole := hstage2_1 ((cfg2.slots t 1).cast nbuf2_1)
abbrev ms0_2 (t : Fin cfg2.N) : Memref sig .tc .vmem S1024x2304 .fp8e4m3 := win2_2.stage (cfg2.slots t 2)
abbrev hs0_2 (t : Fin cfg2.N) : (ms0_2 t).IsWhole := hstage2_2 ((cfg2.slots t 2).cast nbuf2_2)
abbrev ms0_3 (t : Fin cfg2.N) : Memref sig .tc .vmem S1024x1280 .fp8e5m2 := win2_3.stage (cfg2.slots t 3)
abbrev hs0_3 (t : Fin cfg2.N) : (ms0_3 t).IsWhole := hstage2_3 ((cfg2.slots t 3).cast nbuf2_3)
abbrev ms0_4 (t : Fin cfg2.N) : Memref sig .tc .vmem S2304x1280 .f32 := win2_4.stage (cfg2.slots t 4)
abbrev hs0_4 (t : Fin cfg2.N) : (ms0_4 t).IsWhole := hstage2_4 ((cfg2.slots t 4).cast nbuf2_4)
abbrev ms0_5 (t : Fin cfg2.N) : Memref sig .tc .vmem S2304x1280 .f32 := win2_5.stage (cfg2.slots t 5)
abbrev hs0_5 (t : Fin cfg2.N) : (ms0_5 t).IsWhole := hstage2_5 ((cfg2.slots t 5).cast nbuf2_5)

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0, 32, … 352: 12 of 384), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid2.Coords) (arg3 : Memref sig .tc .smem S1x2 .f32) (harg3 : arg3.IsWhole) (arg4 : Memref sig .tc .smem S1x1 .f32) (harg4 : arg4.IsWhole) (arg5 : Memref sig .tc .vmem S1024x2304 .fp8e4m3) (harg5 : arg5.IsWhole) (arg6 : Memref sig .tc .vmem S1024x1280 .fp8e5m2) (harg6 : arg6.IsWhole) (arg7 : Memref sig .tc .vmem S2304x1280 .f32) (harg7 : arg7.IsWhole) (arg8 : Memref sig .tc .vmem S2304x1280 .f32) (harg8 : arg8.IsWhole) (hc0 : cond0_0 i) (hc1 : ¬cond0_1 i)
    (x0 : Vec F S1x2 .f32) (x1 : Vec F S1x1 .f32) (x2 : Vec F S1024x2304 .fp8e4m3) (x3 : Vec F S1024x1280 .fp8e5m2) (x4 : Vec F S2304x1280 .f32) :
    { L5 : List (View.Piece (Elt F) S2304x1280 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5)) -∗ K ⟨⟩))
          ⊢ wp frame (wpE (defs₀ (F := F)) Variants.none c none) E (cc2_wgrad i arg3 harg3 arg4 harg4 arg5 harg5 arg6 harg6 arg7 harg7 arg8 harg8) K } := by
  refine ⟨?_, fun E K => ?run⟩
  case run =>
    simp only [cc2_wgrad_eq_skeleton]; unfold cc2_wgrad_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg3.eq_unread hf0; obtain rfl := harg4.eq_unread hf1; obtain rfl := harg5.eq_unread hf2; obtain rfl := harg6.eq_unread hf3; obtain rfl := harg7.eq_unread hf4
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact H5

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 382: 360 of 384), WITH the
    proof that on whole staging memrefs — the inputs' at their contents, the outputs it reads before covering (5) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid2.Coords) (arg3 : Memref sig .tc .smem S1x2 .f32) (harg3 : arg3.IsWhole) (arg4 : Memref sig .tc .smem S1x1 .f32) (harg4 : arg4.IsWhole) (arg5 : Memref sig .tc .vmem S1024x2304 .fp8e4m3) (harg5 : arg5.IsWhole) (arg6 : Memref sig .tc .vmem S1024x1280 .fp8e5m2) (harg6 : arg6.IsWhole) (arg7 : Memref sig .tc .vmem S2304x1280 .f32) (harg7 : arg7.IsWhole) (arg8 : Memref sig .tc .vmem S2304x1280 .f32) (harg8 : arg8.IsWhole) (hc0 : ¬cond0_0 i) (hc1 : ¬cond0_1 i)
    (x0 : Vec F S1x2 .f32) (x1 : Vec F S1x1 .f32) (x2 : Vec F S1024x2304 .fp8e4m3) (x3 : Vec F S1024x1280 .fp8e5m2) (x4 : Vec F S2304x1280 .f32) (xo5 : Vec F S2304x1280 .f32) :
    { L5 : List (View.Piece (Elt F) S2304x1280 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xo5
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5)) -∗ K ⟨⟩))
          ⊢ wp frame (wpE (defs₀ (F := F)) Variants.none c none) E (cc2_wgrad i arg3 harg3 arg4 harg4 arg5 harg5 arg6 harg6 arg7 harg7 arg8 harg8) K } := by
  refine ⟨?_, fun E K => ?run⟩
  case run =>
    simp only [cc2_wgrad_eq_skeleton]; unfold cc2_wgrad_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact H5

-- (the run's proof term is large: the definition's epilogue — `abstractNestedProofs` — walks it past the default budget)
set_option maxHeartbeats 1000000 in
/-- What the body's stores leave in each output's staging memref, as pieces (last first) IN CASE C (`scf.if` 0 not taken, `scf.if` 1 taken: points 31, 63, … 383: 12 of 384), WITH the
    proof that on whole staging memrefs — the inputs' at their contents, the outputs it reads before covering (5) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid2.Coords) (arg3 : Memref sig .tc .smem S1x2 .f32) (harg3 : arg3.IsWhole) (arg4 : Memref sig .tc .smem S1x1 .f32) (harg4 : arg4.IsWhole) (arg5 : Memref sig .tc .vmem S1024x2304 .fp8e4m3) (harg5 : arg5.IsWhole) (arg6 : Memref sig .tc .vmem S1024x1280 .fp8e5m2) (harg6 : arg6.IsWhole) (arg7 : Memref sig .tc .vmem S2304x1280 .f32) (harg7 : arg7.IsWhole) (arg8 : Memref sig .tc .vmem S2304x1280 .f32) (harg8 : arg8.IsWhole) (hc0 : ¬cond0_0 i) (hc1 : cond0_1 i)
    (x0 : Vec F S1x2 .f32) (x1 : Vec F S1x1 .f32) (x2 : Vec F S1024x2304 .fp8e4m3) (x3 : Vec F S1024x1280 .fp8e5m2) (x4 : Vec F S2304x1280 .f32) (xo5 : Vec F S2304x1280 .f32) :
    { L5 : List (View.Piece (Elt F) S2304x1280 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xo5
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5)) -∗ K ⟨⟩))
          ⊢ wp frame (wpE (defs₀ (F := F)) Variants.none c none) E (cc2_wgrad i arg3 harg3 arg4 harg4 arg5 harg5 arg6 harg6 arg7 harg7 arg8 harg8) K } := by
  refine ⟨?_, fun E K => ?run⟩
  case run =>
    simp only [cc2_wgrad_eq_skeleton]; unfold cc2_wgrad_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact H5

end Cert.KernelIdeal.R2

end
-- ==== Proof.IR2.lean ====
/- Region 2 of `KernelIdeal` (the product): what each point leaves, the proof data and the body obligation. -/
module

public import proofs.«01_k».proof.Proof.IR2Run
public import Idealize.ShloMosaic.Lib.Claim

@[expose] public section

set_option maxRecDepth 16384

noncomputable section

namespace Cert.KernelIdeal.R2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Case A's pieces for output 5 tile its block (2 stores of `S2304x1280`, checked by the kernel's evaluation: Lib/Ring.lean `Piece.tiledL`, linear in the pieces, through a loop's `@[irreducible]` trip theorem too), so they cover it. -/
theorem cover0_A_5 (c : Dev nD) (i : grid2.Coords) (arg3 : Memref sig .tc .smem S1x2 .f32) (harg3 : arg3.IsWhole) (arg4 : Memref sig .tc .smem S1x1 .f32) (harg4 : arg4.IsWhole) (arg5 : Memref sig .tc .vmem S1024x2304 .fp8e4m3) (harg5 : arg5.IsWhole) (arg6 : Memref sig .tc .vmem S1024x1280 .fp8e5m2) (harg6 : arg6.IsWhole) (arg7 : Memref sig .tc .vmem S2304x1280 .f32) (harg7 : arg7.IsWhole) (arg8 : Memref sig .tc .vmem S2304x1280 .f32) (harg8 : arg8.IsWhole) (hc0 : cond0_0 i) (hc1 : ¬cond0_1 i)
    (x0 : Vec F S1x2 .f32) (x1 : Vec F S1x1 .f32) (x2 : Vec F S1024x2304 .fp8e4m3) (x3 : Vec F S1024x1280 .fp8e5m2) (x4 : Vec F S2304x1280 .f32) (y : S2304x1280.Idx) :
    ∃ pc ∈ (kernelRun0_A c i arg3 harg3 arg4 harg4 arg5 harg5 arg6 harg6 arg7 harg7 arg8 harg8 hc0 hc1 x0 x1 x2 x3 x4).1, y ∈ pc.1.set :=
  View.cover_of_tiledL (kernelRun0_A c i arg3 harg3 arg4 harg4 arg5 harg5 arg6 harg6 arg7 harg7 arg8 harg8 hc0 hc1 x0 x1 x2 x3 x4).1 S2304x1280.size (by sl_kernel_rfl) y

/-- What case A leaves in output 5's staging buffer: its pieces read back over junk. -/
def out0_A_5 (c : Dev nD) (i : grid2.Coords) (arg3 : Memref sig .tc .smem S1x2 .f32) (harg3 : arg3.IsWhole) (arg4 : Memref sig .tc .smem S1x1 .f32) (harg4 : arg4.IsWhole) (arg5 : Memref sig .tc .vmem S1024x2304 .fp8e4m3) (harg5 : arg5.IsWhole) (arg6 : Memref sig .tc .vmem S1024x1280 .fp8e5m2) (harg6 : arg6.IsWhole) (arg7 : Memref sig .tc .vmem S2304x1280 .f32) (harg7 : arg7.IsWhole) (arg8 : Memref sig .tc .vmem S2304x1280 .f32) (harg8 : arg8.IsWhole) (hc0 : cond0_0 i) (hc1 : ¬cond0_1 i)
    (x0 : Vec F S1x2 .f32) (x1 : Vec F S1x1 .f32) (x2 : Vec F S1024x2304 .fp8e4m3) (x3 : Vec F S1024x1280 .fp8e5m2) (x4 : Vec F S2304x1280 .f32) : Vec F S2304x1280 .f32 :=
  VO0_5.read (Elt F) (VO0_5.writes (Elt F) VO0_5.junk (kernelRun0_A c i arg3 harg3 arg4 harg4 arg5 harg5 arg6 harg6 arg7 harg7 arg8 harg8 hc0 hc1 x0 x1 x2 x3 x4).1)

/-- Case B's pieces for output 5 tile its block (1 store of `S2304x1280`, checked by the kernel's evaluation: Lib/Ring.lean `Piece.tiledL`, linear in the pieces, through a loop's `@[irreducible]` trip theorem too), so they cover it. -/
theorem cover0_B_5 (c : Dev nD) (i : grid2.Coords) (arg3 : Memref sig .tc .smem S1x2 .f32) (harg3 : arg3.IsWhole) (arg4 : Memref sig .tc .smem S1x1 .f32) (harg4 : arg4.IsWhole) (arg5 : Memref sig .tc .vmem S1024x2304 .fp8e4m3) (harg5 : arg5.IsWhole) (arg6 : Memref sig .tc .vmem S1024x1280 .fp8e5m2) (harg6 : arg6.IsWhole) (arg7 : Memref sig .tc .vmem S2304x1280 .f32) (harg7 : arg7.IsWhole) (arg8 : Memref sig .tc .vmem S2304x1280 .f32) (harg8 : arg8.IsWhole) (hc0 : ¬cond0_0 i) (hc1 : ¬cond0_1 i)
    (x0 : Vec F S1x2 .f32) (x1 : Vec F S1x1 .f32) (x2 : Vec F S1024x2304 .fp8e4m3) (x3 : Vec F S1024x1280 .fp8e5m2) (x4 : Vec F S2304x1280 .f32) (xo5 : Vec F S2304x1280 .f32) (y : S2304x1280.Idx) :
    ∃ pc ∈ (kernelRun0_B c i arg3 harg3 arg4 harg4 arg5 harg5 arg6 harg6 arg7 harg7 arg8 harg8 hc0 hc1 x0 x1 x2 x3 x4 xo5).1, y ∈ pc.1.set :=
  View.cover_of_tiledL (kernelRun0_B c i arg3 harg3 arg4 harg4 arg5 harg5 arg6 harg6 arg7 harg7 arg8 harg8 hc0 hc1 x0 x1 x2 x3 x4 xo5).1 S2304x1280.size (by sl_kernel_rfl) y

/-- What case B leaves in output 5's staging buffer: its pieces read back over junk. -/
def out0_B_5 (c : Dev nD) (i : grid2.Coords) (arg3 : Memref sig .tc .smem S1x2 .f32) (harg3 : arg3.IsWhole) (arg4 : Memref sig .tc .smem S1x1 .f32) (harg4 : arg4.IsWhole) (arg5 : Memref sig .tc .vmem S1024x2304 .fp8e4m3) (harg5 : arg5.IsWhole) (arg6 : Memref sig .tc .vmem S1024x1280 .fp8e5m2) (harg6 : arg6.IsWhole) (arg7 : Memref sig .tc .vmem S2304x1280 .f32) (harg7 : arg7.IsWhole) (arg8 : Memref sig .tc .vmem S2304x1280 .f32) (harg8 : arg8.IsWhole) (hc0 : ¬cond0_0 i) (hc1 : ¬cond0_1 i)
    (x0 : Vec F S1x2 .f32) (x1 : Vec F S1x1 .f32) (x2 : Vec F S1024x2304 .fp8e4m3) (x3 : Vec F S1024x1280 .fp8e5m2) (x4 : Vec F S2304x1280 .f32) (xo5 : Vec F S2304x1280 .f32) : Vec F S2304x1280 .f32 :=
  VO0_5.read (Elt F) (VO0_5.writes (Elt F) VO0_5.junk (kernelRun0_B c i arg3 harg3 arg4 harg4 arg5 harg5 arg6 harg6 arg7 harg7 arg8 harg8 hc0 hc1 x0 x1 x2 x3 x4 xo5).1)

/-- Case C's pieces for output 5 tile its block (2 stores of `S2304x1280`, checked by the kernel's evaluation: Lib/Ring.lean `Piece.tiledL`, linear in the pieces, through a loop's `@[irreducible]` trip theorem too), so they cover it. -/
theorem cover0_C_5 (c : Dev nD) (i : grid2.Coords) (arg3 : Memref sig .tc .smem S1x2 .f32) (harg3 : arg3.IsWhole) (arg4 : Memref sig .tc .smem S1x1 .f32) (harg4 : arg4.IsWhole) (arg5 : Memref sig .tc .vmem S1024x2304 .fp8e4m3) (harg5 : arg5.IsWhole) (arg6 : Memref sig .tc .vmem S1024x1280 .fp8e5m2) (harg6 : arg6.IsWhole) (arg7 : Memref sig .tc .vmem S2304x1280 .f32) (harg7 : arg7.IsWhole) (arg8 : Memref sig .tc .vmem S2304x1280 .f32) (harg8 : arg8.IsWhole) (hc0 : ¬cond0_0 i) (hc1 : cond0_1 i)
    (x0 : Vec F S1x2 .f32) (x1 : Vec F S1x1 .f32) (x2 : Vec F S1024x2304 .fp8e4m3) (x3 : Vec F S1024x1280 .fp8e5m2) (x4 : Vec F S2304x1280 .f32) (xo5 : Vec F S2304x1280 .f32) (y : S2304x1280.Idx) :
    ∃ pc ∈ (kernelRun0_C c i arg3 harg3 arg4 harg4 arg5 harg5 arg6 harg6 arg7 harg7 arg8 harg8 hc0 hc1 x0 x1 x2 x3 x4 xo5).1, y ∈ pc.1.set :=
  View.cover_of_tiledL (kernelRun0_C c i arg3 harg3 arg4 harg4 arg5 harg5 arg6 harg6 arg7 harg7 arg8 harg8 hc0 hc1 x0 x1 x2 x3 x4 xo5).1 S2304x1280.size (by sl_kernel_rfl) y

/-- What case C leaves in output 5's staging buffer: its pieces read back over junk. -/
def out0_C_5 (c : Dev nD) (i : grid2.Coords) (arg3 : Memref sig .tc .smem S1x2 .f32) (harg3 : arg3.IsWhole) (arg4 : Memref sig .tc .smem S1x1 .f32) (harg4 : arg4.IsWhole) (arg5 : Memref sig .tc .vmem S1024x2304 .fp8e4m3) (harg5 : arg5.IsWhole) (arg6 : Memref sig .tc .vmem S1024x1280 .fp8e5m2) (harg6 : arg6.IsWhole) (arg7 : Memref sig .tc .vmem S2304x1280 .f32) (harg7 : arg7.IsWhole) (arg8 : Memref sig .tc .vmem S2304x1280 .f32) (harg8 : arg8.IsWhole) (hc0 : ¬cond0_0 i) (hc1 : cond0_1 i)
    (x0 : Vec F S1x2 .f32) (x1 : Vec F S1x1 .f32) (x2 : Vec F S1024x2304 .fp8e4m3) (x3 : Vec F S1024x1280 .fp8e5m2) (x4 : Vec F S2304x1280 .f32) (xo5 : Vec F S2304x1280 .f32) : Vec F S2304x1280 .f32 :=
  VO0_5.read (Elt F) (VO0_5.writes (Elt F) VO0_5.junk (kernelRun0_C c i arg3 harg3 arg4 harg4 arg5 harg5 arg6 harg6 arg7 harg7 arg8 harg8 hc0 hc1 x0 x1 x2 x3 x4 xo5).1)

/-! ## What the outputs hold after each point -/

/-- THE ACCUMULATION. What the outputs' staging buffers hold after the body at position `n`:
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg2.N → Vec F S2304x1280 .f32
  | 0, hn => out0_A_5 c (grid2.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (fun h => (fun h => by (try dsimp only at h); omega) ((hcond0_1 ⟨0, hn⟩).mp h)) (iblk V c 0 ⟨0, hn⟩) (iblk V c 1 ⟨0, hn⟩) (iblk V c 2 ⟨0, hn⟩) (iblk V c 3 ⟨0, hn⟩) (iblk V c 4 ⟨0, hn⟩)
  | n + 1, hn =>
    if h0 : (n + 1) % 32 = 0 then
      if h1 : (n + 1) % 32 = 31 then
        False.elim (by have hN : n + 1 < 384 := lt_of_lt_of_eq hn (show cfg2.N = 384 from N_2); omega)
      else
        out0_A_5 c (grid2.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (fun h => h1 ((hcond0_1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩)
    else
      if h1 : (n + 1) % 32 = 31 then
        out0_C_5 c (grid2.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) ((hcond0_1 ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (outsAt0 c n (Nat.lt_of_succ_lt hn))
      else
        out0_B_5 c (grid2.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) (fun h => h1 ((hcond0_1 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (outsAt0 c n (Nat.lt_of_succ_lt hn))

/-- `outsAt0` at a point of case A: that case's contents. -/
theorem outsAt0_A (c : Dev nD) (t : Fin cfg2.N) (h0 : t.val % 32 = 0) (h1 : ¬t.val % 32 = 31) :
    outsAt0 V c t.val t.isLt = out0_A_5 c (grid2.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (fun h => h1 ((hcond0_1 t).mp h)) (iblk V c 0 t) (iblk V c 1 t) (iblk V c 2 t) (iblk V c 3 t) (iblk V c 4 t) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg2.N) (h0 : ¬t.val % 32 = 0) (h1 : ¬t.val % 32 = 31) :
    outsAt0 V c t.val t.isLt = out0_B_5 c (grid2.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (fun h => h1 ((hcond0_1 t).mp h)) (iblk V c 0 t) (iblk V c 1 t) (iblk V c 2 t) (iblk V c 3 t) (iblk V c 4 t) (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg2.N) (h0 : ¬t.val % 32 = 0) (h1 : t.val % 32 = 31) :
    outsAt0 V c t.val t.isLt = out0_C_5 c (grid2.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) ((hcond0_1 t).mpr h1) (iblk V c 0 t) (iblk V c 1 t) (iblk V c 2 t) (iblk V c 3 t) (iblk V c 4 t) (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => (outsAt0 V c t.val t.isLt)
  Φ _ := Pipeline.ΦA spec2 c
  q _ := fullShare
  owed _ := 0

/-- The proof data's arrays are the region-entry contents: the proof data's definition projected (`dsimp`), so that
    `V` — a fold over @main's host prefix, long for some programs — is never unfolded to check it. -/
theorem A_eq (c : Dev nD) (w : Fin cfg2.W) : (dat V c).A w = V c (Pipeline.arrRef spec2 w) := by
  dsimp only [dat]

/-- What the body leaves, window by window (the proof data's `match` reduced by `dsimp`). -/
theorem after0_0 (c : Dev nD) (t : Fin cfg2.N) : (dat V c).after 0 t = iblk V c 0 t := by dsimp only [dat]
theorem after0_1 (c : Dev nD) (t : Fin cfg2.N) : (dat V c).after 1 t = iblk V c 1 t := by dsimp only [dat]
theorem after0_2 (c : Dev nD) (t : Fin cfg2.N) : (dat V c).after 2 t = iblk V c 2 t := by dsimp only [dat]
theorem after0_3 (c : Dev nD) (t : Fin cfg2.N) : (dat V c).after 3 t = iblk V c 3 t := by dsimp only [dat]
theorem after0_4 (c : Dev nD) (t : Fin cfg2.N) : (dat V c).after 4 t = iblk V c 4 t := by dsimp only [dat]
theorem after0_5 (c : Dev nD) (t : Fin cfg2.N) : (dat V c).after 5 t = (outsAt0 V c t.val t.isLt) := by dsimp only [dat]

/-- Each input's current staging buffer holds its block at every point, fetched there or not (`beforeK_W_of`). -/
theorem before0_0 (c : Dev nD) (t : Fin cfg2.N) (d) : (dat V c).before 0 t d = iblk V c 0 t :=
  before0_0_of V (dat V c) (A_eq V c 0) (after0_0 V c) t d
theorem before0_1 (c : Dev nD) (t : Fin cfg2.N) (d) : (dat V c).before 1 t d = iblk V c 1 t :=
  before0_1_of V (dat V c) (A_eq V c 1) (after0_1 V c) t d
theorem before0_2 (c : Dev nD) (t : Fin cfg2.N) (d) : (dat V c).before 2 t d = iblk V c 2 t :=
  before0_2_of V (dat V c) (A_eq V c 2) (after0_2 V c) t d
theorem before0_3 (c : Dev nD) (t : Fin cfg2.N) (d) : (dat V c).before 3 t d = iblk V c 3 t :=
  before0_3_of V (dat V c) (A_eq V c 3) (after0_3 V c) t d
theorem before0_4 (c : Dev nD) (t : Fin cfg2.N) (d) : (dat V c).before 4 t d = iblk V c 4 t :=
  before0_4_of V (dat V c) (A_eq V c 4) (after0_4 V c) t d
/-- At a point of case B output 5's current staging buffer holds what the body left at the point before: the point is
    not the first, the buffer was not written back between (`flush2_5`), the window is live and uncut (Lib/Pipeline/Frame.lean
    `Dat.before_out_kept`). -/
theorem before0_5_B (c : Dev nD) (t : Fin cfg2.N) (h0 : ¬t.val % 32 = 0) (h1 : ¬t.val % 32 = 31) (d) :
    (dat V c).before 5 t d = (outsAt0 V c (t.val - 1) (Nat.lt_of_le_of_lt (Nat.sub_le _ _) t.isLt)) := by
  have hN : t.val < 384 := lt_of_lt_of_eq t.isLt (show cfg2.N = 384 from N_2)
  rw [Dat.before_out_kept _ 5 rfl t (by omega) (Bool.eq_false_iff.mpr fun h => by have := (flush2_5 _).mp h; dsimp only at this; omega)
    (fun _ => rfl) (fun _ _ => rfl)]
  dsimp only [dat]
/-- At a point of case C output 5's current staging buffer holds what the body left at the point before: the point is
    not the first, the buffer was not written back between (`flush2_5`), the window is live and uncut (Lib/Pipeline/Frame.lean
    `Dat.before_out_kept`). -/
theorem before0_5_C (c : Dev nD) (t : Fin cfg2.N) (h0 : ¬t.val % 32 = 0) (h1 : t.val % 32 = 31) (d) :
    (dat V c).before 5 t d = (outsAt0 V c (t.val - 1) (Nat.lt_of_le_of_lt (Nat.sub_le _ _) t.isLt)) := by
  have hN : t.val < 384 := lt_of_lt_of_eq t.isLt (show cfg2.N = 384 from N_2)
  rw [Dat.before_out_kept _ 5 rfl t (by omega) (Bool.eq_false_iff.mpr fun h => by have := (flush2_5 _).mp h; dsimp only at this; omega)
    (fun _ => rfl) (fun _ _ => rfl)]
  dsimp only [dat]

/-! ## The body obligation, at a generic point -/

/-- What the body is called with at point `t` (Lib/Pipeline.lean `BodyObligation`'s precondition, the windows one by one), -/
def bodyPre (c : Dev nD) (t : Fin cfg2.N) : sProp 𝕄 :=
  iprop((dat V c).Φ t.castSucc ∗ (dat V c).owesAt () t.castSucc
    ∗ (∃ d, owns (c : Thread nD τ) (ms0_0 t) fullShare ((dat V c).before 0 t d))
    ∗ (∃ d, owns (c : Thread nD τ) (ms0_1 t) fullShare ((dat V c).before 1 t d))
    ∗ (∃ d, owns (c : Thread nD τ) (ms0_2 t) fullShare ((dat V c).before 2 t d))
    ∗ (∃ d, owns (c : Thread nD τ) (ms0_3 t) fullShare ((dat V c).before 3 t d))
    ∗ (∃ d, owns (c : Thread nD τ) (ms0_4 t) fullShare ((dat V c).before 4 t d))
    ∗ (∃ d, owns (c : Thread nD τ) (ms0_5 t) fullShare ((dat V c).before 5 t d)))

/-- and what it returns. -/
def bodyPost (c : Dev nD) (t : Fin cfg2.N) : sProp 𝕄 :=
  iprop((dat V c).Φ t.succ ∗ (dat V c).owesAt () t.succ
    ∗ owns (c : Thread nD τ) (ms0_0 t) fullShare ((dat V c).after 0 t)
    ∗ owns (c : Thread nD τ) (ms0_1 t) fullShare ((dat V c).after 1 t)
    ∗ owns (c : Thread nD τ) (ms0_2 t) fullShare ((dat V c).after 2 t)
    ∗ owns (c : Thread nD τ) (ms0_3 t) fullShare ((dat V c).after 3 t)
    ∗ owns (c : Thread nD τ) (ms0_4 t) fullShare ((dat V c).after 4 t)
    ∗ owns (c : Thread nD τ) (ms0_5 t) fullShare ((dat V c).after 5 t))

set_option maxHeartbeats 1200000 in
/-- The body at any point: the inputs' memrefs hold their blocks (`before0_W`); the closed forms say which case the point is in (`by_cases`), an output the case reads before covering holds what the point before left (`before0_W_κ`); so the
    run applies; the invariant passes through unread; the core owes nothing throughout. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before0_0, before0_1, before0_2, before0_3, before0_4]
  rw [show (dat V c).Φ t.succ = (dat V c).Φ t.castSucc from rfl,
    show (dat V c).owesAt () t.succ = (dat V c).owesAt () t.castSucc from rfl,
    after0_0, after0_1, after0_2, after0_3, after0_4, after0_5]
  have hN : t.val < 384 := lt_of_lt_of_eq t.isLt (show cfg2.N = 384 from N_2)
  by_cases h0 : t.val % 32 = 0
  · by_cases h1 : t.val % 32 = 31
    · exfalso; omega
    · rw [outsAt0_A V c t h0 h1]
      unfold out0_A_5
      iintro ⟨HΦ, Ho, ⟨%d0, H0⟩, ⟨%d1, H1⟩, ⟨%d2, H2⟩, ⟨%d3, H3⟩, ⟨%d4, H4⟩, ⟨%d5, H5⟩⟩
      iapply ((kernelRun0_A c (grid2.coords t) _ _ _ _ _ _ _ _ _ _ _ _ ((hcond0_0 t).mpr h0) (fun h => h1 ((hcond0_1 t).mp h)) (iblk V c 0 t) (iblk V c 1 t) (iblk V c 2 t) (iblk V c 3 t) (iblk V c 4 t)).2 Set.univ _)
      isplitl [H0]; · iexact H0
      isplitl [H1]; · iexact H1
      isplitl [H2]; · iexact H2
      isplitl [H3]; · iexact H3
      isplitl [H4]; · iexact H4
      isplitl [H5]; · iexists _; iexact H5
      iintro ⟨H0, H1, H2, H3, H4, ⟨%e5, H5⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover0_A_5 c _ _ _ _ _ _ _ _ _ _ _ _ _ _ _ _ _ _ _ _)
  · by_cases h1 : t.val % 32 = 31
    · rw [outsAt0_C V c t h0 h1]
      simp only [before0_5_C V c t h0 h1]
      unfold out0_C_5
      iintro ⟨HΦ, Ho, ⟨%d0, H0⟩, ⟨%d1, H1⟩, ⟨%d2, H2⟩, ⟨%d3, H3⟩, ⟨%d4, H4⟩, ⟨%d5, H5⟩⟩
      iapply ((kernelRun0_C c (grid2.coords t) _ _ _ _ _ _ _ _ _ _ _ _ (fun h => h0 ((hcond0_0 t).mp h)) ((hcond0_1 t).mpr h1) (iblk V c 0 t) (iblk V c 1 t) (iblk V c 2 t) (iblk V c 3 t) (iblk V c 4 t) _).2 Set.univ _)
      isplitl [H0]; · iexact H0
      isplitl [H1]; · iexact H1
      isplitl [H2]; · iexact H2
      isplitl [H3]; · iexact H3
      isplitl [H4]; · iexact H4
      isplitl [H5]; · iexact H5
      iintro ⟨H0, H1, H2, H3, H4, ⟨%e5, H5⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover0_C_5 c _ _ _ _ _ _ _ _ _ _ _ _ _ _ _ _ _ _ _ _ _)
    · rw [outsAt0_B V c t h0 h1]
      simp only [before0_5_B V c t h0 h1]
      unfold out0_B_5
      iintro ⟨HΦ, Ho, ⟨%d0, H0⟩, ⟨%d1, H1⟩, ⟨%d2, H2⟩, ⟨%d3, H3⟩, ⟨%d4, H4⟩, ⟨%d5, H5⟩⟩
      iapply ((kernelRun0_B c (grid2.coords t) _ _ _ _ _ _ _ _ _ _ _ _ (fun h => h0 ((hcond0_0 t).mp h)) (fun h => h1 ((hcond0_1 t).mp h)) (iblk V c 0 t) (iblk V c 1 t) (iblk V c 2 t) (iblk V c 3 t) (iblk V c 4 t) _).2 Set.univ _)
      isplitl [H0]; · iexact H0
      isplitl [H1]; · iexact H1
      isplitl [H2]; · iexact H2
      isplitl [H3]; · iexact H3
      isplitl [H4]; · iexact H4
      isplitl [H5]; · iexact H5
      iintro ⟨H0, H1, H2, H3, H4, ⟨%e5, H5⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover0_B_5 c _ _ _ _ _ _ _ _ _ _ _ _ _ _ _ _ _ _ _ _ _)

/-- The body table's row at point `t`'s slots is the body as `bodyAt2` spells it. -/
theorem defs₀_row (t : Fin cfg2.N) :
    defs₀ (F := F) .tc cfg2.body (cfg2.bodyArgs t (cfg2.slots t)) = bodyAt2 t := by
  unfold defs₀; rw [Defs.onTc_tc]

/-- The library's body obligation, at every point: the body's triple restated (Lib/Pipeline/FrameBody.lean `triple_restated`). -/
theorem body_obligation (c : Dev nD) : BodyObligation (dat (F := F) V c) (defs₀ (F := F)) Variants.none () Set.univ := fun t => by
  rw [bigSep_W2, bigSep_W2, defs₀_row]
  exact triple_restated (sound_body V c t) rfl .rfl fun _ => .rfl

end Cert.KernelIdeal.R2

end
-- ==== Proof.IRun.lean ====
/- The run of `KernelIdeal`: three regions and the host operations around them, from any launch memory, with every buffer of
   the end named. -/
module

public import proofs.«01_k».proof.Proof.IR0
public import proofs.«01_k».proof.Proof.IR1
public import proofs.«01_k».proof.Proof.IR2
public import proofs.«01_k».proof.Proof.Gen.KernelIdeal.Regions
public import Idealize.ShloMosaic.Lib.Pipeline.RegionArraysS

@[expose] public section

set_option maxRecDepth 16384

noncomputable section

namespace Cert.KernelIdeal.Whole

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers between the items of @main -/

/-- A valuation of each core's buffers, read at the TensorCore's references. -/
abbrev atRefs (W : Dev nD → Valuation τ sig (Elt F)) (c : Dev nD) (b : Ref sig .tc) : Buf (Elt F) ((c : Thread nD τ).loc b) :=
  W c (Proc.devRef .tc b)

/-- The buffers at launch. -/
def W0 (c : Dev nD) : Valuation τ sig (Elt F) := fun b => m (c, b)
/-- After the two reshapes of the arguments. -/
def W1 (c : Dev nD) : Valuation τ sig (Elt F) := StableHlo.after hostOps0 (W0 m c)
/-- After the running maximum. -/
def W2 (c : Dev nD) : Valuation τ sig (Elt F) := Pipeline.afterRegion (R0.dat (atRefs (W1 m)) c) (W1 m c)
/-- After the quantiser. -/
def W3 (c : Dev nD) : Valuation τ sig (Elt F) := Pipeline.afterRegion (R1.dat (atRefs (W2 m)) c) (W2 m c)
/-- After the reshape of the scale of `x`. -/
def W4 (c : Dev nD) : Valuation τ sig (Elt F) := StableHlo.after hostOps2 (W3 m c)
/-- After the product. -/
def W5 (c : Dev nD) : Valuation τ sig (Elt F) := Pipeline.afterRegion (R2.dat (atRefs (W4 m)) c) (W4 m c)
/-- After the results are taken out. -/
def W6 (c : Dev nD) : Valuation τ sig (Elt F) := StableHlo.after hostOps3 (W5 m c)

/-! ## An item keeps what it does not write -/

theorem W1_of (c : Dev nD) (r : Ref sig .tc) (h : r ∉ hostOps0_W) : W1 m c r = W0 m c r :=
  StableHlo.after_of_writes_sub hostOps0 _ hostOps0_writes h
theorem W2_of (c : Dev nD) (r : Ref sig .tc) (h : ∀ w, Pipeline.arrRef spec0 w = r → (cfg0.win w).isOut = false) : W2 m c r = W1 m c r :=
  Pipeline.afterRegion_keeps (R0.dat (atRefs (W1 m)) c) (W1 m c) launch0.win.arr_inj (R0.A_eq (atRefs (W1 m)) c) r h
theorem W3_of (c : Dev nD) (r : Ref sig .tc) (h : ∀ w, Pipeline.arrRef spec1 w = r → (cfg1.win w).isOut = false) : W3 m c r = W2 m c r :=
  Pipeline.afterRegion_keeps (R1.dat (atRefs (W2 m)) c) (W2 m c) launch1.win.arr_inj (R1.A_eq (atRefs (W2 m)) c) r h
theorem W4_of (c : Dev nD) (r : Ref sig .tc) (h : r ∉ hostOps2_W) : W4 m c r = W3 m c r :=
  StableHlo.after_of_writes_sub hostOps2 _ hostOps2_writes h
theorem W5_of (c : Dev nD) (r : Ref sig .tc) (h : ∀ w, Pipeline.arrRef spec2 w = r → (cfg2.win w).isOut = false) : W5 m c r = W4 m c r :=
  Pipeline.afterRegion_keeps (R2.dat (atRefs (W4 m)) c) (W4 m c) launch2.win.arr_inj (R2.A_eq (atRefs (W4 m)) c) r h
theorem W6_of (c : Dev nD) (r : Ref sig .tc) (h : r ∉ hostOps3_W) : W6 m c r = W5 m c r :=
  StableHlo.after_of_writes_sub hostOps3 _ hostOps3_writes h

/-- A buffer no item writes ends as launched. -/
theorem W6_kept (c : Dev nD) (r : Ref sig .tc) (h0 : r ∉ hostOps0_W) (h2 : r ∉ hostOps2_W) (h3 : r ∉ hostOps3_W)
    (k0 : ∀ w, Pipeline.arrRef spec0 w = r → (cfg0.win w).isOut = false) (k1 : ∀ w, Pipeline.arrRef spec1 w = r → (cfg1.win w).isOut = false)
    (k2 : ∀ w, Pipeline.arrRef spec2 w = r → (cfg2.win w).isOut = false) : W6 m c r = m ((c : Thread nD τ).loc r) :=
  (W6_of m c r h3).trans <| (W5_of m c r k2).trans <| (W4_of m c r h2).trans <| (W3_of m c r k1).trans <| (W2_of m c r k0).trans <|
    (W1_of m c r h0).trans rfl

/-! ## The segments -/

/-- The three regions' proof data. -/
def pdats : (p : Fin 3) → (c : Dev nD) → Dat τ (Elt F) Unit ℕ (UR sig nD τ) ℕ (cfgs p) c
  | ⟨0, _⟩ => fun c => R0.dat (atRefs (W1 m)) c
  | ⟨1, _⟩ => fun c => R1.dat (atRefs (W2 m)) c
  | ⟨2, _⟩ => fun c => R2.dat (atRefs (W4 m)) c

/-- One level at every cell of a TensorCore. -/
def L : GSem nD τ sig → Finset Unit := fun g => if g.1.2 = .tc then Finset.univ else ∅
abbrev lv : GSem nD τ sig → Unit → ℕ := fun _ _ => 0

/-- What rides beside the buffers: the core owing nothing, and the generator register at some state. -/
abbrev E (c : Dev nD) : sProp 𝕄 :=
  iprop((∃ Wd, owes (c : Thread nD τ) (0 : CellTallies nD τ sig Unit) Wd) ∗ (∃ r, prngReg c r) ∗ emp)

theorem cut (p : Fin 3) : Pipeline.LevelCut (pcfgs (F := F)) adm () L lv p (fun _ => (0 : CellTallies nD τ sig Unit)) (fun _ => 0) where
  hι c w s := by unfold L; rw [if_pos rfl]; exact Finset.mem_univ _
  hιb c w s := le_refl _
  hD c g i h := absurd h (lt_irrefl _)

/-- The launch's invariant is the scoped rest beside the generator register. -/
theorem toPhiA {gr W : ℕ} (spec : Fin W → Pipeline.WinSpec sig gr) (c : Dev nD) :
    iprop(Pipeline.scopedRest spec c ∗ (∃ r, prngReg c r)) ⊢ (Pipeline.ΦA spec c : sProp 𝕄) := by
  unfold Pipeline.ΦA; exact .rfl
theorem ofPhiA {gr W : ℕ} (spec : Fin W → Pipeline.WinSpec sig gr) (c : Dev nD) :
    (Pipeline.ΦA spec c : sProp 𝕄) ⊢ iprop(Pipeline.scopedRest spec c ∗ (∃ r, prngReg c r)) := by
  unfold Pipeline.ΦA; exact .rfl

set_option backward.isDefEq.respectTransparency.types false in
/-- The region of the running maximum. -/
def reg0 : RegionSeg (pcfgs (F := F)) adm (pdats m) () defs₀ Variants.none L lv 0 :=
  RegionSeg.ofHeldIn (pcfgs (F := F)) adm (pdats m) () defs₀ Variants.none L lv 0 (fun _ => 0) (Pipeline.ucRefs τ sig)
    (fun c => iprop(∃ r, prngReg c r)) (fun c => iprop(∃ r, prngReg c r)) (launch0.toP) rfl
    (fun c => (R0.body_obligation (atRefs (W1 m)) c).loose) (fun _ _ => rfl) (fun _ => rfl)
    (fun c => (R0.dat (atRefs (W1 m)) c).share_full fun _ => rfl)
    (fun c => (toPhiA spec0 c).trans (R0.hin (atRefs (W1 m)) c))
    (fun c => (R0.hout (atRefs (W1 m)) c).trans (ofPhiA spec0 c))
    (fun _ => 0) (cut 0) (fun _ => iprop(emp)) (W1 m) (fun c w => R0.A_eq (atRefs (W1 m)) c w)

set_option backward.isDefEq.respectTransparency.types false in
/-- The region of the quantiser. -/
def reg1 : RegionSeg (pcfgs (F := F)) adm (pdats m) () defs₀ Variants.none L lv 1 :=
  RegionSeg.ofHeldIn (pcfgs (F := F)) adm (pdats m) () defs₀ Variants.none L lv 1 (fun _ => 0) (Pipeline.ucRefs τ sig)
    (fun c => iprop(∃ r, prngReg c r)) (fun c => iprop(∃ r, prngReg c r)) (launch1.toP) rfl
    (fun c => (R1.body_obligation (atRefs (W2 m)) c).loose) (fun _ _ => rfl) (fun _ => rfl)
    (fun c => (R1.dat (atRefs (W2 m)) c).share_full fun _ => rfl)
    (fun c => toPhiA spec1 c) (fun c => ofPhiA spec1 c)
    (fun _ => 0) (cut 1) (fun _ => iprop(emp)) (W2 m) (fun c w => R1.A_eq (atRefs (W2 m)) c w)

set_option backward.isDefEq.respectTransparency.types false in
/-- The region of the product. -/
def reg2 : RegionSeg (pcfgs (F := F)) adm (pdats m) () defs₀ Variants.none L lv 2 :=
  RegionSeg.ofHeldIn (pcfgs (F := F)) adm (pdats m) () defs₀ Variants.none L lv 2 (fun _ => 0) (Pipeline.ucRefs τ sig)
    (fun c => iprop(∃ r, prngReg c r)) (fun c => iprop(∃ r, prngReg c r)) (launch2.toP) rfl
    (fun c => (R2.body_obligation (atRefs (W4 m)) c).loose) (fun _ _ => rfl) (fun _ => rfl)
    (fun c => (R2.dat (atRefs (W4 m)) c).share_full fun _ => rfl)
    (fun c => toPhiA spec2 c) (fun c => ofPhiA spec2 c)
    (fun _ => 0) (cut 2) (fun _ => iprop(emp)) (W4 m) (fun c w => R2.A_eq (atRefs (W4 m)) c w)

/-- A host stretch over the unscoped buffers. -/
def host0 : HostSeg (Ix := Unit) (Name := ℕ) (U := UR sig nD τ) (Lvl := ℕ) (pcfgs (F := F)) defs₀ Variants.none L lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) E
def host2 : HostSeg (Ix := Unit) (Name := ℕ) (U := UR sig nD τ) (Lvl := ℕ) (pcfgs (F := F)) defs₀ Variants.none L lv :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W3 m) E
def host3 : HostSeg (Ix := Unit) (Name := ℕ) (U := UR sig nD τ) (Lvl := ℕ) (pcfgs (F := F)) defs₀ Variants.none L lv :=
  HostSeg.ofOps _ _ _ _ _ (Pipeline.ucRefs τ sig) hostOps3
    (fun op h => Pipeline.sub_ucRefs op ((List.forall_iff_forall_mem.mp hostOps3_sub) op h))
    (fun op h => (List.forall_iff_forall_mem.mp hostOps3_fresh) op h) (W5 m) E

/-- @main as the six items, in order. -/
abbrev items (_ : Dev nD) : List (Seg (pcfgs (F := F)) adm (pdats m) () defs₀ Variants.none L lv) :=
  [.host (host0 m), .region (reg0 m), .region (reg1 m), .host (host2 m), .region (reg2 m), .host (host3 m)]

/-- The windows' arrays are unscoped buffers. -/
theorem sub0 : Pipeline.arrRefs (τ := τ) (pcfgs (F := F) 0).spec ⊆ Pipeline.ucRefs τ sig := Pipeline.arrRefs_sub_ucRefs spec0 (by decide)
theorem sub1 : Pipeline.arrRefs (τ := τ) (pcfgs (F := F) 1).spec ⊆ Pipeline.ucRefs τ sig := Pipeline.arrRefs_sub_ucRefs spec1 (by decide)
theorem sub2 : Pipeline.arrRefs (τ := τ) (pcfgs (F := F) 2).spec ⊆ Pipeline.ucRefs τ sig := Pipeline.arrRefs_sub_ucRefs spec2 (by decide)

theorem pre0 (c : Dev nD) : iprop(StableHlo.held (c : Thread nD τ) (Pipeline.ucRefs τ sig) (W1 m c) ∗ E c) ⊢ (reg0 m).pre c :=
  by unfold reg0; exact RegionSeg.ofHeldIn_pre (p := 0) (D := fun _ => 0) (W := W1 m) (R := fun _ => iprop(emp)) (X := fun c => iprop(∃ r, prngReg c r)) (Y := fun c => iprop(∃ r, prngReg c r)) (sub0 (F := F)) c
theorem post0 (c : Dev nD) : (reg0 m).post c ⊢ iprop(StableHlo.held (c : Thread nD τ) (Pipeline.ucRefs τ sig) (W2 m c) ∗ E c) :=
  by unfold reg0; exact RegionSeg.ofHeldIn_post (p := 0) (D := fun _ => 0) (W := W1 m) (R := fun _ => iprop(emp)) (X := fun c => iprop(∃ r, prngReg c r)) (Y := fun c => iprop(∃ r, prngReg c r)) (sub0 (F := F)) c
theorem pre1 (c : Dev nD) : iprop(StableHlo.held (c : Thread nD τ) (Pipeline.ucRefs τ sig) (W2 m c) ∗ E c) ⊢ (reg1 m).pre c :=
  by unfold reg1; exact RegionSeg.ofHeldIn_pre (p := 1) (D := fun _ => 0) (W := W2 m) (R := fun _ => iprop(emp)) (X := fun c => iprop(∃ r, prngReg c r)) (Y := fun c => iprop(∃ r, prngReg c r)) (sub1 (F := F)) c
theorem post1 (c : Dev nD) : (reg1 m).post c ⊢ iprop(StableHlo.held (c : Thread nD τ) (Pipeline.ucRefs τ sig) (W3 m c) ∗ E c) :=
  by unfold reg1; exact RegionSeg.ofHeldIn_post (p := 1) (D := fun _ => 0) (W := W2 m) (R := fun _ => iprop(emp)) (X := fun c => iprop(∃ r, prngReg c r)) (Y := fun c => iprop(∃ r, prngReg c r)) (sub1 (F := F)) c
theorem pre2 (c : Dev nD) : iprop(StableHlo.held (c : Thread nD τ) (Pipeline.ucRefs τ sig) (W4 m c) ∗ E c) ⊢ (reg2 m).pre c :=
  by unfold reg2; exact RegionSeg.ofHeldIn_pre (p := 2) (D := fun _ => 0) (W := W4 m) (R := fun _ => iprop(emp)) (X := fun c => iprop(∃ r, prngReg c r)) (Y := fun c => iprop(∃ r, prngReg c r)) (sub2 (F := F)) c
theorem post2 (c : Dev nD) : (reg2 m).post c ⊢ iprop(StableHlo.held (c : Thread nD τ) (Pipeline.ucRefs τ sig) (W5 m c) ∗ E c) :=
  by unfold reg2; exact RegionSeg.ofHeldIn_post (p := 2) (D := fun _ => 0) (W := W4 m) (R := fun _ => iprop(emp)) (X := fun c => iprop(∃ r, prngReg c r)) (Y := fun c => iprop(∃ r, prngReg c r)) (sub2 (F := F)) c

set_option backward.isDefEq.respectTransparency.types false in
/-- From any launch memory with zero counters every fair execution of @main ends, every unscoped buffer of the end holds
    what `W6` says and every counter is zero. -/
theorem run : θ_run defs (onTc (τ := τ) (main (F := F))) ⟨m, fun _ => 0, ρ⟩ (fun r =>
    (∀ c : Dev nD, ∀ b ∈ Pipeline.ucRefs τ sig, r.2.mem (c, b) = W6 m c b) ∧ r.2.sem = fun _ => 0) := by
  refine Pipeline.θ_run_regions_kit_dev_sems (pcfgs (F := F)) adm (pdats m) () cellOf_inj emb₁ defs₀ Variants.none L lv m ρ main
    (items m)
    (fun c Q => by
      rewrite [main_chain c, Seg.run_eq_chain,
        show (items m c).map Seg.prog = [
          StableHlo.seq hostOps0,
          Prog.lift (.customCall (Pipeline.entry 0) ()),
          Prog.lift (.customCall (Pipeline.entry 1) ()),
          StableHlo.seq hostOps2,
          Prog.lift (.customCall (Pipeline.entry 2) ()),
          StableHlo.seq hostOps3 ] from rfl]
      exact .rfl)
    (fun c => by simp only [items, Seg.pipes_host, Seg.pipes_region, Seg.pipes_nil]; decide) (O₀ := 0)
    (hL := fun g h => by unfold L; rw [if_neg h]) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ E c))
    (Tₙ := fun c => StableHlo.held (c : Thread nD τ) (Pipeline.ucRefs τ sig) (W6 m c))
    (hch := fun c => ⟨.rfl, pre0 m c, (post0 m c).trans (pre1 m c), post1 m c, pre2 m c, post2 m c,
      (show iprop(StableHlo.held (c : Thread nD τ) (Pipeline.ucRefs τ sig) (W6 m c) ∗ E c) ⊢ (_ : sProp 𝕄) from by
        iintro ⟨Hh, HO, -, -⟩
        isplitl [Hh] <;> iassumption)⟩)
    (hinit := by
      refine Pipeline.initEach L lv fun c => ?_
      rw [show unscopedBufs c (fun b => m ((c.tc : Thread nD τ).loc b)) = StableHlo.held (c : Thread nD τ) (Pipeline.ucRefs τ sig) (W0 m c)
        from Pipeline.unscopedBufs_held (Ix := Unit) (Name := ℕ) (U := UR sig nD τ) (Lvl := ℕ) c (W0 m c)]
      iintro ⟨⟨Hh, -, HO, -, Hp, -⟩, -⟩
      imodintro
      isplitl [Hh]; · iexact Hh
      isplitl [HO]; · iexists ∅; iexact HO
      isplitl [Hp]; · iexists _; iexact Hp
      iempintro)
    (QY := fun c s => ∀ b ∈ Pipeline.ucRefs τ sig, s.mem (c, b) = W6 m c b)
    (hfin := fun c s' => ?_) (hQ := fun _ h hz => ⟨h, funext fun g => hz g (.inr (regions_no_unscoped g.2))⟩)
  unfold StableHlo.held
  iintro ⟨Hh, HSI⟩
  ihave Hr := (pointsTo_read_all (Pipeline.ucRefs τ sig) (fun b => ((c : Thread nD τ).1, b)) (W6 m c) s') $$ [Hh HSI]
  · isplitl [Hh] <;> iassumption
  icases Hr with ⟨%h, HSI⟩
  imodintro
  isplitr
  · ipureintro; exact h
  iexact HSI

/-- A TensorCore reference that is not scoped is among the buffers the run names. -/
theorem mem_uc (r : Ref sig .tc) (h : r.isScoped = false) : (Proc.devRef .tc r : DevRef τ sig) ∈ Pipeline.ucRefs τ sig :=
  Finset.mem_filter.mpr ⟨StableHlo.devRef_mem_tcRefs r, fun h' => Bool.false_ne_true (h.symm.trans h')⟩

theorem W6_main_arg0 (c : Dev nD) : W6 m c main_arg0 = m ((c : Thread nD τ).loc main_arg0) :=
  W6_kept m c main_arg0 (by decide) (by decide) (by decide) (by decide) (by decide) (by decide)
theorem W6_main_arg1 (c : Dev nD) : W6 m c main_arg1 = m ((c : Thread nD τ).loc main_arg1) :=
  W6_kept m c main_arg1 (by decide) (by decide) (by decide) (by decide) (by decide) (by decide)
theorem W6_main_arg2 (c : Dev nD) : W6 m c main_arg2 = m ((c : Thread nD τ).loc main_arg2) :=
  W6_kept m c main_arg2 (by decide) (by decide) (by decide) (by decide) (by decide) (by decide)
theorem W6_main_arg3 (c : Dev nD) : W6 m c main_arg3 = m ((c : Thread nD τ).loc main_arg3) :=
  W6_kept m c main_arg3 (by decide) (by decide) (by decide) (by decide) (by decide) (by decide)

/-- The run's end at the arguments and the results. -/
theorem run_ends : θ_run defs (onTc (τ := τ) (main (F := F))) ⟨m, fun _ => 0, ρ⟩ (fun r => (∀ c : Dev nD,
      (r.2.mem ((c.tc : Thread nD τ).loc main_v5) = W6 m c main_v5
      ∧ r.2.mem ((c.tc : Thread nD τ).loc main_v6) = W6 m c main_v6
      ∧ r.2.mem ((c.tc : Thread nD τ).loc main_v8) = W6 m c main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c =>
    ⟨⟨h.1 c _ (mem_uc main_v5 (by decide)), h.1 c _ (mem_uc main_v6 (by decide)), h.1 c _ (mem_uc main_v8 (by decide))⟩,
      (h.1 c _ (mem_uc main_arg0 (by decide))).trans (W6_main_arg0 m c),
      (h.1 c _ (mem_uc main_arg1 (by decide))).trans (W6_main_arg1 m c),
      (h.1 c _ (mem_uc main_arg2 (by decide))).trans (W6_main_arg2 m c),
      (h.1 c _ (mem_uc main_arg3 (by decide))).trans (W6_main_arg3 m c)⟩, h.2⟩) (run m ρ)

/-- The frame: the arguments end as launched, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => (h.1 c).2, h.2⟩) (run_ends m ρ)

end Cert.KernelIdeal.Whole

end
-- ==== Proof.MatTN.lean ====
/- A product that contracts the rows of both operands, `[K, M]ᵀ × [K, N]`, read at an element over the reals; and a sum
   over a range taken in blocks. -/
module

public import Idealize.ShloMosaic.PureOps.Ideal.Laws
public import Idealize.ShloMosaic.Lib.ValueIdxCore
public import Idealize.ShloMosaic.Lib.MatmulPlain

@[expose] public section

namespace Cert.Lib

open Idealize.ShloMosaic Idealize.ShloMosaic.ValueIdx
open scoped BigOperators

/-- The dimension numbers of `[K, M]ᵀ × [K, N]`. -/
abbrev tn (K M N : ℕ) (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

theorem tn_rank (K M N : ℕ) (wf) : (tn K M N wf).contr.rank = 1 := rfl
theorem tn_size (K M N : ℕ) (wf) : (tn K M N wf).contr.size ⟨0, by rw [tn_rank]; exact Nat.one_pos⟩ = K := rfl

/-- The product read at `(r, c)`: the accumulator plus the sum over the shared rows. -/
theorem matmul_tn_apply {K M N : ℕ} (wf) {φ₁ φ₂ : FTy} (prec : Option ContractPrecision)
    (lhs : FVec Ideal ⟨2, ![K, M]⟩ φ₁) (rhs : FVec Ideal ⟨2, ![K, N]⟩ φ₂) (acc : FVec Ideal ⟨2, ![M, N]⟩ .f32) (r : Fin M) (c : Fin N) :
    FloatOps.matmul (tn K M N wf) prec lhs rhs acc (ix2 r c) = acc (ix2 r c) + ∑ k : Fin K, lhs (ix2 k r) * rhs (ix2 k c) := by
  rw [Ideal.matmul_apply, ← Equiv.sum_comp (contrEquiv1 _ K (tn_rank K M N wf) (tn_size K M N wf)).symm]
  refine congrArg (acc (ix2 r c) + ·) (Finset.sum_congr rfl fun k _ => ?_)
  have hk := contrEquiv1_symm_val _ K (tn_rank K M N wf) (tn_size K M N wf) k
  have el : (tn K M N wf).lhsIdx (ix2 r c) ((contrEquiv1 _ K (tn_rank K M N wf) (tn_size K M N wf)).symm k) = ix2 k r := by
    funext a; apply Fin.ext
    match a with
    | ⟨0, _⟩ => exact hk
    | ⟨1, _⟩ => rfl
  have er : (tn K M N wf).rhsIdx (ix2 r c) ((contrEquiv1 _ K (tn_rank K M N wf) (tn_size K M N wf)).symm k) = ix2 k c := by
    funext a; apply Fin.ext
    match a with
    | ⟨0, _⟩ => exact hk
    | ⟨1, _⟩ => rfl
  rw [el, er]

/-- A sum over `n` blocks of `m` consecutive naturals is the sum over all of them. -/
theorem sum_blocks {β : Type*} [AddCommMonoid β] (f : ℕ → β) (m : ℕ) :
    ∀ n : ℕ, ∑ s ∈ Finset.range n, ∑ k ∈ Finset.range m, f (s * m + k) = ∑ k ∈ Finset.range (n * m), f k
  | 0 => by simp
  | n + 1 => by rw [Finset.sum_range_succ, sum_blocks f m n, Nat.succ_mul, Finset.sum_range_add]

/-- The same, against a sum over `K = n · m` rows. -/
theorem sum_blocks_fin {β : Type*} [AddCommMonoid β] (f : ℕ → β) {K : ℕ} (g : Fin K → β) (n m : ℕ) (h : n * m = K)
    (hf : ∀ k : Fin K, f k.val = g k) : ∑ s ∈ Finset.range n, ∑ k ∈ Finset.range m, f (s * m + k) = ∑ k : Fin K, g k := by
  rw [sum_blocks, h, Finset.sum_range]
  exact Finset.sum_congr rfl fun k _ => hf k

/-- An array read at two naturals, zero outside it. -/
noncomputable def at2 {A B : ℕ} (x : (⟨2, ![A, B]⟩ : Shape).Idx → EReal) (a b : ℕ) : EReal :=
  if h : a < A ∧ b < B then x (ix2 ⟨a, h.1⟩ ⟨b, h.2⟩) else 0

theorem at2_of {A B : ℕ} (x : (⟨2, ![A, B]⟩ : Shape).Idx → EReal) (a b : ℕ) (ha : a < A) (hb : b < B) :
    at2 x a b = x (ix2 ⟨a, ha⟩ ⟨b, hb⟩) := dif_pos ⟨ha, hb⟩

theorem at2_val {A B : ℕ} (x : (⟨2, ![A, B]⟩ : Shape).Idx → EReal) (a : Fin A) (b : Fin B) :
    at2 x a.val b.val = x (ix2 a b) := dif_pos ⟨a.isLt, b.isLt⟩

end Cert.Lib
-- ==== Proof.VR2.lean ====
/- Region 2 of `KernelIdeal` (the product): what each point leaves, as a value. -/
module

public import proofs.«01_k».proof.Proof.IR2
public import proofs.«01_k».proof.Proof.MatTN
public import Idealize.ShloMosaic.Lib.Pipeline.Value

@[expose] public section

set_option maxRecDepth 16384

noncomputable section

namespace Cert.KernelIdeal.R2

open Cert.KernelIdeal Cert.KernelIdeal.Gen
open Idealize.ShloMosaic Idealize.ShloMosaic.TcCoe Idealize.ShloMosaic.Tactic
open Idealize.SL.Sem
open Idealize.ShloMosaic.ValueIdx Cert.Lib
open scoped BigOperators
open Idealize.ShloMosaic.Pipeline (Dat Cfg Window cellOf)

variable {F : FTy → Type} [FloatOps F]

/-- The zero offsets of a whole-block access. -/
theorem hz : (![0, 0] : Fin 2 → Nat) = fun _ => 0 := funext fun a => by fin_cases a <;> rfl

/-- A scalar load: the element at the rectangle's corner. -/
theorem ld_first {Val : EltTy → Type} {e : EltTy} {A B : Nat} (x : (⟨2, ![A, B]⟩ : Shape).Idx → Val e) (p : Fin A) (q : Fin B)
    (inb : ∀ a, (![p.val, q.val] : Fin 2 → Nat) a + (![1, 1] : Fin 2 → Nat) a ≤ (⟨2, ![A, B]⟩ : Shape).size a) (h) :
    View.ld x (Rect.unit (s := ⟨2, ![A, B]⟩) ![p.val, q.val] ![1, 1] inb) (Shape.Idx.first h) = x (ix2 p q) := by
  refine congrArg x (funext fun a => Fin.ext ?_)
  have hf : ∀ a : Fin 2, ((Shape.Idx.first h : (⟨2, ![1, 1]⟩ : Shape).Idx) a).val = 0 := fun a => by
    have := ((Shape.Idx.first h : (⟨2, ![1, 1]⟩ : Shape).Idx) a).isLt
    match a with
    | ⟨0, _⟩ => exact Nat.lt_one_iff.mp this
    | ⟨1, _⟩ => exact Nat.lt_one_iff.mp this
  match a with
  | ⟨0, _⟩ => exact (congrArg (fun n => p.val + 1 * n) (hf 0)).trans (by rw [Nat.mul_zero, Nat.add_zero])
  | ⟨1, _⟩ => exact (congrArg (fun n => q.val + 1 * n) (hf 1)).trans (by rw [Nat.mul_zero, Nat.add_zero])

/-- A first block of rows: the product of the two blocks added to zero. -/
theorem out_A (c : Dev nD) (i : grid2.Coords) (arg3 : Memref sig .tc .smem S1x2 .f32) (harg3 : arg3.IsWhole) (arg4 : Memref sig .tc .smem S1x1 .f32) (harg4 : arg4.IsWhole) (arg5 : Memref sig .tc .vmem S1024x2304 .fp8e4m3) (harg5 : arg5.IsWhole) (arg6 : Memref sig .tc .vmem S1024x1280 .fp8e5m2) (harg6 : arg6.IsWhole) (arg7 : Memref sig .tc .vmem S2304x1280 .f32) (harg7 : arg7.IsWhole) (arg8 : Memref sig .tc .vmem S2304x1280 .f32) (harg8 : arg8.IsWhole) (hc0 : cond0_0 i) (hc1 : ¬cond0_1 i)
    (x0 : Vec F S1x2 .f32) (x1 : Vec F S1x1 .f32) (x2 : Vec F S1024x2304 .fp8e4m3) (x3 : Vec F S1024x1280 .fp8e5m2) (x4 : Vec F S2304x1280 .f32) :
    out0_A_5 c i arg3 harg3 arg4 harg4 arg5 harg5 arg6 harg6 arg7 harg7 arg8 harg8 hc0 hc1 x0 x1 x2 x3 x4 = k2_pay2 k2_pay1 x2 x3 := by
  unfold out0_A_5
  rw [View.read_writes_eq_canon _ _ _ (cover0_A_5 c i arg3 harg3 arg4 harg4 arg5 harg5 arg6 harg6 arg7 harg7 arg8 harg8 hc0 hc1 x0 x1 x2 x3 x4)]
  unfold kernelRun0_A; dsimp only
  sl_unfold_words
  rw [View.canon_cons_unit_zero (S := S2304x1280) hz]
  simp only [View.readCov_unit_zero (S := S2304x1280) _ hz]
  simp only [View.readAt_eq_ld, harg5.read_unread, harg6.read_unread, View.ld_unit_zero (S := S1024x2304) hz, View.ld_unit_zero (S := S1024x1280) hz]

/-- A middle block of rows: the product added to what is there. -/
theorem out_B (c : Dev nD) (i : grid2.Coords) (arg3 : Memref sig .tc .smem S1x2 .f32) (harg3 : arg3.IsWhole) (arg4 : Memref sig .tc .smem S1x1 .f32) (harg4 : arg4.IsWhole) (arg5 : Memref sig .tc .vmem S1024x2304 .fp8e4m3) (harg5 : arg5.IsWhole) (arg6 : Memref sig .tc .vmem S1024x1280 .fp8e5m2) (harg6 : arg6.IsWhole) (arg7 : Memref sig .tc .vmem S2304x1280 .f32) (harg7 : arg7.IsWhole) (arg8 : Memref sig .tc .vmem S2304x1280 .f32) (harg8 : arg8.IsWhole) (hc0 : ¬cond0_0 i) (hc1 : ¬cond0_1 i)
    (x0 : Vec F S1x2 .f32) (x1 : Vec F S1x1 .f32) (x2 : Vec F S1024x2304 .fp8e4m3) (x3 : Vec F S1024x1280 .fp8e5m2) (x4 : Vec F S2304x1280 .f32) (xo5 : Vec F S2304x1280 .f32) :
    out0_B_5 c i arg3 harg3 arg4 harg4 arg5 harg5 arg6 harg6 arg7 harg7 arg8 harg8 hc0 hc1 x0 x1 x2 x3 x4 xo5 = k2_pay2 xo5 x2 x3 := by
  unfold out0_B_5
  rw [View.read_writes_eq_canon _ _ _ (cover0_B_5 c i arg3 harg3 arg4 harg4 arg5 harg5 arg6 harg6 arg7 harg7 arg8 harg8 hc0 hc1 x0 x1 x2 x3 x4 xo5)]
  unfold kernelRun0_B; dsimp only
  rw [View.canon_unit_zero hz]
  simp only [View.readAt_eq_ld, harg5.read_unread, harg6.read_unread, harg8.read_unread, View.ld_unit_zero (S := S1024x2304) hz, View.ld_unit_zero (S := S1024x1280) hz, View.ld_unit_zero (S := S2304x1280) hz]

/-- The last block of rows: the finished sum scaled and added to the old gradient. -/
theorem out_C (c : Dev nD) (i : grid2.Coords) (arg3 : Memref sig .tc .smem S1x2 .f32) (harg3 : arg3.IsWhole) (arg4 : Memref sig .tc .smem S1x1 .f32) (harg4 : arg4.IsWhole) (arg5 : Memref sig .tc .vmem S1024x2304 .fp8e4m3) (harg5 : arg5.IsWhole) (arg6 : Memref sig .tc .vmem S1024x1280 .fp8e5m2) (harg6 : arg6.IsWhole) (arg7 : Memref sig .tc .vmem S2304x1280 .f32) (harg7 : arg7.IsWhole) (arg8 : Memref sig .tc .vmem S2304x1280 .f32) (harg8 : arg8.IsWhole) (hc0 : ¬cond0_0 i) (hc1 : cond0_1 i)
    (x0 : Vec F S1x2 .f32) (x1 : Vec F S1x1 .f32) (x2 : Vec F S1024x2304 .fp8e4m3) (x3 : Vec F S1024x1280 .fp8e5m2) (x4 : Vec F S2304x1280 .f32) (xo5 : Vec F S2304x1280 .f32) :
    out0_C_5 c i arg3 harg3 arg4 harg4 arg5 harg5 arg6 harg6 arg7 harg7 arg8 harg8 hc0 hc1 x0 x1 x2 x3 x4 xo5 = k2_pay3 x4 (k2_pay2 xo5 x2 x3) (x1 (ix2 0 0)) (x0 (ix2 0 0)) := by
  unfold out0_C_5
  rw [View.read_writes_eq_canon _ _ _ (cover0_C_5 c i arg3 harg3 arg4 harg4 arg5 harg5 arg6 harg6 arg7 harg7 arg8 harg8 hc0 hc1 x0 x1 x2 x3 x4 xo5)]
  unfold kernelRun0_C; dsimp only
  sl_unfold_words
  rw [View.canon_cons_unit_zero (S := S2304x1280) hz]
  simp only [View.readCov_unit_zero (S := S2304x1280) _ hz]
  simp only [View.readAt_eq_ld, harg3.read_unread, harg4.read_unread, harg5.read_unread, harg6.read_unread, harg7.read_unread, harg8.read_unread, View.ld_unit_zero (S := S1024x2304) hz, View.ld_unit_zero (S := S1024x1280) hz, View.ld_unit_zero (S := S2304x1280) hz]
  exact congrArg₂ (k2_pay3 x4 (k2_pay2 xo5 x2 x3)) (ld_first x1 0 0 _ _) (ld_first x0 0 0 _ _)

/-! ## Over the reals -/

variable (V : (c : Dev nD) → (b : Ref sig .tc) → Buf (Elt Ideal) ((c : Thread nD τ).loc b))

/-- The region's operands, as arrays of extended reals. -/
abbrev X (c : Dev nD) : S32768x6912.Idx → EReal := V c main_v0
abbrev C (c : Dev nD) : S32768x5120.Idx → EReal := V c main_v3
abbrev D (c : Dev nD) : S6912x5120.Idx → EReal := V c main_arg3
abbrev xs (c : Dev nD) : EReal := (V c main_v4 : S1x1.Idx → EReal) (ix2 0 0)
abbrev sc (c : Dev nD) : EReal := (V c main_v2 : S1x2.Idx → EReal) (ix2 0 0)

theorem pay1_apply (i : S2304x1280.Idx) : (k2_pay1 (F := Ideal)) i = (0 : EReal) := by
  unfold k2_pay1
  show Ideal.ofBits .f32 0x00000000#32 = 0
  exact Ideal.ofBits_zero_f32

theorem pay2_apply (a : Vec Ideal S2304x1280 .f32) (x : Vec Ideal S1024x2304 .fp8e4m3) (y : Vec Ideal S1024x1280 .fp8e5m2)
    (r : Fin 2304) (c : Fin 1280) :
    k2_pay2 a x y (ix2 r c) = (a (ix2 r c) : EReal) + ∑ k : Fin 1024, (x (ix2 k r) : EReal) * (y (ix2 k c) : EReal) := by
  unfold k2_pay2
  simp only [shapeCast_self]
  refine (congrArg ((a (ix2 r c) : EReal) + ·) ((matmul_tn_apply _ none x y _ r c).trans ?_))
  refine (congrArg (· + _) (?_ : Ideal.ofBits .f32 0x00000000#32 = 0)).trans (zero_add _)
  exact Ideal.ofBits_zero_f32

theorem pay3_apply (d a : Vec Ideal S2304x1280 .f32) (p q : EReal) (i : S2304x1280.Idx) :
    k2_pay3 (F := Ideal) d a p q i = (d i : EReal) + (a i : EReal) * (p * q) := by
  unfold k2_pay3
  simp only [shapeCast_self]
  rfl

theorem idx : ∀ t : Fin cfg2.N, win2_2.index t 0 = t.val % 32 ∧ win2_2.index t 1 = t.val / 128
    ∧ win2_3.index t 0 = t.val % 32 ∧ win2_3.index t 1 = t.val / 32 % 4
    ∧ win2_4.index t 0 = t.val / 128 ∧ win2_4.index t 1 = t.val / 32 % 4
    ∧ win2_5.index t 0 = t.val / 128 ∧ win2_5.index t 1 = t.val / 32 % 4
    ∧ win2_0.index t 0 = 0 ∧ win2_0.index t 1 = 0 ∧ win2_1.index t 0 = 0 ∧ win2_1.index t 1 = 0 := by decide +kernel

theorem t_lt (t : Fin cfg2.N) : t.val < 384 := by
  have h := t.isLt; have : cfg2.N = 384 := N_2; omega

theorem blk2 (c : Dev nD) (t : Fin cfg2.N) (k : Fin 1024) (r : Fin 2304) :
    (iblk V c 2 t : Vec Ideal S1024x2304 .fp8e4m3) (ix2 k r) = at2 (X V c) (t.val % 32 * 1024 + k.val) (t.val / 128 * 2304 + r.val) := by
  have ht := t_lt t; have hk := k.isLt; have hr := r.isLt
  rw [at2_of _ _ _ (by omega) (by omega)]
  unfold iblk
  rw [View.read_apply]
  refine congrArg (V c main_v0) ?_
  funext a
  apply Fin.ext
  obtain ⟨h0, h1, -⟩ := idx t
  match a with
  | ⟨0, _⟩ => show win2_2.index t 0 * 1024 + 1 * k.val = _; rw [h0, Nat.one_mul]
  | ⟨1, _⟩ => show win2_2.index t 1 * 2304 + 1 * r.val = _; rw [h1, Nat.one_mul]

theorem blk3 (c : Dev nD) (t : Fin cfg2.N) (k : Fin 1024) (r : Fin 1280) :
    (iblk V c 3 t : Vec Ideal S1024x1280 .fp8e5m2) (ix2 k r) = at2 (C V c) (t.val % 32 * 1024 + k.val) (t.val / 32 % 4 * 1280 + r.val) := by
  have ht := t_lt t; have hk := k.isLt; have hr := r.isLt
  rw [at2_of _ _ _ (by omega) (by omega)]
  unfold iblk
  rw [View.read_apply]
  refine congrArg (V c main_v3) ?_
  funext a
  apply Fin.ext
  obtain ⟨-, -, h0, h1, -⟩ := idx t
  match a with
  | ⟨0, _⟩ => show win2_3.index t 0 * 1024 + 1 * k.val = _; rw [h0, Nat.one_mul]
  | ⟨1, _⟩ => show win2_3.index t 1 * 1280 + 1 * r.val = _; rw [h1, Nat.one_mul]

theorem blk4 (c : Dev nD) (t : Fin cfg2.N) (k : Fin 2304) (r : Fin 1280) :
    (iblk V c 4 t : Vec Ideal S2304x1280 .f32) (ix2 k r) = at2 (D V c) (t.val / 128 * 2304 + k.val) (t.val / 32 % 4 * 1280 + r.val) := by
  have ht := t_lt t; have hk := k.isLt; have hr := r.isLt
  rw [at2_of _ _ _ (by omega) (by omega)]
  unfold iblk
  rw [View.read_apply]
  refine congrArg (V c main_arg3) ?_
  funext a
  apply Fin.ext
  obtain ⟨-, -, -, -, h0, h1, -⟩ := idx t
  match a with
  | ⟨0, _⟩ => show win2_4.index t 0 * 2304 + 1 * k.val = _; rw [h0, Nat.one_mul]
  | ⟨1, _⟩ => show win2_4.index t 1 * 1280 + 1 * r.val = _; rw [h1, Nat.one_mul]

theorem blk0 (c : Dev nD) (t : Fin cfg2.N) : (iblk V c 0 t : Vec Ideal S1x2 .f32) (ix2 0 0) = sc V c := by
  unfold iblk
  rw [View.read_apply]
  refine congrArg (V c main_v2) ?_
  funext a
  apply Fin.ext
  obtain ⟨-, -, -, -, -, -, -, -, h0, h1, -⟩ := idx t
  match a with
  | ⟨0, _⟩ => show win2_0.index t 0 * 1 + 1 * 0 = 0; rw [h0]
  | ⟨1, _⟩ => show win2_0.index t 1 * 2 + 1 * 0 = 0; rw [h1]

theorem blk1 (c : Dev nD) (t : Fin cfg2.N) : (iblk V c 1 t : Vec Ideal S1x1 .f32) (ix2 0 0) = xs V c := by
  unfold iblk
  rw [View.read_apply]
  refine congrArg (V c main_v4) ?_
  funext a
  apply Fin.ext
  obtain ⟨-, -, -, -, -, -, -, -, -, -, h0, h1⟩ := idx t
  match a with
  | ⟨0, _⟩ => show win2_1.index t 0 * 1 + 1 * 0 = 0; rw [h0]
  | ⟨1, _⟩ => show win2_1.index t 1 * 1 + 1 * 0 = 0; rw [h1]

/-- What point `n` adds to its block: the products of its 1024 rows. -/
def M (c : Dev nD) (n : ℕ) (i : S2304x1280.Idx) : EReal :=
  ∑ k ∈ Finset.range 1024, at2 (X V c) (n % 32 * 1024 + k) (n / 128 * 2304 + (i 0).val) * at2 (C V c) (n % 32 * 1024 + k) (n / 32 % 4 * 1280 + (i 1).val)

theorem pay2_blk (c : Dev nD) (t : Fin cfg2.N) (a : Vec Ideal S2304x1280 .f32) (i : S2304x1280.Idx) :
    k2_pay2 a (iblk V c 2 t) (iblk V c 3 t) i = (a i : EReal) + M V c t.val i := by
  obtain ⟨r, q, rfl⟩ : ∃ (r : Fin 2304) (q : Fin 1280), i = ix2 r q := ⟨i 0, i 1, eq_ix2 i⟩
  refine (pay2_apply a (iblk V c 2 t) (iblk V c 3 t) r q).trans (congrArg ((a (ix2 r q) : EReal) + ·) ?_)
  unfold M
  rw [Finset.sum_range]
  exact Finset.sum_congr rfl fun k _ => by rw [blk2, blk3]

/-- The reset and the step of the accumulation, the last step with the epilogue. -/
def reset (c : Dev nD) (n : ℕ) (h : n < cfg2.N) : S2304x1280.Idx → EReal := k2_pay2 k2_pay1 (iblk V c 2 ⟨n, h⟩) (iblk V c 3 ⟨n, h⟩)
def step (c : Dev nD) (n : ℕ) (h : n < cfg2.N) (acc : S2304x1280.Idx → EReal) : S2304x1280.Idx → EReal :=
  if n % 32 = 31 then k2_pay3 (F := Ideal) (iblk V c 4 ⟨n, h⟩) (k2_pay2 acc (iblk V c 2 ⟨n, h⟩) (iblk V c 3 ⟨n, h⟩)) (xs V c) (sc V c)
  else k2_pay2 acc (iblk V c 2 ⟨n, h⟩) (iblk V c 3 ⟨n, h⟩)

theorem outs_reset (c : Dev nD) (n : ℕ) (h : n < cfg2.N) (h0 : n % 32 = 0) : outsAt0 V c n h = reset V c n h :=
  (outsAt0_A V c ⟨n, h⟩ h0 (by dsimp only; omega)).trans (out_A ..)

theorem outs_step (c : Dev nD) (n : ℕ) (h : n + 1 < cfg2.N) (h0 : ¬(n + 1) % 32 = 0) :
    outsAt0 V c (n + 1) h = step V c (n + 1) h (outsAt0 V c n (Nat.lt_of_succ_lt h)) := by
  unfold step
  by_cases h1 : (n + 1) % 32 = 31
  · rw [if_pos h1]
    refine (outsAt0_C V c ⟨n + 1, h⟩ h0 h1).trans ((out_C ..).trans ?_)
    rw [blk0, blk1]; rfl
  · rw [if_neg h1]
    exact (outsAt0_B V c ⟨n + 1, h⟩ h0 h1).trans (out_B ..)

/-- The gradient: the old one plus the scaled product of the two code arrays. -/
def result (c : Dev nD) : S6912x5120.Idx → EReal := fun i =>
  D V c i + (∑ k : Fin 32768, X V c (ix2 k (i 0)) * C V c (ix2 k (i 1))) * (xs V c * sc V c)

/-- What a last point leaves. -/
theorem outs_last (c : Dev nD) (t : Fin cfg2.N) (h1 : t.val % 32 = 31) (r : Fin 2304) (q : Fin 1280) :
    (outsAt0 V c t.val t.isLt : S2304x1280.Idx → EReal) (ix2 r q) = at2 (result V c) (t.val / 128 * 2304 + r.val) (t.val / 32 % 4 * 1280 + q.val) := by
  have ht := t_lt t
  have hN : cfg2.N = 384 := N_2
  have hb : 32 * (t.val / 32) + t.val % 32 < cfg2.N := by omega
  have hr := r.isLt; have hq := q.isLt
  rw [Pipeline.eq_accAt_of_mod (fun n h => (outsAt0 V c n h : S2304x1280.Idx → EReal)) 32 (reset V c) (step V c) (outs_reset V c) (outs_step V c)
    (by decide) t.val t.isLt hb]
  obtain ⟨j, hj⟩ : ∃ j, j = 30 := ⟨_, rfl⟩
  have e31 : t.val % 32 = j + 1 := by omega
  have key : ∀ (u : ℕ) (hu : 32 * (t.val / 32) + u < cfg2.N), u = j + 1 →
      Pipeline.accAt (reset V c) (step V c) (32 * (t.val / 32)) u hu (ix2 r q) = at2 (result V c) (t.val / 128 * 2304 + r.val) (t.val / 32 % 4 * 1280 + q.val) := by
    intro u hu e
    subst e
    rw [Pipeline.accAt_succ]
    have hl : (32 * (t.val / 32) + (j + 1)) % 32 = 31 := by omega
    unfold step
    rw [if_pos hl, pay3_apply, pay2_blk, blk4]
    have hacc := Pipeline.accAt_add_apply (reset V c) (step V c) (fun _ => (0 : EReal)) (M V c) (32 * (t.val / 32)) 30
      (fun h i => by unfold reset; rw [pay2_blk, pay1_apply])
      (fun n h acc i hn hn' => by unfold step; rw [if_neg (by omega), pay2_blk]) j (by omega) (Nat.lt_of_succ_lt hu) (ix2 r q)
    unfold step at hacc
    rw [hacc, zero_add]
    rw [at2_of (result V c) _ _ (by omega) (by omega)]
    unfold result
    have hd : (32 * (t.val / 32) + (j + 1)) / 128 = t.val / 128 := by omega
    have hd' : (32 * (t.val / 32) + (j + 1)) / 32 % 4 = t.val / 32 % 4 := by omega
    dsimp only
    rw [hd, hd', at2_of (D V c) _ _ (by omega) (by omega)]
    refine congrArg (fun z : EReal => D V c (ix2 ⟨t.val / 128 * 2304 + r.val, by omega⟩ ⟨t.val / 32 % 4 * 1280 + q.val, by omega⟩) + z * (xs V c * sc V c)) ?_
    rw [← Finset.sum_range_succ (fun s => M V c (32 * (t.val / 32) + s) (ix2 r q)) (j + 1)]
    have hs : ∀ s ∈ Finset.range (j + 1 + 1), M V c (32 * (t.val / 32) + s) (ix2 r q) = ∑ k ∈ Finset.range 1024,
        (fun k => at2 (X V c) k (t.val / 128 * 2304 + r.val) * at2 (C V c) k (t.val / 32 % 4 * 1280 + q.val)) (s * 1024 + k) := by
      intro s hs
      have hs' := Finset.mem_range.mp hs
      unfold M
      have a1 : (32 * (t.val / 32) + s) % 32 = s := by omega
      have a2 : (32 * (t.val / 32) + s) / 128 = t.val / 128 := by omega
      have a3 : (32 * (t.val / 32) + s) / 32 % 4 = t.val / 32 % 4 := by omega
      rw [a1, a2, a3]
    refine (Finset.sum_congr rfl hs).trans ?_
    refine sum_blocks_fin (fun k => at2 (X V c) k (t.val / 128 * 2304 + r.val) * at2 (C V c) k (t.val / 32 % 4 * 1280 + q.val)) _ (j + 1 + 1) 1024
      (by omega) fun k => ?_
    rw [at2_of (X V c) _ _ k.isLt (by omega), at2_of (C V c) _ _ k.isLt (by omega)]
  exact key _ hb e31

theorem flushed_eq (c : Dev nD) (t : Fin cfg2.N) (hf : (cfg2.win 5).flush t = true) :
    (dat V c).flushed 5 t = ((cfg2.win 5).blk t).view.read (Elt Ideal) (result V c) := by
  have ht := t_lt t
  have h31 := (flush2_5 t).mp hf
  show (cfg2.win 5).cut (grid2.coords t) ((dat V c).after 5 t) = _
  rw [after0_5]
  funext i
  rw [View.read_apply]
  obtain ⟨r, q, rfl⟩ : ∃ (r : Fin 2304) (q : Fin 1280), i = ix2 r q := ⟨i 0, i 1, eq_ix2 i⟩
  refine (outs_last V c t h31 r q).trans ?_
  have hr := r.isLt; have hq := q.isLt
  rw [at2_of (result V c) _ _ (by omega) (by omega)]
  refine congrArg (result V c) ?_
  funext a
  apply Fin.ext
  obtain ⟨-, -, -, -, -, -, h0, h1, -⟩ := idx t
  match a with
  | ⟨0, _⟩ => show _ = win2_5.index t 0 * 2304 + 1 * r.val; rw [h0, Nat.one_mul]
  | ⟨1, _⟩ => show _ = win2_5.index t 1 * 1280 + 1 * q.val; rw [h1, Nat.one_mul]

theorem xsz : ∀ t : Fin cfg2.N, win2_5.xsize (grid2.coords t) 0 = 2304 ∧ win2_5.xsize (grid2.coords t) 1 = 1280 := by decide +kernel

/-- The region leaves the gradient. -/
theorem final (c : Dev nD) : (dat V c).arrAt 5 cfg2.N = result V c :=
  (dat V c).arrAt_eq_of_cover 5 (result V c) (flushed_eq V c) fun i => by
    have hN : cfg2.N = 384 := N_2
    have h0 : (i 0 : Nat) < 6912 := (i 0).isLt
    have h1 : (i 1 : Nat) < 5120 := (i 1).isLt
    refine ⟨⟨(i 0 : Nat) / 2304 * 128 + (i 1 : Nat) / 1280 * 32 + 31, by omega⟩, (flush2_5 _).mpr (by dsimp only; omega), ?_⟩
    generalize hT : (⟨(i 0 : Nat) / 2304 * 128 + (i 1 : Nat) / 1280 * 32 + 31, by omega⟩ : Fin cfg2.N) = T
    have hv : T.val = (i 0 : Nat) / 2304 * 128 + (i 1 : Nat) / 1280 * 32 + 31 := by rw [← hT]
    show i ∈ ((View.whole main_v5).slice (win2_5.rect T)).set
    rw [View.set_slice_whole, Rect.mem_set_unit]
    obtain ⟨-, -, -, -, -, -, e0, e1, -⟩ := idx T
    obtain ⟨x0, x1⟩ := xsz T
    intro a
    match a with
    | ⟨0, _⟩ =>
      show win2_5.index T 0 * 2304 ≤ (i 0 : Nat) ∧ (i 0 : Nat) < win2_5.index T 0 * 2304 + win2_5.xsize (grid2.coords T) 0
      rw [e0, x0, hv]; omega
    | ⟨1, _⟩ =>
      show win2_5.index T 1 * 1280 ≤ (i 1 : Nat) ∧ (i 1 : Nat) < win2_5.index T 1 * 1280 + win2_5.xsize (grid2.coords T) 1
      rw [e1, x1, hv]; omega

end Cert.KernelIdeal.R2

end
-- ==== Proof.Exponent.lean ====
/- Powers of two: the patterns of the kernel's exponent fields read over the reals, and the binade of a real number. -/
module

public import Idealize.ShloMosaic.PureOps.Ideal.Laws
public import Idealize.ShloMosaic.Lib.ValueIdxCore
public import Mathlib.Algebra.Order.Archimedean.Basic
public import Mathlib.Analysis.SpecialFunctions.Pow.Real

@[expose] public section

set_option maxRecDepth 16384

namespace Cert.Lib

open Idealize.ShloMosaic

/-- The parts of the pattern whose exponent field is `k` and whose other bits are zero. -/
theorem field_parts : ∀ k : Fin 256,
    ((IntOp.shli .vector (BitVec.ofNat 32 k.val) 23#32).extractLsb' 31 1 == 1#1) = false
    ∧ ((IntOp.shli .vector (BitVec.ofNat 32 k.val) 23#32).extractLsb' 23 8).toNat = k.val
    ∧ ((IntOp.shli .vector (BitVec.ofNat 32 k.val) 23#32).extractLsb' 0 23).toNat = 0 := by decide +kernel

/-- The pattern with exponent field `k` denotes `2 ^ (k - 127)` when the field is neither all zeros nor all ones. -/
theorem ofBits_field (k : ℕ) (h1 : 1 ≤ k) (h2 : k ≤ 254) :
    Ideal.ofBits .f32 (IntOp.shli .vector (BitVec.ofNat 32 k) 23#32) = (((2 : ℝ) ^ ((k : ℤ) - 127) : ℝ) : EReal) := by
  obtain ⟨hs, he, hf⟩ := field_parts ⟨k, by omega⟩
  show Ideal.ieee 8 23 (IntOp.shli .vector (BitVec.ofNat 32 k) 23#32) = _
  unfold Ideal.ieee
  dsimp only at hs he hf
  dsimp only
  rw [hs, he, hf, if_neg (by omega), if_neg (by omega)]
  refine congrArg (fun r : ℝ => (r : EReal)) ?_
  have e : ((k : ℤ) - 127) = 23 + ((k : ℤ) - (2 ^ (8 - 1) - 1) - ((23 : ℕ) : ℤ)) := by push_cast; ring
  rw [e, zpow_add₀ (by norm_num : (2 : ℝ) ≠ 0)]
  norm_num

/-- The all-zero field denotes zero. -/
theorem ofBits_field_zero : Ideal.ofBits .f32 (IntOp.shli .vector (BitVec.ofNat 32 0) 23#32) = 0 := by
  obtain ⟨hs, he, hf⟩ := field_parts ⟨0, by omega⟩
  show Ideal.ieee 8 23 (IntOp.shli .vector (BitVec.ofNat 32 0) 23#32) = _
  unfold Ideal.ieee
  dsimp only at hs he hf
  dsimp only
  rw [hs, he, hf, if_neg (by omega), if_pos rfl]
  norm_num

/-- The all-one field denotes the infinity. -/
theorem ofBits_field_top : Ideal.ofBits .f32 (IntOp.shli .vector (BitVec.ofNat 32 255) 23#32) = ⊤ := by
  obtain ⟨hs, he, hf⟩ := field_parts ⟨255, by omega⟩
  show Ideal.ieee 8 23 (IntOp.shli .vector (BitVec.ofNat 32 255) 23#32) = _
  unfold Ideal.ieee
  dsimp only at hs he hf
  dsimp only
  rw [hs, he, hf, if_pos (by omega), if_pos rfl]
  rfl

/-- Powers of two are ordered as their exponents, among the extended reals. -/
theorem zpow_le (a b : ℤ) (h : a ≤ b) : (((2 : ℝ) ^ a : ℝ) : EReal) ≤ (((2 : ℝ) ^ b : ℝ) : EReal) :=
  EReal.coe_le_coe_iff.mpr (zpow_le_zpow_right₀ (by norm_num) h)

/-- A number from `2 ^ -126` to below `2 ^ 126` lies in one binade. -/
theorem exists_binade (y : EReal) (h0 : (((2 : ℝ) ^ (-126 : ℤ) : ℝ) : EReal) ≤ y) (h1 : y < (((2 : ℝ) ^ (126 : ℤ) : ℝ) : EReal)) :
    ∃ k : ℕ, 1 ≤ k ∧ k ≤ 252 ∧ (((2 : ℝ) ^ ((k : ℤ) - 127) : ℝ) : EReal) ≤ y ∧ y < (((2 : ℝ) ^ ((k : ℤ) - 126) : ℝ) : EReal) := by
  induction y with
  | bot => exact absurd h0 (not_le.mpr (EReal.bot_lt_coe _))
  | top => exact absurd h1 (not_lt.mpr le_top)
  | coe r =>
    have h0' := EReal.coe_le_coe_iff.mp h0
    have h1' := EReal.coe_lt_coe_iff.mp h1
    have hr : 0 < r := lt_of_lt_of_le (by positivity) h0'
    obtain ⟨n, hn0, hn1⟩ := exists_mem_Ico_zpow hr (by norm_num : (1 : ℝ) < 2)
    have a : -126 < n + 1 := by
      by_contra h
      have := zpow_le_zpow_right₀ (by norm_num : (1 : ℝ) ≤ 2) (not_lt.mp h)
      linarith
    have b : n < 126 := by
      by_contra h
      have := zpow_le_zpow_right₀ (by norm_num : (1 : ℝ) ≤ 2) (not_lt.mp h)
      linarith
    refine ⟨(n + 127).toNat, by omega, by omega, ?_, ?_⟩
    · have e : (((n + 127).toNat : ℕ) : ℤ) - 127 = n := by omega
      rw [e]; exact EReal.coe_le_coe_iff.mpr hn0
    · have e : (((n + 127).toNat : ℕ) : ℤ) - 126 = n + 1 := by omega
      rw [e]; exact EReal.coe_lt_coe_iff.mpr hn1

/-- Two to an integer, by the real power function. -/
theorem pow_two_int (n : ℤ) : Ideal.pow ((2 : ℝ) : EReal) (((n : ℝ) : ℝ) : EReal) = (((2 : ℝ) ^ n : ℝ) : EReal) := by
  show ((Real.rpow 2 (n : ℝ) : ℝ) : EReal) = _
  refine congrArg (fun r : ℝ => (r : EReal)) ?_
  exact Real.rpow_intCast 2 n

end Cert.Lib
-- ==== Proof.VR0.lean ====
/- Region 0 of `KernelIdeal` (the largest magnitude and the scale): what each point leaves, as a value. -/
module

public import proofs.«01_k».proof.Proof.VR2
public import proofs.«01_k».proof.Proof.IR0
public import proofs.«01_k».proof.Proof.Exponent
public import Idealize.ShloMosaic.Lib.Pipeline.Value

@[expose] public section

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL.Sem
open Idealize.ShloMosaic.ValueIdx Cert.Lib
open scoped BigOperators
open Idealize.ShloMosaic.Pipeline (Dat Cfg Window cellOf)

variable {F : FTy → Type} [FloatOps F]

open Cert.KernelIdeal.R2 (hz ld_first)

/-- The first point: the magnitudes of its block against zero. -/
theorem sout_A (c : Dev nD) (i : grid0.Coords) (arg1 : Memref sig .tc .vmem S512x5120 .bf16) (harg1 : arg1.IsWhole) (arg2 : Memref sig .tc .smem S1x2 .f32) (harg2 : arg2.IsWhole) (arg3 : Memref sig .tc .vmem S16x5120 .bf16) (harg3 : arg3.IsWhole) (hc0 : cond0_0 i) (hc1 : ¬cond0_1 i)
    (x0 : Vec F S512x5120 .bf16) :
    sout0_A_0 c i arg1 harg1 arg2 harg2 arg3 harg3 hc0 hc1 x0 = k0_pay2 x0 k0_pay1 := by
  unfold sout0_A_0
  rw [View.read_writes_eq_canon _ _ _ (scover0_A_0 c i arg1 harg1 arg2 harg2 arg3 harg3 hc0 hc1 x0)]
  unfold kernelRun0_A; dsimp only
  sl_unfold_words
  rw [View.canon_cons_unit_zero (S := S16x5120) hz]
  simp only [View.readCov_unit_zero (S := S16x5120) _ hz]
  simp only [View.readAt_eq_ld, harg1.read_unread, harg3.read_unread, View.ld_unit_zero (S := S512x5120) hz, View.ld_unit_zero (S := S16x5120) hz]

/-- A later point: the magnitudes of its block against what is kept. -/
theorem sout_B (c : Dev nD) (i : grid0.Coords) (arg1 : Memref sig .tc .vmem S512x5120 .bf16) (harg1 : arg1.IsWhole) (arg2 : Memref sig .tc .smem S1x2 .f32) (harg2 : arg2.IsWhole) (arg3 : Memref sig .tc .vmem S16x5120 .bf16) (harg3 : arg3.IsWhole) (hc0 : ¬cond0_0 i) (hc1 : ¬cond0_1 i)
    (x0 : Vec F S512x5120 .bf16) (xs0 : Vec F S16x5120 .bf16) :
    sout0_B_0 c i arg1 harg1 arg2 harg2 arg3 harg3 hc0 hc1 x0 xs0 = k0_pay2 x0 xs0 := by
  unfold sout0_B_0
  rw [View.read_writes_eq_canon _ _ _ (scover0_B_0 c i arg1 harg1 arg2 harg2 arg3 harg3 hc0 hc1 x0 xs0)]
  unfold kernelRun0_B; dsimp only
  sl_unfold_words
  rw [View.canon_unit_zero hz]
  simp only [View.readAt_eq_ld, harg1.read_unread, harg3.read_unread, View.ld_unit_zero (S := S512x5120) hz, View.ld_unit_zero (S := S16x5120) hz]

theorem sout_C (c : Dev nD) (i : grid0.Coords) (arg1 : Memref sig .tc .vmem S512x5120 .bf16) (harg1 : arg1.IsWhole) (arg2 : Memref sig .tc .smem S1x2 .f32) (harg2 : arg2.IsWhole) (arg3 : Memref sig .tc .vmem S16x5120 .bf16) (harg3 : arg3.IsWhole) (hc0 : ¬cond0_0 i) (hc1 : cond0_1 i)
    (x0 : Vec F S512x5120 .bf16) (xs0 : Vec F S16x5120 .bf16) :
    sout0_C_0 c i arg1 harg1 arg2 harg2 arg3 harg3 hc0 hc1 x0 xs0 = k0_pay2 x0 xs0 := by
  unfold sout0_C_0
  rw [View.read_writes_eq_canon _ _ _ (scover0_C_0 c i arg1 harg1 arg2 harg2 arg3 harg3 hc0 hc1 x0 xs0)]
  unfold kernelRun0_C; dsimp only
  sl_unfold_words
  rw [View.canon_unit_zero hz]
  simp only [View.readAt_eq_ld, harg1.read_unread, harg3.read_unread, View.ld_unit_zero (S := S512x5120) hz, View.ld_unit_zero (S := S16x5120) hz]

/-- The last point also stores the scale and its inverse. -/
theorem out_C (c : Dev nD) (i : grid0.Coords) (arg1 : Memref sig .tc .vmem S512x5120 .bf16) (harg1 : arg1.IsWhole) (arg2 : Memref sig .tc .smem S1x2 .f32) (harg2 : arg2.IsWhole) (arg3 : Memref sig .tc .vmem S16x5120 .bf16) (harg3 : arg3.IsWhole) (hc0 : ¬cond0_0 i) (hc1 : cond0_1 i)
    (x0 : Vec F S512x5120 .bf16) (xs0 : Vec F S16x5120 .bf16) :
    out0_C_1 c i arg1 harg1 arg2 harg2 arg3 harg3 hc0 hc1 x0 xs0 = fun i => if (i 1).val = 0 then k0_pay3 (k0_pay2 x0 xs0) else k0_pay4 (k0_pay2 x0 xs0) := by
  unfold out0_C_1
  rw [View.read_writes_eq_canon _ _ _ (cover0_C_1 c i arg1 harg1 arg2 harg2 arg3 harg3 hc0 hc1 x0 xs0)]
  funext y
  refine View.canon_apply_of_pieces (fun i : S1x2.Idx => if (i 1).val = 0 then k0_pay3 (k0_pay2 x0 xs0) else k0_pay4 (k0_pay2 x0 xs0)) _ ?_ y
    (cover0_C_1 c i arg1 harg1 arg2 harg2 arg3 harg3 hc0 hc1 x0 xs0 y)
  unfold kernelRun0_C; dsimp only
  sl_unfold_words
  simp only [View.readCov_unit_zero (S := S16x5120) _ hz]
  simp only [View.readAt_eq_ld, harg1.read_unread, harg3.read_unread, View.ld_unit_zero (S := S512x5120) hz, View.ld_unit_zero (S := S16x5120) hz]
  intro p hp x
  simp only [List.mem_cons, List.not_mem_nil, or_false] at hp
  rcases hp with rfl | rfl
  · show k0_pay4 (k0_pay2 x0 xs0) = if 1 + 1 * (x 1).val = 0 then k0_pay3 (k0_pay2 x0 xs0) else k0_pay4 (k0_pay2 x0 xs0)
    rw [if_neg (by omega)]
  · have hx : (x 1).val = 0 := Nat.lt_one_iff.mp (x 1).isLt
    show k0_pay3 (k0_pay2 x0 xs0) = if 0 + 1 * (x 1).val = 0 then k0_pay3 (k0_pay2 x0 xs0) else k0_pay4 (k0_pay2 x0 xs0)
    rw [if_pos (by omega)]

end Cert.KernelIdeal.R0

end
-- ==== Proof.VR0b.lean ====
/- Region 0 of `KernelIdeal` (the largest magnitude and the scale): over the reals. -/
module

public import proofs.«01_k».proof.Proof.VR0
public import proofs.«01_k».proof.Proof.IR0
public import proofs.«01_k».proof.Proof.Exponent
public import Idealize.ShloMosaic.Lib.Pointwise
public import Idealize.ShloMosaic.Lib.Pipeline.Value

@[expose] public section

set_option maxRecDepth 16384

noncomputable section

namespace Cert.KernelIdeal.R0

open Cert.KernelIdeal Cert.KernelIdeal.Gen
open Idealize.ShloMosaic hiding ix0 ix1 ix2 ix3
open Idealize.ShloMosaic.TcCoe Idealize.ShloMosaic.Tactic
open Idealize.SL.Sem
open Idealize.ShloMosaic.ValueIdx Cert.Lib
open scoped BigOperators
open Idealize.ShloMosaic.Pipeline (Dat Cfg Window cellOf)

variable {F : FTy → Type} [FloatOps F]

/-! ## Over the reals -/

variable (V : (c : Dev nD) → (b : Ref sig .tc) → Buf (Elt Ideal) ((c : Thread nD τ).loc b))

/-- The gradient's rows. -/
abbrev Y (c : Dev nD) : S32768x5120.Idx → EReal := V c main_v1

/-- A magnitude. -/
def ab (x : EReal) : EReal := max x (-x)

theorem bot_bf16 : Ideal.ofBits .bf16 0xFF80#16 = ⊥ := by simp [Ideal.ofBits, Ideal.ieee]
theorem bot_f32 : Ideal.ofBits .f32 0xFF800000#32 = ⊥ := by simp [Ideal.ofBits, Ideal.ieee]

theorem pay1_apply (i : S16x5120.Idx) : k0_pay1 (F := Ideal) i = (0 : EReal) := by
  unfold k0_pay1
  simp only [shapeCast_self]
  show Ideal.ofBits .bf16 0x0000#16 = 0
  simp [Ideal.ofBits, Ideal.ieee]

/-- A signed maximum, as a maximum of integers. -/
theorem toInt_maxsi (x y : BitVec 32) : (IntOp.maxsi x y).toInt = max x.toInt y.toInt := by
  unfold IntOp.maxsi
  by_cases h : y.slt x
  · rw [if_pos h, max_eq_left (by simpa [BitVec.slt] using (of_decide_eq_true h).le)]
  · rw [if_neg h, max_eq_right (by simpa [BitVec.slt] using h)]

/-- A maximum taken along axes is at most `z` when every element it is taken over is. -/
theorem maxred_le {s t : Shape} {φ : FTy} {axes : List (Fin s.rank)} (src : FVec Ideal s φ) (acc : BitVec φ.bits) (h : s.Reduces axes t) (hφ : FKind.Formats φ)
    (hacc : acc = FKind.maximumf.neutral φ hφ) (j : t.Idx) (hb : Ideal.ofBits φ acc = ⊥) (z : EReal) :
    (multiReduction .maximumf axes t src acc h hφ hacc j : EReal) ≤ z ↔ ∀ i, h.drop i = j → (src i : EReal) ≤ z := by
  rw [multiReduction_maximumf_eq_fold]
  refine (Finset.fold_max_le (f := fun i => (src i : EReal)) (b := Ideal.ofBits φ acc) z).trans ?_
  rw [hb]
  simp

/-- Integer maxima likewise. -/
theorem maxredI_le {s t : Shape} {axes : List (Fin s.rank)} (src : s.Idx → BitVec 32) (acc : BitVec 32) (h : s.Reduces axes t)
    (hacc : acc = IKind.maxsi.neutral) (j : t.Idx) (z : ℤ) :
    (multiReductionI .maxsi axes t src acc h hacc j).toInt ≤ z ↔ acc.toInt ≤ z ∧ ∀ i, h.drop i = j → (src i).toInt ≤ z := by
  rw [multiReductionI_eq_fold]
  have e : ∀ (S : Finset s.Idx), (S.fold (IKind.op .maxsi) acc src).toInt ≤ z ↔ acc.toInt ≤ z ∧ ∀ i ∈ S, (src i).toInt ≤ z := by
    intro S
    induction S using Finset.cons_induction with
    | empty => simp
    | cons a S ha ih =>
      rw [Finset.fold_cons, show IKind.op .maxsi (src a) (Finset.fold (IKind.op .maxsi) acc src S) = IntOp.maxsi (src a) (Finset.fold (IKind.op .maxsi) acc src S) from rfl,
        toInt_maxsi, max_le_iff, ih]
      simp only [Finset.mem_cons, forall_eq_or_imp]
      tauto
  rw [e]
  simp

theorem one_index (x y : S1.Idx) : x = y := by
  funext a
  match a with
  | ⟨0, _⟩ => exact Subsingleton.elim (α := Fin 1) _ _

/-- The block's rows are folded by their number modulo 16. -/
theorem pay2_le (x : Vec Ideal S512x5120 .bf16) (v : Vec Ideal S16x5120 .bf16) (p : Fin 16) (q : Fin 5120) (z : EReal) :
    (k0_pay2 x v (ix2 p q) : EReal) ≤ z ↔ (v (ix2 p q) : EReal) ≤ z ∧ ∀ a : Fin 32, ab (x (ix2 ⟨a.val * 16 + p.val, by have := a.isLt; have := p.isLt; omega⟩ q)) ≤ z := by
  unfold k0_pay2
  simp only [shapeCast_self]
  rw [maximumf_apply, max_le_iff]
  refine and_congr_right fun _ => ?_
  refine (maxred_le _ _ _ _ _ _ bot_bf16 z).trans ?_
  have e : ∀ a : Fin 32, (shapeCast S32x16x5120 (absf x : FVec Ideal S512x5120 .bf16) shapeCasts_S512x5120_S32x16x5120 (ix3 a p q) : EReal)
      = ab (x (ix2 ⟨a.val * 16 + p.val, by have := a.isLt; have := p.isLt; omega⟩ q)) := by
    intro a
    refine (shapeCast_apply _ _ _ (ix2 ⟨a.val * 16 + p.val, by have := a.isLt; have := p.isLt; omega⟩ q) ?_).trans rfl
    rw [Shape.rowMajor_val_two, Shape.rowMajor_val_three]
    rfl
  constructor
  · intro H a
    rw [← e a]
    exact H _ ((Shape.Reduces.fiber_r3_a0 _ _ _).mpr ⟨a, rfl⟩)
  · intro H i hi
    obtain ⟨a, rfl⟩ := (Shape.Reduces.fiber_r3_a0 _ _ _).mp hi
    exact (e a).trans_le (H a)

/-- The largest kept magnitude, as the kernel reads it off its scratch. -/
def amaxOf (v : Vec F S16x5120 .bf16) : F .f32 :=
  extractAt ![0, 0, 0] (shapeCast S1x1x1 (multiReduction .maximumf [1, 2] S1 (shapeCast S1x16x5120 (extf .f32 v bitsLt_bf16_f32 : FVec F S16x5120 .f32) shapeCasts_S16x5120_S1x16x5120) 0xFF800000#32 reduces_S1x16x5120_S1 (.inl rfl) rfl) shapeCasts_S1_S1x1x1) inpos_S1x1x1_p0_0_0

theorem amaxOf_le (v : Vec Ideal S16x5120 .bf16) (z : EReal) : (amaxOf v : EReal) ≤ z ↔ ∀ i, (v i : EReal) ≤ z := by
  refine (maxred_le _ _ _ (.inl rfl) rfl _ bot_f32 z).trans ?_
  constructor
  · intro H i
    have h := H ((Shape.reshapeEquiv shapeCasts_S16x5120_S1x16x5120).symm i) (one_index _ _)
    have e : (shapeCast S1x16x5120 (extf .f32 v bitsLt_bf16_f32 : FVec Ideal S16x5120 .f32) shapeCasts_S16x5120_S1x16x5120 ((Shape.reshapeEquiv shapeCasts_S16x5120_S1x16x5120).symm i) : EReal) = v i :=
      congrArg v (Equiv.apply_symm_apply _ _)
    exact e.symm.trans_le h
  · intro H i _
    exact H _

/-- The lanes' numbers. -/
def lanes : S2x128.Idx → BitVec 32 :=
  addi (muli (iota .tc S2x128 32 [0] iota_S2x128_d0_w32) (broadcast S2x128 128#32)) (iota .tc S2x128 32 [1] iota_S2x128_d1_w32)

/-- Each lane's candidate: its own number when its power of two is at most `y`. -/
def cand (y : F .f32) : S2x128.Idx → BitVec 32 :=
  select (cmpf (φ := .f32) .oge (broadcast S2x128 y) (bitcastToFloat .f32 (shli lanes (broadcast S2x128 23#32)))) lanes (broadcast S2x128 0#32)

/-- The kernel's exponent field of `y`: the largest `k` whose power of two is at most `y`. -/
def fieldOf (y : F .f32) : BitVec 32 :=
  extractAt ![0, 0, 0] (shapeCast S1x1x1 (multiReductionI .maxsi [1, 2] S1 (shapeCast S1x2x128 (cand y)
    shapeCasts_S2x128_S1x2x128) 2147483648#32 reduces_S1x2x128_S1 rfl) shapeCasts_S1_S1x1x1) inpos_S1x1x1_p0_0_0

/-- The exponent the kernel takes, as a word. -/
def expOf (a : F .f32) (f : BitVec 32) : BitVec 32 :=
  Scalar.select (Scalar.ori (Scalar.ori (Scalar.cmpi .eq f 0#32) (Scalar.cmpi .eq f 255#32)) (Scalar.cmpf .oeq a (Scalar.ofBits .f32 0x00000000#32))) 0#32 (Scalar.subi f 126#32)

/-- The value whose exponent field is read. -/
def quot (a : F .f32) : F .f32 := Scalar.mulf a (Scalar.ofBits .f32 0x37924925#32)

theorem pay3_eq (v : Vec F S16x5120 .bf16) : k0_pay3 v
    = Scalar.ofBits .f32 (Scalar.shli (Scalar.addi (expOf (amaxOf v) (fieldOf (quot (amaxOf v)))) 127#32) 23#32) := rfl
theorem pay4_eq (v : Vec F S16x5120 .bf16) : k0_pay4 v
    = Scalar.ofBits .f32 (Scalar.shli (Scalar.addi (Scalar.subi 0#32 (expOf (amaxOf v) (fieldOf (quot (amaxOf v))))) 127#32) 23#32) := rfl

theorem lanes_apply (p : Fin 2) (q : Fin 128) : lanes (ix2 p q) = BitVec.ofNat 32 (p.val * 128 + q.val) := by
  have h : ∀ (p : Fin 2) (q : Fin 128), IntOp.addi (IntOp.muli (BitVec.ofNat 32 p.val) 128#32) (BitVec.ofNat 32 q.val) = BitVec.ofNat 32 (p.val * 128 + q.val) := by
    decide +kernel
  refine Eq.trans ?_ (h p q)
  show IntOp.addi (IntOp.muli (iota .tc S2x128 32 [0] iota_S2x128_d0_w32 (ix2 p q)) 128#32) (iota .tc S2x128 32 [1] iota_S2x128_d1_w32 (ix2 p q)) = _
  rw [iota_single_apply, iota_single_apply]

theorem cand_apply (y : EReal) (i : S2x128.Idx) :
    cand (F := Ideal) y i = if Ideal.ofBits .f32 (IntOp.shli .vector (lanes i) 23#32) ≤ y then lanes i else 0#32 := by
  show (if BitVec.ofBool (decide (Ideal.ofBits .f32 (IntOp.shli .vector (lanes i) 23#32) ≤ y)) = 1#1 then lanes i else 0#32) = _
  by_cases h : Ideal.ofBits .f32 (IntOp.shli .vector (lanes i) 23#32) ≤ y <;> simp [h]

theorem fieldOf_le (y : EReal) (z : ℤ) : (fieldOf (F := Ideal) y).toInt ≤ z ↔ (2147483648#32 : BitVec 32).toInt ≤ z ∧ ∀ i, (cand (F := Ideal) y i).toInt ≤ z := by
  refine (maxredI_le _ _ _ rfl _ z).trans (and_congr_right fun _ => ?_)
  constructor
  · intro H i
    have h := H ((Shape.reshapeEquiv shapeCasts_S2x128_S1x2x128).symm i) (one_index _ _)
    have e : shapeCast S1x2x128 (cand (F := Ideal) y) shapeCasts_S2x128_S1x2x128 ((Shape.reshapeEquiv shapeCasts_S2x128_S1x2x128).symm i) = cand (F := Ideal) y i :=
      congrArg (cand (F := Ideal) y) (Equiv.apply_symm_apply _ _)
    rw [e] at h
    exact h
  · intro H i _
    exact H _

theorem toInt_small (k : ℕ) (h : k < 256) : (BitVec.ofNat 32 k).toInt = k := by
  rw [BitVec.toInt_ofNat', Int.bmod_eq_of_le] <;> omega

/-- The field is the largest `k` whose power of two is at most `y`. -/
theorem fieldOf_eq (y : EReal) (K : ℕ) (hK : K < 256)
    (h : K = 0 ∨ Ideal.ofBits .f32 (IntOp.shli .vector (BitVec.ofNat 32 K) 23#32) ≤ y)
    (hlt : ∀ k, K < k → k < 256 → y < Ideal.ofBits .f32 (IntOp.shli .vector (BitVec.ofNat 32 k) 23#32)) : fieldOf (F := Ideal) y = BitVec.ofNat 32 K := by
  apply BitVec.eq_of_toInt_eq
  rw [toInt_small K hK]
  refine eq_of_forall_ge_iff fun z => ?_
  rw [fieldOf_le]
  constructor
  · rintro ⟨-, H⟩
    have hw := lanes_apply ⟨K / 128, by omega⟩ ⟨K % 128, Nat.mod_lt _ (by norm_num)⟩
    rw [show K / 128 * 128 + K % 128 = K by omega] at hw
    have h' := H (ix2 ⟨K / 128, by omega⟩ ⟨K % 128, Nat.mod_lt _ (by norm_num)⟩)
    rw [cand_apply, hw] at h'
    rcases h with rfl | h
    · simpa using h'
    · rwa [if_pos h, toInt_small K hK] at h'
  · intro hz'
    have hz0 : (0 : ℤ) ≤ z := (Int.natCast_nonneg K).trans hz'
    refine ⟨le_trans (by decide) hz0, fun i => ?_⟩
    obtain ⟨p, q, rfl⟩ : ∃ p q, i = ix2 p q := ⟨i 0, i 1, ValueIdx.eq_ix2 i⟩
    rw [cand_apply, lanes_apply]
    by_cases hk : p.val * 128 + q.val ≤ K
    · split
      · rw [toInt_small _ (by omega)]; omega
      · simpa using hz0
    · rw [if_neg (not_le.mpr (hlt _ (by omega) (by have := p.isLt; have := q.isLt; omega)))]
      simpa using hz0

/-- The scale and its inverse, as the kernel builds them from the largest magnitude. -/
def scaleOf (a : F .f32) : F .f32 := Scalar.ofBits .f32 (Scalar.shli (Scalar.addi (expOf a (fieldOf (quot a))) 127#32) 23#32)
def inverseOf (a : F .f32) : F .f32 := Scalar.ofBits .f32 (Scalar.shli (Scalar.addi (Scalar.subi 0#32 (expOf a (fieldOf (quot a)))) 127#32) 23#32)

theorem select_one {α : Type} (x y : α) : Scalar.select 1#1 x y = x := rfl
theorem select_zero {α : Type} (x y : α) : Scalar.select 0#1 x y = y := rfl

theorem expOf_zero (a : EReal) : expOf (F := Ideal) a (BitVec.ofNat 32 0) = 0#32 := by
  have h : ∀ b : BitVec 1, Scalar.select (Scalar.ori (Scalar.ori (Scalar.cmpi .eq (BitVec.ofNat 32 0) 0#32) (Scalar.cmpi .eq (BitVec.ofNat 32 0) 255#32)) b) 0#32 (Scalar.subi (BitVec.ofNat 32 0) 126#32) = 0#32 := by
    decide
  exact h _

theorem words : ∀ k : Fin 256, 1 ≤ k.val → k.val ≤ 252 →
    Scalar.select (Scalar.ori (Scalar.ori (Scalar.cmpi .eq (BitVec.ofNat 32 k.val) 0#32) (Scalar.cmpi .eq (BitVec.ofNat 32 k.val) 255#32)) 0#1) 0#32 (Scalar.subi (BitVec.ofNat 32 k.val) 126#32) = BitVec.ofNat 32 k.val - 126#32
    ∧ Scalar.shli (Scalar.addi (BitVec.ofNat 32 k.val - 126#32) 127#32) 23#32 = IntOp.shli .vector (BitVec.ofNat 32 (k.val + 1)) 23#32
    ∧ Scalar.shli (Scalar.addi (Scalar.subi 0#32 (BitVec.ofNat 32 k.val - 126#32)) 127#32) 23#32 = IntOp.shli .vector (BitVec.ofNat 32 (253 - k.val)) 23#32 := by
  decide +kernel

theorem words_zero : Scalar.shli (Scalar.addi 0#32 127#32) 23#32 = IntOp.shli .vector (BitVec.ofNat 32 127) 23#32
    ∧ Scalar.shli (Scalar.addi (Scalar.subi 0#32 0#32) 127#32) 23#32 = IntOp.shli .vector (BitVec.ofNat 32 127) 23#32 := by decide +kernel

theorem one_pow_field : Ideal.ofBits .f32 (IntOp.shli .vector (BitVec.ofNat 32 127) 23#32) = 1 := by
  rw [ofBits_field 127 (by omega) (by omega)]
  norm_num

/-- Below the smallest normal number both are 1. -/
theorem scales_small (a : EReal) (h : quot (F := Ideal) a < (((2 : ℝ) ^ (-126 : ℤ) : ℝ) : EReal)) :
    scaleOf (F := Ideal) a = (1 : EReal) ∧ inverseOf (F := Ideal) a = (1 : EReal) := by
  have hf : fieldOf (F := Ideal) (quot (F := Ideal) a) = BitVec.ofNat 32 0 := by
    refine fieldOf_eq _ 0 (by omega) (Or.inl rfl) fun k h1 h2 => lt_of_lt_of_le h ?_
    by_cases hk : k = 255
    · subst hk; rw [ofBits_field_top]; exact le_top
    · rw [ofBits_field k (by omega) (by omega)]
      exact zpow_le _ _ (by omega)
  unfold scaleOf inverseOf
  rw [hf, expOf_zero]
  exact ⟨(congrArg (Ideal.ofBits .f32) words_zero.1).trans one_pow_field, (congrArg (Ideal.ofBits .f32) words_zero.2).trans one_pow_field⟩

/-- In a binade they are the power of two above it and its inverse. -/
theorem scales_mid (a : EReal) (k : ℕ) (h1 : 1 ≤ k) (h2 : k ≤ 252) (ha : a ≠ 0) (hl : (((2 : ℝ) ^ ((k : ℤ) - 127) : ℝ) : EReal) ≤ quot (F := Ideal) a)
    (hu : quot (F := Ideal) a < (((2 : ℝ) ^ ((k : ℤ) - 126) : ℝ) : EReal)) :
    scaleOf (F := Ideal) a = (((2 : ℝ) ^ ((k : ℤ) - 126) : ℝ) : EReal) ∧ inverseOf (F := Ideal) a = (((2 : ℝ) ^ (-((k : ℤ) - 126)) : ℝ) : EReal) := by
  have hf : fieldOf (F := Ideal) (quot (F := Ideal) a) = BitVec.ofNat 32 k := by
    refine fieldOf_eq _ k (by omega) (Or.inr ?_) fun j h1 h2 => lt_of_lt_of_le hu ?_
    · rw [ofBits_field k (by omega) (by omega)]; exact hl
    · by_cases hj : j = 255
      · subst hj; rw [ofBits_field_top]; exact le_top
      · rw [ofBits_field j (by omega) (by omega)]
        exact zpow_le _ _ (by omega)
  obtain ⟨w1, w2, w3⟩ := words ⟨k, by omega⟩ h1 h2
  have hc : Scalar.cmpf (F := Ideal) (φ := .f32) .oeq a (Scalar.ofBits .f32 0x00000000#32) = 0#1 := by
    show BitVec.ofBool (decide (a = Ideal.ofBits .f32 0x00000000#32)) = 0#1
    rw [Ideal.ofBits_zero_f32, decide_eq_false ha]
    rfl
  have he : expOf (F := Ideal) a (BitVec.ofNat 32 k) = BitVec.ofNat 32 k - 126#32 := by
    unfold expOf
    rw [hc]
    exact w1
  unfold scaleOf inverseOf
  rw [hf, he]
  constructor
  · refine (congrArg (Ideal.ofBits .f32) w2).trans ((ofBits_field (k + 1) (by omega) (by omega)).trans ?_)
    rw [show ((k + 1 : ℕ) : ℤ) - 127 = (k : ℤ) - 126 by omega]
  · refine (congrArg (Ideal.ofBits .f32) w3).trans ((ofBits_field (253 - k) (by omega) (by omega)).trans ?_)
    rw [show ((253 - k : ℕ) : ℤ) - 127 = -((k : ℤ) - 126) by omega]

/-! ## The region's output -/

theorem t_lt (t : Fin cfg0.N) : t.val < 64 := by
  have h := t.isLt; have : cfg0.N = 64 := N_0; omega

theorem idx : ∀ t : Fin cfg0.N, win0_0.index t 0 = t.val ∧ win0_0.index t 1 = 0 ∧ win0_1.index t 0 = 0 ∧ win0_1.index t 1 = 0 := by decide +kernel

theorem blk0 (c : Dev nD) (t : Fin cfg0.N) (k : Fin 512) (r : Fin 5120) :
    (iblk V c 0 t : Vec Ideal S512x5120 .bf16) (ix2 k r) = at2 (Y V c) (t.val * 512 + k.val) r.val := by
  have ht := t_lt t; have hk := k.isLt; have hr := r.isLt
  rw [at2_of _ _ _ (by omega) (by omega)]
  unfold iblk
  rw [View.read_apply]
  refine congrArg (V c main_v1) ?_
  funext a
  apply Fin.ext
  obtain ⟨h0, h1, -⟩ := idx t
  match a with
  | ⟨0, _⟩ => show win0_0.index t 0 * 512 + 1 * k.val = _; rw [h0, Nat.one_mul]
  | ⟨1, _⟩ => show win0_0.index t 1 * 5120 + 1 * r.val = r.val; rw [h1]; omega

section generic
variable (U : (c : Dev nD) → (b : Ref sig .tc) → Buf (Elt F) ((c : Thread nD τ).loc b))

theorem scratch_zero (c : Dev nD) (h : 0 < cfg0.N) : (outsAt0 U c 0 h).2 = k0_pay2 (iblk U c 0 ⟨0, h⟩) k0_pay1 := by
  refine (congrArg Prod.snd (outsAt0_A U c ⟨0, h⟩ (Nat.zero_mod _) (by norm_num))).trans ?_
  dsimp only
  exact sout_A ..

theorem scratch_succ (c : Dev nD) (n : ℕ) (h : n + 1 < cfg0.N) :
    (outsAt0 U c (n + 1) h).2 = k0_pay2 (iblk U c 0 ⟨n + 1, h⟩) (outsAt0 U c n (Nat.lt_of_succ_lt h)).2 := by
  have hN : cfg0.N = 64 := N_0
  by_cases h1 : (n + 1) % 64 = 63
  · refine (congrArg Prod.snd (outsAt0_C U c ⟨n + 1, h⟩ (by dsimp only; omega) h1)).trans ?_
    dsimp only
    exact sout_C ..
  · refine (congrArg Prod.snd (outsAt0_B U c ⟨n + 1, h⟩ (by dsimp only; omega) h1)).trans ?_
    dsimp only
    exact sout_B ..

/-- The last point stores what the scale and its inverse are of what is then kept. -/
theorem out_last (c : Dev nD) (n : ℕ) (h : n + 1 < cfg0.N) (h1 : (n + 1) % 64 = 63) :
    (outsAt0 U c (n + 1) h).1 = fun i => if (i 1).val = 0 then k0_pay3 (outsAt0 U c (n + 1) h).2 else k0_pay4 (outsAt0 U c (n + 1) h).2 := by
  rw [scratch_succ U c n h]
  refine (congrArg Prod.fst (outsAt0_C U c ⟨n + 1, h⟩ (by dsimp only; omega) h1)).trans ?_
  dsimp only
  exact out_C ..

end generic

/-- What is kept after a point: the largest magnitudes of the rows so far, by row number modulo 16. -/
theorem scratch_le (c : Dev nD) (p : Fin 16) (q : Fin 5120) (z : EReal) : ∀ (n : ℕ) (h : n < cfg0.N),
    ((outsAt0 V c n h).2 (ix2 p q) : EReal) ≤ z ↔ 0 ≤ z ∧ ∀ s, s ≤ n → ∀ a : Fin 32, ab (at2 (Y V c) (s * 512 + (a.val * 16 + p.val)) q.val) ≤ z := by
  intro n
  induction n with
  | zero =>
    intro h
    rw [scratch_zero, pay2_le, pay1_apply]
    refine and_congr_right fun _ => ?_
    constructor
    · intro H s hs a
      have hs' : s = 0 := by omega
      subst hs'
      have h' := H a
      rw [blk0] at h'
      exact h'
    · intro H a
      rw [blk0]
      exact H 0 le_rfl a
  | succ n ih =>
    intro h
    rw [scratch_succ, pay2_le, ih, and_assoc]
    refine and_congr_right fun _ => ?_
    constructor
    · rintro ⟨H, H'⟩ s hs a
      rcases Nat.lt_or_ge n s with hl | hl
      · have e : s = n + 1 := by omega
        subst e
        have h' := H' a
        rw [blk0] at h'
        exact h'
      · exact H s hl a
    · intro H
      refine ⟨fun s hs a => H s (by omega) a, fun a => ?_⟩
      rw [blk0]
      exact H (n + 1) le_rfl a

theorem lt63 : 63 < cfg0.N := by have hN : cfg0.N = 64 := N_0; omega

/-- The largest magnitude. -/
def top (c : Dev nD) : EReal := amaxOf (F := Ideal) (outsAt0 V c 63 lt63).2

theorem top_le (c : Dev nD) (z : EReal) : top V c ≤ z ↔ 0 ≤ z ∧ ∀ i, ab (Y V c i) ≤ z := by
  unfold top
  rw [amaxOf_le]
  constructor
  · intro H
    refine ⟨((scratch_le V c 0 0 z 63 lt63).mp (H (ix2 0 0))).1, fun i => ?_⟩
    have h0 : (i 0).val < 32768 := (i 0).isLt
    have h1 : (i 1).val < 5120 := (i 1).isLt
    have h := ((scratch_le V c ⟨(i 0).val % 16, Nat.mod_lt _ (by norm_num)⟩ ⟨(i 1).val, h1⟩ z 63 lt63).mp (H (ix2 _ _))).2 ((i 0).val / 512) (by omega)
      ⟨(i 0).val % 512 / 16, by omega⟩
    dsimp only at h
    rw [show (i 0).val / 512 * 512 + ((i 0).val % 512 / 16 * 16 + (i 0).val % 16) = (i 0).val by omega, at2_of _ _ _ h0 h1] at h
    rwa [show (ix2 ⟨(i 0).val, h0⟩ ⟨(i 1).val, h1⟩ : S32768x5120.Idx) = i from (ValueIdx.eq_ix2 i).symm] at h
  · rintro ⟨hz, H⟩ i
    obtain ⟨p, q, rfl⟩ : ∃ p q, i = ix2 p q := ⟨i 0, i 1, ValueIdx.eq_ix2 i⟩
    refine (scratch_le V c p q z 63 lt63).mpr ⟨hz, fun s hs a => ?_⟩
    have hp := p.isLt; have hq := q.isLt; have ha := a.isLt
    rw [at2_of _ _ _ (by omega) hq]
    exact H _

/-- The scale and its inverse. -/
def result (c : Dev nD) : S1x2.Idx → EReal := fun i => if (i 1).val = 0 then scaleOf (F := Ideal) (top V c) else inverseOf (F := Ideal) (top V c)

theorem result_zero (c : Dev nD) : result V c (ix2 0 0) = scaleOf (F := Ideal) (top V c) := if_pos rfl
theorem result_one (c : Dev nD) : result V c (ix2 0 1) = inverseOf (F := Ideal) (top V c) := if_neg Nat.one_ne_zero

theorem outs_last (c : Dev nD) : ((outsAt0 V c 63 lt63).1 : S1x2.Idx → EReal) = result V c := by
  have h := out_last V c 62 lt63 (by norm_num)
  refine h.trans ?_
  rw [pay3_eq, pay4_eq]
  rfl

theorem flushed_eq (c : Dev nD) (t : Fin cfg0.N) (hf : (cfg0.win 1).flush t = true) :
    (dat V c).flushed 1 t = ((cfg0.win 1).blk t).view.read (Elt Ideal) (result V c) := by
  have ht := t_lt t
  have h63 : t.val % 64 = 63 := (flush0_1 t).mp hf
  have e : t = ⟨63, lt63⟩ := Fin.ext (by show t.val = 63; omega)
  show (cfg0.win 1).cut (grid0.coords t) ((dat V c).after 1 t) = _
  rw [after0_1]
  subst e
  funext i
  rw [View.read_apply]
  refine (congrFun (outs_last V c) i).trans ?_
  refine congrArg (result V c) ?_
  funext a
  apply Fin.ext
  obtain ⟨-, -, h0, h1⟩ := idx ⟨63, lt63⟩
  match a with
  | ⟨0, _⟩ => show (i 0).val = win0_1.index ⟨63, lt63⟩ 0 * 1 + 1 * (i 0).val; rw [h0]; omega
  | ⟨1, _⟩ => show (i 1).val = win0_1.index ⟨63, lt63⟩ 1 * 2 + 1 * (i 1).val; rw [h1]; omega

theorem xsz : win0_1.xsize (grid0.coords ⟨63, lt63⟩) 0 = 1 ∧ win0_1.xsize (grid0.coords ⟨63, lt63⟩) 1 = 2 := by decide +kernel

/-- The region leaves the scale and its inverse. -/
theorem final (c : Dev nD) : (dat V c).arrAt 1 cfg0.N = result V c :=
  (dat V c).arrAt_eq_of_cover 1 (result V c) (flushed_eq V c) fun i => by
    have h0 : (i 0 : Nat) < 1 := (i 0).isLt
    have h1 : (i 1 : Nat) < 2 := (i 1).isLt
    refine ⟨⟨63, lt63⟩, (flush0_1 _).mpr (by norm_num), ?_⟩
    show i ∈ ((View.whole main_v2).slice (win0_1.rect ⟨63, lt63⟩)).set
    rw [View.set_slice_whole, Rect.mem_set_unit]
    obtain ⟨-, -, e0, e1⟩ := idx ⟨63, lt63⟩
    obtain ⟨x0, x1⟩ := xsz
    intro a
    match a with
    | ⟨0, _⟩ =>
      show win0_1.index ⟨63, lt63⟩ 0 * 1 ≤ (i 0 : Nat) ∧ (i 0 : Nat) < win0_1.index ⟨63, lt63⟩ 0 * 1 + win0_1.xsize (grid0.coords ⟨63, lt63⟩) 0
      rw [e0, x0]; omega
    | ⟨1, _⟩ =>
      show win0_1.index ⟨63, lt63⟩ 1 * 2 ≤ (i 1 : Nat) ∧ (i 1 : Nat) < win0_1.index ⟨63, lt63⟩ 1 * 2 + win0_1.xsize (grid0.coords ⟨63, lt63⟩) 1
      rw [e1, x1]; omega

end Cert.KernelIdeal.R0

end
-- ==== Proof.VR1.lean ====
/- Region 1 of `KernelIdeal` (the codes): what each point leaves, as a value. -/
module

public import proofs.«01_k».proof.Proof.VR2
public import proofs.«01_k».proof.Proof.IR1
public import Idealize.ShloMosaic.Lib.Pipeline.Value

@[expose] public section

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL.Sem
open Idealize.ShloMosaic.ValueIdx Cert.Lib
open scoped BigOperators
open Idealize.ShloMosaic.Pipeline (Dat Cfg Window cellOf)

variable {F : FTy → Type} [FloatOps F]

open Cert.KernelIdeal.R2 (hz ld_first)

/-- A point stores the codes of its block of rows. -/
theorem out_A (c : Dev nD) (i : grid1.Coords) (arg1 : Memref sig .tc .smem S1x2 .f32) (harg1 : arg1.IsWhole) (arg2 : Memref sig .tc .vmem S512x5120 .bf16) (harg2 : arg2.IsWhole) (arg3 : Memref sig .tc .vmem S512x5120 .fp8e5m2) (harg3 : arg3.IsWhole)
    (x0 : Vec F S1x2 .f32) (x1 : Vec F S512x5120 .bf16) :
    out0_A_2 c i arg1 harg1 arg2 harg2 arg3 harg3 x0 x1 = k1_pay1 x1 (x0 (ix2 0 1)) := by
  unfold out0_A_2
  rw [View.read_writes_eq_canon _ _ _ (cover0_A_2 c i arg1 harg1 arg2 harg2 arg3 harg3 x0 x1)]
  unfold kernelRun0_A; dsimp only
  sl_unfold_words
  rw [View.canon_unit_zero hz]
  simp only [View.readAt_eq_ld, harg1.read_unread, harg2.read_unread, View.ld_unit_zero (S := S512x5120) hz]
  exact congrArg (k1_pay1 x1) (ld_first x0 0 1 _ _)

/-! ## Over the reals -/

variable (V : (c : Dev nD) → (b : Ref sig .tc) → Buf (Elt Ideal) ((c : Thread nD τ).loc b))

/-- The gradient's rows and the inverse scale. -/
abbrev Y (c : Dev nD) : S32768x5120.Idx → EReal := V c main_v1
abbrev inv (c : Dev nD) : EReal := (V c main_v2 : S1x2.Idx → EReal) (ix2 0 1)

/-- One code: the scaled value clipped to the format's range. -/
def code (y s : EReal) : EReal := min (Ideal.ofBits .f32 0x47600000#32) (max (Ideal.ofBits .f32 0xC7600000#32) (y * s))

/-- The codes. -/
def result (c : Dev nD) : S32768x5120.Idx → EReal := fun i => code (Y V c i) (inv V c)

theorem pay1_apply (x : Vec Ideal S512x5120 .bf16) (s : EReal) (i : S512x5120.Idx) : k1_pay1 (F := Ideal) x s i = code (x i) s := by
  unfold k1_pay1
  simp only [shapeCast_self]
  rfl

theorem idx : ∀ t : Fin cfg1.N, win1_1.index t 0 = t.val ∧ win1_1.index t 1 = 0 ∧ win1_2.index t 0 = t.val ∧ win1_2.index t 1 = 0
    ∧ win1_0.index t 0 = 0 ∧ win1_0.index t 1 = 0 := by decide +kernel

theorem t_lt (t : Fin cfg1.N) : t.val < 64 := by
  have h := t.isLt; have : cfg1.N = 64 := N_1; omega

theorem blk1 (c : Dev nD) (t : Fin cfg1.N) (k : Fin 512) (r : Fin 5120) :
    (iblk V c 1 t : Vec Ideal S512x5120 .bf16) (ix2 k r) = at2 (Y V c) (t.val * 512 + k.val) r.val := by
  have ht := t_lt t; have hk := k.isLt; have hr := r.isLt
  rw [at2_of _ _ _ (by omega) (by omega)]
  unfold iblk
  rw [View.read_apply]
  refine congrArg (V c main_v1) ?_
  funext a
  apply Fin.ext
  obtain ⟨h0, h1, -⟩ := idx t
  match a with
  | ⟨0, _⟩ => show win1_1.index t 0 * 512 + 1 * k.val = _; rw [h0, Nat.one_mul]
  | ⟨1, _⟩ => show win1_1.index t 1 * 5120 + 1 * r.val = r.val; rw [h1]; omega

theorem blk0 (c : Dev nD) (t : Fin cfg1.N) : (iblk V c 0 t : Vec Ideal S1x2 .f32) (ix2 0 1) = inv V c := by
  unfold iblk
  rw [View.read_apply]
  refine congrArg (V c main_v2) ?_
  funext a
  apply Fin.ext
  obtain ⟨-, -, -, -, h0, h1⟩ := idx t
  match a with
  | ⟨0, _⟩ => show win1_0.index t 0 * 1 + 1 * 0 = 0; rw [h0]
  | ⟨1, _⟩ => show win1_0.index t 1 * 2 + 1 * 1 = 1; rw [h1]

theorem outs_eq (c : Dev nD) (t : Fin cfg1.N) (k : Fin 512) (r : Fin 5120) :
    (outsAt0 V c t : S512x5120.Idx → EReal) (ix2 k r) = at2 (result V c) (t.val * 512 + k.val) r.val := by
  have ht := t_lt t; have hk := k.isLt; have hr := r.isLt
  refine (congrFun (out_A ..) (ix2 k r)).trans ?_
  refine (pay1_apply _ _ _).trans ?_
  rw [blk0, blk1, at2_of _ _ _ (by omega) (by omega), at2_of _ _ _ (by omega) (by omega)]
  rfl

theorem flushed_eq (c : Dev nD) (t : Fin cfg1.N) (hf : (cfg1.win 2).flush t = true) :
    (dat V c).flushed 2 t = ((cfg1.win 2).blk t).view.read (Elt Ideal) (result V c) := by
  have ht := t_lt t
  show (cfg1.win 2).cut (grid1.coords t) ((dat V c).after 2 t) = _
  rw [after0_2]
  funext i
  rw [View.read_apply]
  obtain ⟨r, q, rfl⟩ : ∃ (r : Fin 512) (q : Fin 5120), i = ix2 r q := ⟨i 0, i 1, eq_ix2 i⟩
  refine (outs_eq V c t r q).trans ?_
  have hr := r.isLt; have hq := q.isLt
  rw [at2_of (result V c) _ _ (by omega) (by omega)]
  refine congrArg (result V c) ?_
  funext a
  apply Fin.ext
  obtain ⟨-, -, h0, h1, -⟩ := idx t
  match a with
  | ⟨0, _⟩ => show _ = win1_2.index t 0 * 512 + 1 * r.val; rw [h0, Nat.one_mul]
  | ⟨1, _⟩ => show q.val = win1_2.index t 1 * 5120 + 1 * q.val; rw [h1]; omega

theorem xsz : ∀ t : Fin cfg1.N, win1_2.xsize (grid1.coords t) 0 = 512 ∧ win1_2.xsize (grid1.coords t) 1 = 5120 := by decide +kernel

/-- The region leaves the codes. -/
theorem final (c : Dev nD) : (dat V c).arrAt 2 cfg1.N = result V c :=
  (dat V c).arrAt_eq_of_cover 2 (result V c) (flushed_eq V c) fun i => by
    have hN : cfg1.N = 64 := N_1
    have h0 : (i 0 : Nat) < 32768 := (i 0).isLt
    have h1 : (i 1 : Nat) < 5120 := (i 1).isLt
    refine ⟨⟨(i 0 : Nat) / 512, by omega⟩, flush1_2 _, ?_⟩
    generalize hT : (⟨(i 0 : Nat) / 512, by omega⟩ : Fin cfg1.N) = T
    have hv : T.val = (i 0 : Nat) / 512 := by rw [← hT]
    show i ∈ ((View.whole main_v3).slice (win1_2.rect T)).set
    rw [View.set_slice_whole, Rect.mem_set_unit]
    obtain ⟨-, -, e0, e1, -⟩ := idx T
    obtain ⟨x0, x1⟩ := xsz T
    intro a
    match a with
    | ⟨0, _⟩ =>
      show win1_2.index T 0 * 512 ≤ (i 0 : Nat) ∧ (i 0 : Nat) < win1_2.index T 0 * 512 + win1_2.xsize (grid1.coords T) 0
      rw [e0, x0, hv]; omega
    | ⟨1, _⟩ =>
      show win1_2.index T 1 * 5120 ≤ (i 1 : Nat) ∧ (i 1 : Nat) < win1_2.index T 1 * 5120 + win1_2.xsize (grid1.coords T) 1
      rw [e1, x1]; omega

end Cert.KernelIdeal.R1

end
-- ==== Proof.VKernel.lean ====
/- The three results of `KernelIdeal` as values of the arguments. -/
module

public import proofs.«01_k».proof.Proof.VR0b
public import proofs.«01_k».proof.Proof.VR1
public import proofs.«01_k».proof.Proof.VR2
public import proofs.«01_k».proof.Proof.IRun
public import Idealize.ShloMosaic.Lib.StableHlo.RunRead

@[expose] public section

set_option maxRecDepth 16384

noncomputable section

namespace Cert.KernelIdeal.Whole

open Cert.KernelIdeal Cert.KernelIdeal.Gen
open Idealize.ShloMosaic hiding ix0 ix1 ix2 ix3
open Idealize.ShloMosaic.TcCoe Idealize.ShloMosaic.Tactic
open Idealize.SL.Sem
open Idealize.ShloMosaic.ValueIdx Cert.Lib
open scoped BigOperators

section generic
variable {F : FTy → Type} [FloatOps F]
variable (m : (ℓ : Loc nD τ sig) → Buf (Elt F) ℓ)

theorem W1_v0 (c : Dev nD) : W1 m c main_v0 = shapeCast S32768x6912 (m (c, main_arg0)) shapeCasts_S4x8192x6912_S32768x6912 := by
  unfold W1 W0
  after_results
  rfl
theorem W1_v1 (c : Dev nD) : W1 m c main_v1 = shapeCast S32768x5120 (m (c, main_arg2)) shapeCasts_S4x8192x5120_S32768x5120 := by
  unfold W1 W0
  after_results
  rfl
theorem W4_v4 (c : Dev nD) : W4 m c main_v4 = shapeCast S1x1 (W3 m c main_arg1) shapeCasts_S_S1x1 := by
  unfold W4
  after_results
  rfl
theorem W6_v6 (c : Dev nD) : W6 m c main_v6 = shapeCast S4x8192x5120 (W5 m c main_v3) shapeCasts_S32768x5120_S4x8192x5120 := by
  unfold W6
  after_results
  rfl
theorem W6_v8 (c : Dev nD) : W6 m c main_v8 = shapeCast S_ (extractStridedSlice S1x1 ![0, 0] (W5 m c main_v2) slices_S1x2_S1x1_0_0) shapeCasts_S1x1_S_ := by
  unfold W6
  after_results
  rfl

theorem W2_v2 (c : Dev nD) : W2 m c main_v2 = (R0.dat (atRefs (W1 m)) c).arrAt 1 cfg0.N :=
  Pipeline.afterRegion_arr (R0.dat (atRefs (W1 m)) c) (W1 m c) (by decide) 1
theorem W3_v3 (c : Dev nD) : W3 m c main_v3 = (R1.dat (atRefs (W2 m)) c).arrAt 2 cfg1.N :=
  Pipeline.afterRegion_arr (R1.dat (atRefs (W2 m)) c) (W2 m c) (by decide) 2
theorem W5_v5 (c : Dev nD) : W5 m c main_v5 = (R2.dat (atRefs (W4 m)) c).arrAt 5 cfg2.N :=
  Pipeline.afterRegion_arr (R2.dat (atRefs (W4 m)) c) (W4 m c) (by decide) 5

end generic

variable (m : (ℓ : Loc nD τ sig) → Buf (Elt Ideal) ℓ)

/-- The arguments. -/
abbrev x3 (c : Dev nD) : S4x8192x6912.Idx → EReal := m (c, main_arg0)
abbrev xsc (c : Dev nD) : S_.Idx → EReal := m (c, main_arg1)
abbrev dy3 (c : Dev nD) : S4x8192x5120.Idx → EReal := m (c, main_arg2)
abbrev acc (c : Dev nD) : S6912x5120.Idx → EReal := m (c, main_arg3)

/-- The arguments as rows. -/
def x2 (c : Dev nD) : S32768x6912.Idx → EReal := shapeCast S32768x6912 (x3 m c) shapeCasts_S4x8192x6912_S32768x6912
def dy2 (c : Dev nD) : S32768x5120.Idx → EReal := shapeCast S32768x5120 (dy3 m c) shapeCasts_S4x8192x5120_S32768x5120

/-- The largest magnitude of the gradient. -/
def amax (c : Dev nD) : EReal := R0.top (atRefs (W1 m)) c

theorem amax_le (c : Dev nD) (z : EReal) : amax m c ≤ z ↔ 0 ≤ z ∧ ∀ i, R0.ab (dy3 m c i) ≤ z := by
  unfold amax
  rw [R0.top_le]
  refine and_congr_right fun _ => ?_
  have e : R0.Y (atRefs (W1 m)) c = dy2 m c := W1_v1 m c
  rw [e]
  constructor
  · intro H i
    have h := H ((Shape.reshapeEquiv shapeCasts_S4x8192x5120_S32768x5120).symm i)
    have e' : dy2 m c ((Shape.reshapeEquiv shapeCasts_S4x8192x5120_S32768x5120).symm i) = dy3 m c i :=
      congrArg (dy3 m c) (Equiv.apply_symm_apply _ _)
    rwa [e'] at h
  · intro H i
    exact H _

/-- The scale and its inverse. -/
def scale (c : Dev nD) : EReal := R0.scaleOf (F := Ideal) (amax m c)
def inverse (c : Dev nD) : EReal := R0.inverseOf (F := Ideal) (amax m c)

theorem v2_eq (c : Dev nD) : (W2 m c main_v2 : S1x2.Idx → EReal) = R0.result (atRefs (W1 m)) c := (W2_v2 m c).trans (R0.final _ c)

theorem v2_scale (c : Dev nD) : (W2 m c main_v2 : S1x2.Idx → EReal) (ix2 0 0) = scale m c :=
  (congrFun (v2_eq m c) _).trans (R0.result_zero _ c)
theorem v2_inverse (c : Dev nD) : (W2 m c main_v2 : S1x2.Idx → EReal) (ix2 0 1) = inverse m c :=
  (congrFun (v2_eq m c) _).trans (R0.result_one _ c)

/-- The codes, as rows. -/
def codes (c : Dev nD) : S32768x5120.Idx → EReal := fun i => R1.code (dy2 m c i) (inverse m c)

theorem v3_eq (c : Dev nD) : (W3 m c main_v3 : S32768x5120.Idx → EReal) = codes m c := by
  refine (W3_v3 m c).trans ((R1.final _ c).trans ?_)
  unfold R1.result codes
  have e : R1.Y (atRefs (W2 m)) c = dy2 m c := (W2_of m c main_v1 (by decide)).trans (W1_v1 m c)
  rw [e]
  have e' : R1.inv (atRefs (W2 m)) c = inverse m c := v2_inverse m c
  rw [e']

/-- The new accumulator. -/
def grad (c : Dev nD) : S6912x5120.Idx → EReal := fun i =>
  acc m c i + (∑ k : Fin 32768, x2 m c (ix2 k (i 0)) * codes m c (ix2 k (i 1))) * (xsc m c ix0 * scale m c)

theorem v5_eq (c : Dev nD) : (W6 m c main_v5 : S6912x5120.Idx → EReal) = grad m c := by
  refine (W6_of m c main_v5 (by decide)).trans ((W5_v5 m c).trans ((R2.final _ c).trans ?_))
  unfold R2.result grad
  have e0 : R2.X (atRefs (W4 m)) c = x2 m c :=
    (W4_of m c main_v0 (by decide)).trans ((W3_of m c main_v0 (by decide)).trans ((W2_of m c main_v0 (by decide)).trans (W1_v0 m c)))
  have e1 : R2.C (atRefs (W4 m)) c = codes m c := (W4_of m c main_v3 (by decide)).trans (v3_eq m c)
  have e2 : R2.D (atRefs (W4 m)) c = acc m c :=
    (W4_of m c main_arg3 (by decide)).trans ((W3_of m c main_arg3 (by decide)).trans ((W2_of m c main_arg3 (by decide)).trans (W1_of m c main_arg3 (by decide))))
  have e3 : R2.xs (atRefs (W4 m)) c = xsc m c ix0 := by
    have h : W3 m c main_arg1 = xsc m c :=
      (W3_of m c main_arg1 (by decide)).trans ((W2_of m c main_arg1 (by decide)).trans (W1_of m c main_arg1 (by decide)))
    refine (congrFun (W4_v4 m c) (ix2 0 0)).trans ?_
    rw [h]
    exact congrArg (xsc m c) (funext fun a => a.elim0)
  have e4 : R2.sc (atRefs (W4 m)) c = scale m c :=
    (congrFun ((W4_of m c main_v2 (by decide)).trans (W3_of m c main_v2 (by decide))) (ix2 0 0)).trans (v2_scale m c)
  rw [e0, e1, e2, e3, e4]

theorem v6_eq (c : Dev nD) : (W6 m c main_v6 : S4x8192x5120.Idx → EReal) = fun i => R1.code (dy3 m c i) (inverse m c) := by
  refine (W6_v6 m c).trans ?_
  have h : W5 m c main_v3 = codes m c :=
    (W5_of m c main_v3 (by decide)).trans ((W4_of m c main_v3 (by decide)).trans (v3_eq m c))
  rw [h]
  funext i
  show R1.code (dy2 m c _) (inverse m c) = _
  refine congrArg (fun z => R1.code z (inverse m c)) ?_
  exact congrFun (shapeCast_shapeCast (dy3 m c) shapeCasts_S4x8192x5120_S32768x5120 shapeCasts_S32768x5120_S4x8192x5120) i

theorem v8_eq (c : Dev nD) : (W6 m c main_v8 : S_.Idx → EReal) = fun _ => scale m c := by
  refine (W6_v8 m c).trans ?_
  have h : W5 m c main_v2 = (W2 m c main_v2 : S1x2.Idx → EReal) :=
    (W5_of m c main_v2 (by decide)).trans ((W4_of m c main_v2 (by decide)).trans (W3_of m c main_v2 (by decide)))
  rw [h]
  funext i
  refine Eq.trans ?_ (v2_scale m c)
  refine congrArg (W2 m c main_v2 : S1x2.Idx → EReal) ?_
  funext a
  apply Fin.ext
  match a with
  | ⟨0, _⟩ => exact Nat.lt_one_iff.mp (Fin.isLt _)
  | ⟨1, _⟩ => exact (Nat.zero_add _).trans (Nat.lt_one_iff.mp (Fin.isLt (n := 1) _))

end Cert.KernelIdeal.Whole

end
-- ==== Proof.RefHost.lean ====
/- The run of `ReferenceIdeal`: what its results hold, as terms over the arguments. -/
module

public import proofs.«01_k».proof.Proof.MatTN
public import proofs.«01_k».proof.Proof.Gen.ReferenceIdeal.Frame
public import Idealize.ShloMosaic.Lib.Claim
public import Idealize.ShloMosaic.Lib.ValueIdx
public import Idealize.ShloMosaic.Lib.Pipeline.Value
public import Idealize.ShloMosaic.Lib.StableHlo.RunRead

@[expose] public section

set_option maxRecDepth 16384

noncomputable section

namespace Cert.ReferenceIdeal.Whole

open Cert.ReferenceIdeal Cert.ReferenceIdeal.Gen
open Idealize.ShloMosaic
open Idealize.ShloMosaic.TcCoe Idealize.ShloMosaic.Tactic
open Idealize.SL.Sem
open Idealize.ShloMosaic.ValueIdx Cert.Lib
open Idealize.ShloMosaic.Pipeline (Dat Cfg Window cellOf)

variable {F : FTy → Type} [FloatOps F]

/-- The largest magnitude of the gradient. -/
def amaxV (x : FVec F S4x8192x5120 .bf16) : FVec F S_ .f32 :=
  extf .f32 (Host.reduce FloatOps.maximumf (Host.absf x) (constant S_ .bf16 0xFF80#16) reducesTo_S4x8192x5120_S_d0_1_2 h_S_ : FVec F S_ .bf16) bitsLt_bf16_f32

/-- The candidate exponents, from -125 on. -/
def ns : FVec F S254 .f32 := addf (broadcastInDim S254 ![] bcast_S_S254 (constant S_ .f32 0xC2FA0000#32)) (sitofp .f32 (iotaInDim S254 32 0))

/-- The value whose exponent is wanted. -/
def quotV (a : FVec F S_ .f32) : FVec F S_ .f32 := mulf a (constant S_ .f32 0x37924925#32)

/-- The smallest exponent whose power of two exceeds `y`. -/
def leastV (y : FVec F S_ .f32) : FVec F S_ .f32 :=
  Host.reduce FloatOps.minimumf
    (select (cmpf .olt (broadcastInDim S254 ![] bcast_S_S254 y) (Host.powf (broadcastInDim S254 ![] bcast_S_S254 (constant S_ .f32 0x40000000#32)) ns)) ns
      (broadcastInDim S254 ![] bcast_S_S254 (id (constant S_ .f32 0x7F800000#32))))
    (constant S_ .f32 0x7F800000#32) reducesTo_S254_S_d0 h_S_

/-- The exponent of the scale. -/
def expV (a : FVec F S_ .f32) : FVec F S_ .f32 :=
  select (cmpf .oeq a (constant S_ .f32 0x00000000#32)) (id (constant S_ .f32 0x00000000#32))
    (select (cmpf .olt (quotV a) (constant S_ .f32 0x00800000#32)) (id (constant S_ .f32 0x00000000#32)) (leastV (quotV a)))

/-- The scale and its inverse. -/
def scaleV (a : FVec F S_ .f32) : FVec F S_ .f32 := Host.powf (constant S_ .f32 0x40000000#32) (expV a)
def inverseV (a : FVec F S_ .f32) : FVec F S_ .f32 := Host.powf (constant S_ .f32 0x40000000#32) (Host.negf (expV a))

variable (m : (ℓ : Loc nD τ sig) → Buf (Elt F) ℓ)

theorem V_v17 (c : Dev nD) : V m c main_v17 = scaleV (amaxV (m (c, main_arg2))) := by
  unfold V V0
  after_reads_simp
  rfl
theorem V_v22 (c : Dev nD) : V m c main_v22 = shapeCast S1x1 (inverseV (amaxV (m (c, main_arg2)))) shapeCasts_S_S1x1 := by
  unfold V V0
  after_reads_simp
  rfl
theorem V_v24 (c : Dev nD) : V m c main_v24 = shapeCast S1x1 (mulf (m (c, main_arg1)) (scaleV (amaxV (m (c, main_arg2)))) : FVec F S_ .f32) shapeCasts_S_S1x1 := by
  unfold V V0
  after_reads_simp
  rfl
theorem V_v20 (c : Dev nD) : V m c main_v20 = shapeCast S32768x6912 (m (c, main_arg0)) shapeCasts_S4x8192x6912_S32768x6912 := by
  unfold V V0
  after_reads_simp
  rfl
theorem V_v21 (c : Dev nD) : V m c main_v21 = shapeCast S32768x5120 (m (c, main_arg2)) shapeCasts_S4x8192x5120_S32768x5120 := by
  unfold V V0
  after_reads_simp
  rfl

/-! ## The region: one point, every window the whole of its array -/

theorem hz : (![0, 0] : Fin 2 → Nat) = fun _ => 0 := by
  funext i; fin_cases i <;> rfl

theorem idx0 : ∀ t : Fin cfg0.N, win0_0.index t 0 = 0 ∧ win0_0.index t 1 = 0 := by decide +kernel
theorem idx1 : ∀ t : Fin cfg0.N, win0_1.index t 0 = 0 ∧ win0_1.index t 1 = 0 := by decide +kernel
theorem idx2 : ∀ t : Fin cfg0.N, win0_2.index t 0 = 0 ∧ win0_2.index t 1 = 0 := by decide +kernel
theorem idx3 : ∀ t : Fin cfg0.N, win0_3.index t 0 = 0 ∧ win0_3.index t 1 = 0 := by decide +kernel
theorem idx4 : ∀ t : Fin cfg0.N, win0_4.index t 0 = 0 ∧ win0_4.index t 1 = 0 := by decide +kernel
theorem idx5 : ∀ t : Fin cfg0.N, win0_5.index t 0 = 0 ∧ win0_5.index t 1 = 0 := by decide +kernel
theorem idx6 : ∀ t : Fin cfg0.N, win0_6.index t 0 = 0 ∧ win0_6.index t 1 = 0 := by decide +kernel

theorem iblk0 (c : Dev nD) (t : Fin cfg0.N) : (iblk m c 0 t : S32768x6912.Idx → _) = V m c main_v20 := by
  unfold iblk
  funext i
  rw [View.read_apply]
  refine congrArg (V m c main_v20) ?_
  funext a
  apply Fin.ext
  obtain ⟨h0, h1⟩ := idx0 t
  match a with
  | ⟨0, _⟩ => show win0_0.index t 0 * 32768 + 1 * (i 0).val = (i 0).val; rw [h0]; omega
  | ⟨1, _⟩ => show win0_0.index t 1 * 6912 + 1 * (i 1).val = (i 1).val; rw [h1]; omega

theorem iblk1 (c : Dev nD) (t : Fin cfg0.N) : (iblk m c 1 t : S32768x5120.Idx → _) = V m c main_v21 := by
  unfold iblk
  funext i
  rw [View.read_apply]
  refine congrArg (V m c main_v21) ?_
  funext a
  apply Fin.ext
  obtain ⟨h0, h1⟩ := idx1 t
  match a with
  | ⟨0, _⟩ => show win0_1.index t 0 * 32768 + 1 * (i 0).val = (i 0).val; rw [h0]; omega
  | ⟨1, _⟩ => show win0_1.index t 1 * 5120 + 1 * (i 1).val = (i 1).val; rw [h1]; omega

theorem iblk2 (c : Dev nD) (t : Fin cfg0.N) : (iblk m c 2 t : S6912x5120.Idx → _) = V m c main_arg3 := by
  unfold iblk
  funext i
  rw [View.read_apply]
  refine congrArg (V m c main_arg3) ?_
  funext a
  apply Fin.ext
  obtain ⟨h0, h1⟩ := idx2 t
  match a with
  | ⟨0, _⟩ => show win0_2.index t 0 * 6912 + 1 * (i 0).val = (i 0).val; rw [h0]; omega
  | ⟨1, _⟩ => show win0_2.index t 1 * 5120 + 1 * (i 1).val = (i 1).val; rw [h1]; omega

theorem iblk3 (c : Dev nD) (t : Fin cfg0.N) : (iblk m c 3 t : S1x1.Idx → _) = V m c main_v22 := by
  unfold iblk
  funext i
  rw [View.read_apply]
  refine congrArg (V m c main_v22) ?_
  funext a
  apply Fin.ext
  obtain ⟨h0, h1⟩ := idx3 t
  match a with
  | ⟨0, _⟩ => show win0_3.index t 0 * 1 + 1 * (i 0).val = (i 0).val; rw [h0]; omega
  | ⟨1, _⟩ => show win0_3.index t 1 * 1 + 1 * (i 1).val = (i 1).val; rw [h1]; omega

theorem iblk4 (c : Dev nD) (t : Fin cfg0.N) : (iblk m c 4 t : S1x1.Idx → _) = V m c main_v24 := by
  unfold iblk
  funext i
  rw [View.read_apply]
  refine congrArg (V m c main_v24) ?_
  funext a
  apply Fin.ext
  obtain ⟨h0, h1⟩ := idx4 t
  match a with
  | ⟨0, _⟩ => show win0_4.index t 0 * 1 + 1 * (i 0).val = (i 0).val; rw [h0]; omega
  | ⟨1, _⟩ => show win0_4.index t 1 * 1 + 1 * (i 1).val = (i 1).val; rw [h1]; omega

/-- What the region leaves in its two results. -/
def res5 (c : Dev nD) : Vec F S6912x5120 .f32 := k0_pay2 (V m c main_v21) (V m c main_v22) (V m c main_v20) (V m c main_arg3) (V m c main_v24)
def res6 (c : Dev nD) : Vec F S32768x5120 .fp8e5m2 := k0_pay1 (V m c main_v21) (V m c main_v22)

theorem out5_eq (c : Dev nD) (t : Fin cfg0.N) : out0_5 (iblk m c 0 t) (iblk m c 1 t) (iblk m c 2 t) (iblk m c 3 t) (iblk m c 4 t) = res5 m c := by
  unfold out0_5 res5
  rw [View.canon_unit_zero hz]
  simp only [View.ld_unit_zero (S := S32768x5120) hz, View.ld_unit_zero (S := S1x1) hz, View.ld_unit_zero (S := S32768x6912) hz, View.ld_unit_zero (S := S6912x5120) hz]
  rw [iblk0, iblk1, iblk2, iblk3, iblk4]
theorem out6_eq (c : Dev nD) (t : Fin cfg0.N) : out0_6 (iblk m c 0 t) (iblk m c 1 t) (iblk m c 2 t) (iblk m c 3 t) (iblk m c 4 t) = res6 m c := by
  unfold out0_6 res6
  rw [View.canon_unit_zero hz]
  simp only [View.ld_unit_zero (S := S32768x5120) hz, View.ld_unit_zero (S := S1x1) hz]
  rw [iblk1, iblk3]

theorem xsz5 : ∀ t : Fin cfg0.N, win0_5.xsize (grid0.coords t) 0 = 6912 ∧ win0_5.xsize (grid0.coords t) 1 = 5120 := by decide +kernel

theorem arr5 (c : Dev nD) : (dats m 0 c).arrAt 5 cfg0.N = res5 m c := by
  refine (dats m 0 c).arrAt_eq_of_cover 5 (res5 m c) (fun t hf => ?_) fun i => ?_
  · show (cfg0.win 5).cut (grid0.coords t) ((dats m 0 c).after 5 t) = _
    rw [after0_5, out5_eq]
    funext i
    rw [View.read_apply]
    refine congrArg (res5 m c) ?_
    funext a
    apply Fin.ext
    obtain ⟨h0, h1⟩ := idx5 t
    match a with
    | ⟨0, _⟩ => show (i 0).val = win0_5.index t 0 * 6912 + 1 * (i 0).val; rw [h0]; omega
    | ⟨1, _⟩ => show (i 1).val = win0_5.index t 1 * 5120 + 1 * (i 1).val; rw [h1]; omega
  · have hN : 0 < cfg0.N := by decide
    refine ⟨⟨0, hN⟩, (by decide : ∀ t : Fin cfg0.N, (cfg0.win 5).flush t = true) _, ?_⟩
    have h0 : (i 0 : Nat) < 6912 := (i 0).isLt
    have h1 : (i 1 : Nat) < 5120 := (i 1).isLt
    show i ∈ ((View.whole main_v25_0).slice (win0_5.rect ⟨0, hN⟩)).set
    rw [View.set_slice_whole, Rect.mem_set_unit]
    obtain ⟨e0, e1⟩ := idx5 ⟨0, hN⟩
    obtain ⟨x0, x1⟩ := xsz5 ⟨0, hN⟩
    intro a
    match a with
    | ⟨0, _⟩ =>
      show win0_5.index ⟨0, hN⟩ 0 * 6912 ≤ (i 0 : Nat) ∧ (i 0 : Nat) < win0_5.index ⟨0, hN⟩ 0 * 6912 + win0_5.xsize (grid0.coords ⟨0, hN⟩) 0
      rw [e0, x0]; omega
    | ⟨1, _⟩ =>
      show win0_5.index ⟨0, hN⟩ 1 * 5120 ≤ (i 1 : Nat) ∧ (i 1 : Nat) < win0_5.index ⟨0, hN⟩ 1 * 5120 + win0_5.xsize (grid0.coords ⟨0, hN⟩) 1
      rw [e1, x1]; omega

theorem xsz6 : ∀ t : Fin cfg0.N, win0_6.xsize (grid0.coords t) 0 = 32768 ∧ win0_6.xsize (grid0.coords t) 1 = 5120 := by decide +kernel

theorem arr6 (c : Dev nD) : (dats m 0 c).arrAt 6 cfg0.N = res6 m c := by
  refine (dats m 0 c).arrAt_eq_of_cover 6 (res6 m c) (fun t hf => ?_) fun i => ?_
  · show (cfg0.win 6).cut (grid0.coords t) ((dats m 0 c).after 6 t) = _
    rw [after0_6, out6_eq]
    funext i
    rw [View.read_apply]
    refine congrArg (res6 m c) ?_
    funext a
    apply Fin.ext
    obtain ⟨h0, h1⟩ := idx6 t
    match a with
    | ⟨0, _⟩ => show (i 0).val = win0_6.index t 0 * 32768 + 1 * (i 0).val; rw [h0]; omega
    | ⟨1, _⟩ => show (i 1).val = win0_6.index t 1 * 5120 + 1 * (i 1).val; rw [h1]; omega
  · have hN : 0 < cfg0.N := by decide
    refine ⟨⟨0, hN⟩, (by decide : ∀ t : Fin cfg0.N, (cfg0.win 6).flush t = true) _, ?_⟩
    have h0 : (i 0 : Nat) < 32768 := (i 0).isLt
    have h1 : (i 1 : Nat) < 5120 := (i 1).isLt
    show i ∈ ((View.whole main_v25_1).slice (win0_6.rect ⟨0, hN⟩)).set
    rw [View.set_slice_whole, Rect.mem_set_unit]
    obtain ⟨e0, e1⟩ := idx6 ⟨0, hN⟩
    obtain ⟨x0, x1⟩ := xsz6 ⟨0, hN⟩
    intro a
    match a with
    | ⟨0, _⟩ =>
      show win0_6.index ⟨0, hN⟩ 0 * 32768 ≤ (i 0 : Nat) ∧ (i 0 : Nat) < win0_6.index ⟨0, hN⟩ 0 * 32768 + win0_6.xsize (grid0.coords ⟨0, hN⟩) 0
      rw [e0, x0]; omega
    | ⟨1, _⟩ =>
      show win0_6.index ⟨0, hN⟩ 1 * 5120 ≤ (i 1 : Nat) ∧ (i 1 : Nat) < win0_6.index ⟨0, hN⟩ 1 * 5120 + win0_6.xsize (grid0.coords ⟨0, hN⟩) 1
      rw [e1, x1]; omega

/-- The result codes: the region's, reshaped by the line after it. -/
theorem tail_v26 (c : Dev nD) : Pipeline.afterTail₀ cfgs (dats m) 0 (V0 m) [hostOps1] c main_v26 = shapeCast S4x8192x5120 (res6 m c) shapeCasts_S32768x5120_S4x8192x5120 := by
  unfold Pipeline.afterTail₀
  have e : Pipeline.withArrays spec0 c (V0 m c) (fun w => (dats m 0 c).arrAt w cfg0.N) (Proc.devRef .tc main_v25_1) = res6 m c :=
    (Pipeline.withArrays_arr spec0 (by decide) c (V0 m c) (fun w => (dats m 0 c).arrAt w cfg0.N) 6).trans (arr6 m c)
  rw [← e]
  after_reads_simp
  rfl
theorem tail_v17 (c : Dev nD) : Pipeline.afterTail₀ cfgs (dats m) 0 (V0 m) [hostOps1] c main_v17 = scaleV (amaxV (m (c, main_arg2))) := by
  unfold Pipeline.afterTail₀
  rw [StableHlo.after_of_forall_not_mem (b := Proc.devRef .tc main_v17) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_v17 (by exact (by decide : ∀ w, Pipeline.arrRef spec0 w ≠ main_v17))]
  exact V_v17 m c

end Cert.ReferenceIdeal.Whole

end
-- ==== Proof.RefRun.lean ====
/- The run of `ReferenceIdeal` to its results. -/
module

public import proofs.«01_k».proof.Proof.RefHost

@[expose] public section

set_option maxRecDepth 16384

noncomputable section

namespace Cert.ReferenceIdeal.Whole

open Cert.ReferenceIdeal Cert.ReferenceIdeal.Gen
open Idealize.ShloMosaic
open Idealize.ShloMosaic.TcCoe Idealize.ShloMosaic.Tactic
open Idealize.SL.Sem

variable {F : FTy → Type} [FloatOps F]
variable (m : (ℓ : Loc nD τ sig) → Buf (Elt F) ℓ) (ρ : Dev nD → PrngReg)

/-- The run's end at the results and the arguments. -/
theorem run_ends : θ_run defs (onTc (τ := τ) (main (F := F))) ⟨m, fun _ => 0, ρ⟩ (fun r => ∀ c : Dev nD,
      (r.2.mem ((c.tc : Thread nD τ).loc main_v25_0) = res5 m c
      ∧ r.2.mem ((c.tc : Thread nD τ).loc main_v26) = shapeCast S4x8192x5120 (res6 m c) shapeCasts_S32768x5120_S4x8192x5120
      ∧ r.2.mem ((c.tc : Thread nD τ).loc main_v17) = scaleV (amaxV (m (c, main_arg2))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨⟨((h.1 c).1 5).trans (arr5 m c),
      ((h.1 c).2 main_v26 (Pipeline.mem_restRefs_of main_v26 (by decide) (by decide))).trans (tail_v26 m c),
      ((h.1 c).2 main_v17 (Pipeline.mem_restRefs_of main_v17 (by decide) (by decide))).trans (tail_v17 m c)⟩, h.2 c⟩)
    (θ_run_and (run_main m ρ) (unchanged m ρ))

end Cert.ReferenceIdeal.Whole

end
-- ==== Proof.RefScale.lean ====
/- The scale of `ReferenceIdeal` over the extended reals: two to the exponent the kernel also finds. -/
module

public import proofs.«01_k».proof.Proof.RefHost
public import proofs.«01_k».proof.Proof.VR0b
public import proofs.«01_k».proof.Proof.Exponent
public import Idealize.ShloMosaic.Lib.IdealHost

@[expose] public section

set_option maxRecDepth 16384

noncomputable section

namespace Cert.ReferenceIdeal.Whole

open Cert.ReferenceIdeal Cert.ReferenceIdeal.Gen
open Idealize.ShloMosaic hiding ix0 ix1 ix2 ix3
open Idealize.ShloMosaic.ValueIdx Cert.Lib
open Cert.KernelIdeal.R0 (ab quot)

instance : Subsingleton S_.Idx := ⟨fun x y => funext fun a => a.elim0⟩

/-- A maximum over every element is at most `z` when each of them is. -/
theorem hostmax_le {s t u : Shape} {axes : List (Fin s.rank)} [Subsingleton t.Idx] (f : EReal → EReal → EReal) (hf : f = max) (x : s.Idx → EReal) (init : u.Idx → EReal)
    (h : s.ReducesTo axes t) (hu : 0 < u.numel) (j : t.Idx) (hb : init (Shape.Idx.first hu) = ⊥) (z : EReal) :
    Host.reduce f x init h hu j ≤ z ↔ ∀ i, x i ≤ z := by
  subst hf
  rw [Host.reduce_eq_fold, Finset.fold_max_le, hb]
  constructor
  · intro H i
    exact H.2 i (by rw [Finset.mem_filter]; exact ⟨Finset.mem_univ _, Subsingleton.elim _ _⟩)
  · intro H
    exact ⟨bot_le, fun i _ => H i⟩

/-- A minimum likewise. -/
theorem le_hostmin {s t u : Shape} {axes : List (Fin s.rank)} [Subsingleton t.Idx] (f : EReal → EReal → EReal) (hf : f = min) (x : s.Idx → EReal) (init : u.Idx → EReal)
    (h : s.ReducesTo axes t) (hu : 0 < u.numel) (j : t.Idx) (hb : init (Shape.Idx.first hu) = ⊤) (z : EReal) :
    z ≤ Host.reduce f x init h hu j ↔ ∀ i, z ≤ x i := by
  subst hf
  rw [Host.reduce_eq_fold, Finset.le_fold_min, hb]
  constructor
  · intro H i
    exact H.2 i (by rw [Finset.mem_filter]; exact ⟨Finset.mem_univ _, Subsingleton.elim _ _⟩)
  · intro H
    exact ⟨le_top, fun i _ => H i⟩

/-- The largest magnitude, by what bounds it. -/
theorem absmax_le {s t u : Shape} {axes : List (Fin s.rank)} [Subsingleton t.Idx] (x : FVec Ideal s .bf16) (h : s.ReducesTo axes t) (hu : 0 < u.numel) (hlt) (j : t.Idx) (z : EReal) :
    ((extf .f32 (Host.reduce FloatOps.maximumf (Host.absf x) (constant u .bf16 0xFF80#16) h hu : FVec Ideal t .bf16) hlt : FVec Ideal t .f32) j : EReal) ≤ z ↔ ∀ i, ab (x i) ≤ z :=
  have H := hostmax_le (FloatOps.maximumf (F := Ideal) (φ := .bf16)) rfl (fun i => (Host.absf x i : EReal)) (fun i => (constant (F := Ideal) u .bf16 0xFF80#16 i : EReal)) h hu j
    Cert.KernelIdeal.R0.bot_bf16 z
  H

theorem amaxV_le (x : FVec Ideal S4x8192x5120 .bf16) (j : S_.Idx) (z : EReal) : (amaxV (F := Ideal) x j : EReal) ≤ z ↔ ∀ i, ab (x i) ≤ z := by
  unfold amaxV
  exact absmax_le x _ _ _ j z

/-! ## Constants -/

theorem two_f32 : Ideal.ofBits .f32 0x40000000#32 = ((2 : ℝ) : EReal) := by
  simp [Ideal.ofBits, Ideal.ieee]
  rw [← EReal.coe_mul]
  norm_num
theorem low_f32 : Ideal.ofBits .f32 0xC2FA0000#32 = ((-125 : ℝ) : EReal) := by
  simp [Ideal.ofBits, Ideal.ieee]
  rw [← EReal.coe_mul]
  norm_num
theorem top_f32 : Ideal.ofBits .f32 0x7F800000#32 = ⊤ := by
  simp [Ideal.ofBits, Ideal.ieee]
theorem least_normal : Ideal.ofBits .f32 0x00800000#32 = (((2 : ℝ) ^ (-126 : ℤ) : ℝ) : EReal) :=
  (congrArg (Ideal.ofBits .f32) (by decide : (0x00800000#32 : BitVec 32) = IntOp.shli .vector (BitVec.ofNat 32 1) 23#32)).trans (ofBits_field 1 (by omega) (by omega))

theorem sel_pos {α : Type} {p : Prop} [Decidable p] (h : p) (x y : α) : Scalar.select (BitVec.ofBool (decide p)) x y = x := by
  rw [decide_eq_true h]; rfl
theorem sel_neg {α : Type} {p : Prop} [Decidable p] (h : ¬ p) (x y : α) : Scalar.select (BitVec.ofBool (decide p)) x y = y := by
  rw [decide_eq_false h]; rfl

/-! ## Readings at an index, in any reading of the floats -/

section generic
variable {F : FTy → Type} [FloatOps F]

theorem ns_apply (i : S254.Idx) : (ns (F := F)) i
    = FloatOps.addf (Scalar.ofBits .f32 0xC2FA0000#32) (FloatOps.sitofp .f32 (BitVec.ofNat 32 (i 0).val)) := rfl

/-- The value whose exponent is wanted, on the host. -/
def quotH (a : F .f32) : F .f32 := FloatOps.mulf a (Scalar.ofBits .f32 0x37924925#32)

theorem quotV_apply (a : FVec F S_ .f32) (j : S_.Idx) : quotV a j = quotH (a j) := rfl

/-- One candidate exponent, or infinity where its power does not exceed `y`. -/
def pick (y : F .f32) (i : S254.Idx) : F .f32 :=
  Scalar.select (FloatOps.cmpf .olt y (FloatOps.hostPowf (Scalar.ofBits .f32 0x40000000#32) (ns i))) (ns i) (Scalar.ofBits .f32 0x7F800000#32)

theorem expV_apply (a : FVec F S_ .f32) (j : S_.Idx) : expV a j
    = Scalar.select (FloatOps.cmpf .oeq (a j) (Scalar.ofBits .f32 0x00000000#32)) (Scalar.ofBits .f32 0x00000000#32)
      (Scalar.select (FloatOps.cmpf .olt (quotH (a j)) (Scalar.ofBits .f32 0x00800000#32)) (Scalar.ofBits .f32 0x00000000#32) (leastV (quotV a) j)) := rfl

theorem scaleV_apply (a : FVec F S_ .f32) (j : S_.Idx) : scaleV a j = FloatOps.hostPowf (Scalar.ofBits .f32 0x40000000#32) (expV a j) := rfl
theorem inverseV_apply (a : FVec F S_ .f32) (j : S_.Idx) : inverseV a j = FloatOps.hostPowf (Scalar.ofBits .f32 0x40000000#32) (FloatOps.hostNegf (expV a j)) := rfl

end generic

theorem quotH_eq (a : EReal) : quotH (F := Ideal) a = quot (F := Ideal) a := rfl

theorem ns_eq (i : S254.Idx) : (ns (F := Ideal)) i = ((((-125 + ((i 0).val : ℤ) : ℤ) : ℝ)) : EReal) := by
  rw [ns_apply]
  have hi : (i 0).val < 254 := (i 0).isLt
  have e : (BitVec.ofNat 32 (i 0).val).toInt = ((i 0).val : ℤ) := Cert.KernelIdeal.R0.toInt_small _ (by omega)
  show Ideal.ofBits .f32 0xC2FA0000#32 + (((BitVec.ofNat 32 (i 0).val).toInt : ℝ) : EReal) = _
  rw [e, low_f32, ← EReal.coe_add]
  push_cast
  rfl

theorem pick_eq (y : EReal) (i : S254.Idx) : pick (F := Ideal) y i
    = if y < (((2 : ℝ) ^ (-125 + ((i 0).val : ℤ)) : ℝ) : EReal) then ((((-125 + ((i 0).val : ℤ) : ℤ) : ℝ)) : EReal) else ⊤ := by
  have hp : FloatOps.hostPowf (F := Ideal) (φ := .f32) (Scalar.ofBits .f32 0x40000000#32) (ns (F := Ideal) i) = (((2 : ℝ) ^ (-125 + ((i 0).val : ℤ)) : ℝ) : EReal) := by
    rw [ns_eq]
    refine Eq.trans ?_ (pow_two_int _)
    exact congrArg (fun z : EReal => Ideal.pow z _) two_f32
  unfold pick
  rw [hp, ns_eq]
  split_ifs with h
  · exact sel_pos h _ _
  · exact (sel_neg h _ _).trans top_f32

theorem leastV_le (y : FVec Ideal S_ .f32) (j : S_.Idx) (z : EReal) : z ≤ leastV (F := Ideal) y j ↔ ∀ i, z ≤ pick (F := Ideal) (y j) i := by
  have e : j = ix0 := Subsingleton.elim _ _
  have e' : ∀ i, pick (F := Ideal) (y j) i = (select (cmpf .olt (broadcastInDim S254 ![] bcast_S_S254 y) (Host.powf (broadcastInDim S254 ![] bcast_S_S254 (constant S_ .f32 0x40000000#32)) ns)) ns
      (broadcastInDim S254 ![] bcast_S_S254 (id (constant S_ .f32 0x7F800000#32))) : FVec Ideal S254 .f32) i := by
    intro i
    subst e
    have hb : broadcastInDim S254 ![] bcast_S_S254 y i = y ix0 := broadcastInDim_scalar_apply bcast_S_S254 y i
    unfold pick
    rw [← hb]
    rfl
  refine Iff.trans ?_ (forall_congr' fun i => (congrArg (z ≤ ·) (e' i).symm).to_iff)
  unfold leastV
  exact le_hostmin (FloatOps.minimumf (F := Ideal) (φ := .f32)) rfl _ _ _ _ j top_f32 z

/-- Where `y` lies in one binade the smallest such exponent is the next one. -/
theorem leastV_eq (y : FVec Ideal S_ .f32) (j : S_.Idx) (k : ℕ) (h1 : 1 ≤ k) (h2 : k ≤ 252) (hl : (((2 : ℝ) ^ ((k : ℤ) - 127) : ℝ) : EReal) ≤ y j)
    (hu : (y j : EReal) < (((2 : ℝ) ^ ((k : ℤ) - 126) : ℝ) : EReal)) : (leastV (F := Ideal) y j : EReal) = ((((k : ℤ) - 126 : ℤ) : ℝ) : EReal) := by
  refine eq_of_forall_le_iff fun z => ?_
  rw [leastV_le]
  constructor
  · intro H
    have h := H (ix1 (⟨k - 1, by omega⟩ : Fin 254))
    have e : (-125 + ((k - 1 : ℕ) : ℤ)) = (k : ℤ) - 126 := by omega
    rw [pick_eq] at h
    change z ≤ if (y j : EReal) < (((2 : ℝ) ^ (-125 + ((k - 1 : ℕ) : ℤ)) : ℝ) : EReal) then ((((-125 + ((k - 1 : ℕ) : ℤ) : ℤ) : ℝ)) : EReal) else ⊤ at h
    rw [e, if_pos hu] at h
    exact h
  · intro H i
    rw [pick_eq]
    split_ifs with h
    · refine H.trans (EReal.coe_le_coe_iff.mpr (Int.cast_le.mpr ?_))
      by_contra hc
      have hlt : -125 + ((i 0).val : ℤ) ≤ (k : ℤ) - 127 := by omega
      exact absurd (lt_of_lt_of_le h ((zpow_le _ _ hlt).trans hl)) (lt_irrefl _)
    · exact le_top

/-! ## The scale -/

theorem scales_of_zero (a : FVec Ideal S_ .f32) (j : S_.Idx) (h : (expV (F := Ideal) a j : EReal) = 0) :
    (scaleV (F := Ideal) a j : EReal) = 1 ∧ (inverseV (F := Ideal) a j : EReal) = 1 := by
  have e0 : (0 : EReal) = (((0 : ℤ) : ℝ) : EReal) := by simp
  have p : Ideal.pow (Ideal.ofBits .f32 0x40000000#32) 0 = 1 := by
    rw [two_f32, e0, pow_two_int]; simp
  constructor
  · rw [scaleV_apply, h]; exact p
  · rw [inverseV_apply, h]
    show Ideal.pow (Ideal.ofBits .f32 0x40000000#32) (-0) = 1
    rw [neg_zero]; exact p

theorem scales_of_int (a : FVec Ideal S_ .f32) (j : S_.Idx) (n : ℤ) (h : (expV (F := Ideal) a j : EReal) = ((n : ℝ) : EReal)) :
    (scaleV (F := Ideal) a j : EReal) = (((2 : ℝ) ^ n : ℝ) : EReal) ∧ (inverseV (F := Ideal) a j : EReal) = (((2 : ℝ) ^ (-n) : ℝ) : EReal) := by
  constructor
  · rw [scaleV_apply, h]
    show Ideal.pow (Ideal.ofBits .f32 0x40000000#32) _ = _
    rw [two_f32, pow_two_int]
  · rw [inverseV_apply, h]
    show Ideal.pow (Ideal.ofBits .f32 0x40000000#32) (-((n : ℝ) : EReal)) = _
    rw [two_f32, ← EReal.coe_neg, ← Int.cast_neg, pow_two_int]

theorem expV_zero (a : FVec Ideal S_ .f32) (j : S_.Idx) (h : quot (F := Ideal) (a j) < (((2 : ℝ) ^ (-126 : ℤ) : ℝ) : EReal)) :
    (expV (F := Ideal) a j : EReal) = 0 := by
  rw [expV_apply]
  by_cases h0 : (a j : EReal) = Ideal.ofBits .f32 0x00000000#32
  · exact (sel_pos h0 _ _).trans Ideal.ofBits_zero_f32
  · refine (sel_neg h0 _ _).trans ?_
    have hq : quotH (F := Ideal) (a j) < Ideal.ofBits .f32 0x00800000#32 := by rw [least_normal]; exact h
    exact (sel_pos hq _ _).trans Ideal.ofBits_zero_f32

theorem expV_mid (a : FVec Ideal S_ .f32) (j : S_.Idx) (h0 : (a j : EReal) ≠ 0) (h : ¬ quot (F := Ideal) (a j) < (((2 : ℝ) ^ (-126 : ℤ) : ℝ) : EReal)) :
    (expV (F := Ideal) a j : EReal) = leastV (F := Ideal) (quotV a) j := by
  rw [expV_apply]
  have h0' : ¬ (a j : EReal) = Ideal.ofBits .f32 0x00000000#32 := by rw [Ideal.ofBits_zero_f32]; exact h0
  refine (sel_neg h0' _ _).trans ?_
  have hq : ¬ quotH (F := Ideal) (a j) < Ideal.ofBits .f32 0x00800000#32 := by rw [least_normal]; exact h
  exact sel_neg hq _ _

/-- The factor by which the magnitude is divided. -/
theorem factor : ∃ r : ℝ, 0 < r ∧ r ≤ (2 : ℝ) ^ (-15 : ℤ) ∧ Ideal.ofBits .f32 0x37924925#32 = (r : EReal) := by
  refine ⟨(9586981 : ℝ) * 2 ^ (-39 : ℤ), by positivity, by norm_num, ?_⟩
  simp [Ideal.ofBits, Ideal.ieee]

theorem largest : Ideal.ofBits .bf16 0x7F7F#16 ≤ (((2 : ℝ) ^ (128 : ℤ) : ℝ) : EReal) := by
  simp [Ideal.ofBits, Ideal.ieee]
  rw [← EReal.coe_pow, ← EReal.coe_pow, ← EReal.coe_mul]
  exact EReal.coe_le_coe_iff.mpr (by norm_num)

theorem quot_lt (a : EReal) (h0 : 0 ≤ a) (h : a ≤ Ideal.ofBits .bf16 0x7F7F#16) : quot (F := Ideal) a < (((2 : ℝ) ^ (126 : ℤ) : ℝ) : EReal) := by
  obtain ⟨r, hr, hr', e⟩ := factor
  have h' := h.trans largest
  show a * Ideal.ofBits .f32 0x37924925#32 < _
  rw [e]
  induction a with
  | bot => exact absurd h0 (not_le.mpr EReal.bot_lt_zero)
  | top => exact absurd h' (not_le.mpr (EReal.coe_lt_top _))
  | coe x =>
    have hx : x ≤ (2 : ℝ) ^ (128 : ℤ) := EReal.coe_le_coe_iff.mp h'
    rw [← EReal.coe_mul]
    refine EReal.coe_lt_coe_iff.mpr ?_
    have hx0 : 0 ≤ x := EReal.coe_nonneg.mp h0
    calc x * r ≤ (2 : ℝ) ^ (128 : ℤ) * (2 : ℝ) ^ (-15 : ℤ) := mul_le_mul hx hr' hr.le (by positivity)
      _ < (2 : ℝ) ^ (126 : ℤ) := by norm_num

/-- The scale and its inverse are the kernel's, at a magnitude bf16 can hold. -/
theorem scales_eq (a : FVec Ideal S_ .f32) (j : S_.Idx) (h0 : 0 ≤ (a j : EReal)) (h : (a j : EReal) ≤ Ideal.ofBits .bf16 0x7F7F#16) :
    (scaleV (F := Ideal) a j : EReal) = Cert.KernelIdeal.R0.scaleOf (F := Ideal) (a j)
    ∧ (inverseV (F := Ideal) a j : EReal) = Cert.KernelIdeal.R0.inverseOf (F := Ideal) (a j) := by
  by_cases hq : quot (F := Ideal) (a j) < (((2 : ℝ) ^ (-126 : ℤ) : ℝ) : EReal)
  · obtain ⟨e1, e2⟩ := Cert.KernelIdeal.R0.scales_small (a j) hq
    obtain ⟨e3, e4⟩ := scales_of_zero a j (expV_zero a j hq)
    exact ⟨e3.trans e1.symm, e4.trans e2.symm⟩
  · obtain ⟨k, h1, h2, hl, hu⟩ := exists_binade _ (not_lt.mp hq) (quot_lt _ h0 h)
    have ha : (a j : EReal) ≠ 0 := by
      intro e
      apply hq
      show (a j : EReal) * Ideal.ofBits .f32 0x37924925#32 < _
      rw [e, zero_mul]
      exact EReal.coe_pos.mpr (by positivity)
    obtain ⟨e1, e2⟩ := Cert.KernelIdeal.R0.scales_mid (a j) k h1 h2 ha hl hu
    obtain ⟨e3, e4⟩ := scales_of_int a j ((k : ℤ) - 126) ((expV_mid a j ha hq).trans (leastV_eq (quotV a) j k h1 h2 hl hu))
    exact ⟨e3.trans e1.symm, e4.trans e2.symm⟩

end Cert.ReferenceIdeal.Whole

end
-- ==== Proof.RefVal.lean ====
/- The three results of `ReferenceIdeal`, equal to those of `KernelIdeal` at the same arguments. -/
module

public import proofs.«01_k».proof.Proof.RefScale
public import proofs.«01_k».proof.Proof.RefRun
public import proofs.«01_k».proof.Proof.VKernel
public import proofs.«01_k».proof.Proof.Gen.Pre_dy_finite
public import proofs.«01_k».proof.Defs
public import Idealize.ShloMosaic.Lib.ReduceAll

@[expose] public section

set_option maxRecDepth 16384

noncomputable section

namespace Cert.ReferenceIdeal.Whole

open Cert.ReferenceIdeal Cert.ReferenceIdeal.Gen
open Idealize.ShloMosaic hiding ix0 ix1 ix2 ix3
open Idealize.ShloMosaic.TcCoe
open Idealize.ShloMosaic.ValueIdx Cert.Lib
open Cert.KernelIdeal.R0 (ab quot)
open Cert.KernelIdeal.R1 (code)
open scoped BigOperators

theorem one_one (i : S1x1.Idx) : i = ix2 0 0 := by
  funext a
  apply Fin.ext
  match a with
  | ⟨0, _⟩ => have h : (i 0).val < 1 := (i 0).isLt; show (i 0).val = 0; omega
  | ⟨1, _⟩ => have h : (i 1).val < 1 := (i 1).isLt; show (i 1).val = 0; omega

theorem bcast_one {T : Shape} {α : Type} (v : S1x1.Idx → α) (h : S1x1.Broadcasts T) (j : T.Idx) : broadcastTo T v h j = v (ix2 0 0) :=
  congrArg v (one_one _)

/-- One code of the reference. -/
theorem pay1_apply (y : Vec Ideal S32768x5120 .bf16) (v : Vec Ideal S1x1 .f32) (i : S32768x5120.Idx) : k0_pay1 (F := Ideal) y v i = code (y i) (v (ix2 0 0)) := by
  unfold k0_pay1
  simp only [shapeCast_self]
  have e : broadcastTo S32768x5120 v broadcasts_S1x1_S32768x5120 i = v (ix2 0 0) := bcast_one _ _ _
  refine Eq.trans ?_ (congrArg (code (y i)) e)
  rfl

/-- One element of the reference's new accumulator. -/
theorem pay2_apply (y : Vec Ideal S32768x5120 .bf16) (v : Vec Ideal S1x1 .f32) (x : Vec Ideal S32768x6912 .fp8e4m3) (d : Vec Ideal S6912x5120 .f32) (w : Vec Ideal S1x1 .f32)
    (r : Fin 6912) (q : Fin 5120) :
    k0_pay2 (F := Ideal) y v x d w (ix2 r q) = (d (ix2 r q) : EReal) + (∑ k : Fin 32768, (x (ix2 k r) : EReal) * code (y (ix2 k q)) (v (ix2 0 0))) * (w (ix2 0 0) : EReal) := by
  unfold k0_pay2
  simp only [shapeCast_self]
  have e : broadcastTo S6912x5120 w broadcasts_S1x1_S6912x5120 (ix2 r q) = w (ix2 0 0) := bcast_one _ _ _
  have p : ((matmul (φ₁ := .fp8e4m3) dot_S32768x6912_S32768x5120_S6912x5120_0_0_1_1_n_n none x (k0_pay1 (F := Ideal) y v) (constant S6912x5120 .f32 0x00000000#32) : FVec Ideal S6912x5120 .f32) (ix2 r q) : EReal)
      = (constant (F := Ideal) S6912x5120 .f32 0x00000000#32 (ix2 r q) : EReal) + ∑ k : Fin 32768, (x (ix2 k r) : EReal) * (k0_pay1 (F := Ideal) y v (ix2 k q) : EReal) :=
    matmul_tn_apply (φ₁ := .fp8e4m3) _ none x (k0_pay1 (F := Ideal) y v) (constant S6912x5120 .f32 0x00000000#32) r q
  have z : (constant (F := Ideal) S6912x5120 .f32 0x00000000#32 (ix2 r q) : EReal) = 0 := Ideal.ofBits_zero_f32
  rw [z, zero_add] at p
  have s : (∑ k : Fin 32768, (x (ix2 k r) : EReal) * (k0_pay1 (F := Ideal) y v (ix2 k q) : EReal)) = ∑ k : Fin 32768, (x (ix2 k r) : EReal) * code (y (ix2 k q)) (v (ix2 0 0)) :=
    Finset.sum_congr rfl fun k _ => congrArg ((x (ix2 k r) : EReal) * ·) (pay1_apply y v _)
  rw [s] at p
  exact congrArg₂ (fun a b : EReal => (d (ix2 r q) : EReal) + a * b) p e

/-- The same, at values read elsewhere. -/
theorem pay2_at (y : Vec Ideal S32768x5120 .bf16) (v : Vec Ideal S1x1 .f32) (x : Vec Ideal S32768x6912 .fp8e4m3) (d : Vec Ideal S6912x5120 .f32) (w : Vec Ideal S1x1 .f32)
    (y' : S32768x5120.Idx → EReal) (x' : S32768x6912.Idx → EReal) (d' : S6912x5120.Idx → EReal) (s p : EReal)
    (ey : y = y') (ex : x = x') (ed : d = d') (ev : v (ix2 0 0) = s) (ew : w (ix2 0 0) = p) (r : Fin 6912) (q : Fin 5120) :
    (k0_pay2 (F := Ideal) y v x d w (ix2 r q) : EReal) = d' (ix2 r q) + (∑ k : Fin 32768, x' (ix2 k r) * code (y' (ix2 k q)) s) * p := by
  subst ey ex ed ev ew
  exact pay2_apply y v x d w r q

theorem ab_nonneg (x : EReal) : 0 ≤ ab x := by
  rcases le_total 0 x with h | h
  · exact h.trans (le_max_left _ _)
  · exact (EReal.neg_nonneg.mpr h).trans (le_max_right _ _)

section values

variable (m : (ℓ : Loc Cert.KernelIdeal.nD Cert.KernelIdeal.τ Cert.KernelIdeal.sig) → Buf (Elt Ideal) ℓ)
variable (m' : (ℓ : Loc nD τ sig) → Buf (Elt Ideal) ℓ) (c : Dev nD)

/-- The reference's arguments. -/
abbrev rx : S4x8192x6912.Idx → EReal := m' (c, main_arg0)
abbrev rs : S_.Idx → EReal := m' (c, main_arg1)
abbrev ry : S4x8192x5120.Idx → EReal := m' (c, main_arg2)
abbrev rd : S6912x5120.Idx → EReal := m' (c, main_arg3)

/-- Both find one largest magnitude. -/
theorem amax_eq (j : S_.Idx) (h2 : ry m' c = Cert.KernelIdeal.Whole.dy3 m c) :
    (amaxV (F := Ideal) (ry m' c) j : EReal) = Cert.KernelIdeal.Whole.amax m c := by
  refine eq_of_forall_ge_iff fun z => ?_
  rw [amaxV_le, Cert.KernelIdeal.Whole.amax_le, h2]
  exact ⟨fun H => ⟨(ab_nonneg _).trans (H (ix3 0 0 0)), H⟩, fun H => H.2⟩

/-- Both find one scale and one inverse, at values bf16 can hold. -/
theorem scale_eq (j : S_.Idx) (h2 : ry m' c = Cert.KernelIdeal.Whole.dy3 m c) (hb : ∀ i, ab (Cert.KernelIdeal.Whole.dy3 m c i) ≤ Ideal.ofBits .bf16 0x7F7F#16) :
    (scaleV (F := Ideal) (amaxV (ry m' c)) j : EReal) = Cert.KernelIdeal.Whole.scale m c
    ∧ (inverseV (F := Ideal) (amaxV (ry m' c)) j : EReal) = Cert.KernelIdeal.Whole.inverse m c := by
  have e := amax_eq m m' c j h2
  have h0 : (0 : EReal) ≤ amaxV (F := Ideal) (ry m' c) j := by
    rw [e]; exact ((Cert.KernelIdeal.Whole.amax_le m c _).mp le_rfl).1
  have hle : (amaxV (F := Ideal) (ry m' c) j : EReal) ≤ Ideal.ofBits .bf16 0x7F7F#16 := by
    rw [amaxV_le, h2]; exact hb
  obtain ⟨e1, e2⟩ := scales_eq (amaxV (F := Ideal) (ry m' c)) j h0 hle
  exact ⟨e1.trans (congrArg (Cert.KernelIdeal.R0.scaleOf (F := Ideal)) e), e2.trans (congrArg (Cert.KernelIdeal.R0.inverseOf (F := Ideal)) e)⟩

theorem inv_one (h2 : ry m' c = Cert.KernelIdeal.Whole.dy3 m c) (hb : ∀ i, ab (Cert.KernelIdeal.Whole.dy3 m c i) ≤ Ideal.ofBits .bf16 0x7F7F#16) :
    (V m' c main_v22 : S1x1.Idx → EReal) (ix2 0 0) = Cert.KernelIdeal.Whole.inverse m c :=
  (congrFun (V_v22 m' c) (ix2 0 0)).trans (scale_eq m m' c _ h2 hb).2

theorem mul_one_one (h1 : rs m' c = Cert.KernelIdeal.Whole.xsc m c) (h2 : ry m' c = Cert.KernelIdeal.Whole.dy3 m c) (hb : ∀ i, ab (Cert.KernelIdeal.Whole.dy3 m c i) ≤ Ideal.ofBits .bf16 0x7F7F#16) :
    (V m' c main_v24 : S1x1.Idx → EReal) (ix2 0 0) = Cert.KernelIdeal.Whole.xsc m c ix0 * Cert.KernelIdeal.Whole.scale m c := by
  refine (congrFun (V_v24 m' c) (ix2 0 0)).trans ?_
  have e : (rs m' c : S_.Idx → EReal) ((Shape.reshapeEquiv shapeCasts_S_S1x1) (ix2 0 0)) = Cert.KernelIdeal.Whole.xsc m c ix0 := by
    rw [h1]; exact congrArg (Cert.KernelIdeal.Whole.xsc m c) (Subsingleton.elim (α := S_.Idx) _ _)
  exact congrArg₂ (fun a b : EReal => a * b) e (scale_eq m m' c _ h2 hb).1

theorem rows_y (h2 : ry m' c = Cert.KernelIdeal.Whole.dy3 m c) : (V m' c main_v21 : S32768x5120.Idx → EReal) = Cert.KernelIdeal.Whole.dy2 m c :=
  (V_v21 m' c).trans (congrArg (fun f : S4x8192x5120.Idx → EReal => shapeCast S32768x5120 f shapeCasts_S4x8192x5120_S32768x5120) h2)
theorem rows_x (h0 : rx m' c = Cert.KernelIdeal.Whole.x3 m c) : (V m' c main_v20 : S32768x6912.Idx → EReal) = Cert.KernelIdeal.Whole.x2 m c :=
  (V_v20 m' c).trans (congrArg (fun f : S4x8192x6912.Idx → EReal => shapeCast S32768x6912 f shapeCasts_S4x8192x6912_S32768x6912) h0)

theorem codes_eq (h2 : ry m' c = Cert.KernelIdeal.Whole.dy3 m c) (hb : ∀ i, ab (Cert.KernelIdeal.Whole.dy3 m c i) ≤ Ideal.ofBits .bf16 0x7F7F#16) :
    (res6 m' c : S32768x5120.Idx → EReal) = Cert.KernelIdeal.Whole.codes m c := by
  funext i
  unfold res6 Cert.KernelIdeal.Whole.codes
  exact (pay1_apply _ _ i).trans (congrArg₂ code (congrFun (rows_y m m' c h2) i) (inv_one m m' c h2 hb))

theorem codes3_eq (h2 : ry m' c = Cert.KernelIdeal.Whole.dy3 m c) (hb : ∀ i, ab (Cert.KernelIdeal.Whole.dy3 m c i) ≤ Ideal.ofBits .bf16 0x7F7F#16) :
    (shapeCast S4x8192x5120 (res6 m' c : S32768x5120.Idx → EReal) shapeCasts_S32768x5120_S4x8192x5120) = fun i => code (Cert.KernelIdeal.Whole.dy3 m c i) (Cert.KernelIdeal.Whole.inverse m c) := by
  rw [codes_eq m m' c h2 hb]
  funext i
  refine congrArg (fun z => code z (Cert.KernelIdeal.Whole.inverse m c)) ?_
  exact congrFun (shapeCast_shapeCast (Cert.KernelIdeal.Whole.dy3 m c) shapeCasts_S4x8192x5120_S32768x5120 shapeCasts_S32768x5120_S4x8192x5120) i

theorem grad_eq (h0 : rx m' c = Cert.KernelIdeal.Whole.x3 m c) (h1 : rs m' c = Cert.KernelIdeal.Whole.xsc m c) (h2 : ry m' c = Cert.KernelIdeal.Whole.dy3 m c)
    (h3 : rd m' c = Cert.KernelIdeal.Whole.acc m c) (hb : ∀ i, ab (Cert.KernelIdeal.Whole.dy3 m c i) ≤ Ideal.ofBits .bf16 0x7F7F#16) :
    (res5 m' c : S6912x5120.Idx → EReal) = Cert.KernelIdeal.Whole.grad m c := by
  funext i
  obtain ⟨r, q, rfl⟩ : ∃ (r : Fin 6912) (q : Fin 5120), i = ix2 r q := ⟨i 0, i 1, ValueIdx.eq_ix2 i⟩
  unfold res5
  have e3 : (V m' c main_arg3 : S6912x5120.Idx → EReal) = Cert.KernelIdeal.Whole.acc m c := (V_main_arg3 m' c).trans h3
  exact pay2_at _ _ _ _ _ _ _ _ _ _ (rows_y m m' c h2) (rows_x m m' c h0) e3 (inv_one m m' c h2 hb) (mul_one_one m m' c h1 h2 hb) r q

theorem scaleV_eq (h2 : ry m' c = Cert.KernelIdeal.Whole.dy3 m c) (hb : ∀ i, ab (Cert.KernelIdeal.Whole.dy3 m c i) ≤ Ideal.ofBits .bf16 0x7F7F#16) :
    (scaleV (F := Ideal) (amaxV (ry m' c)) : S_.Idx → EReal) = fun _ => Cert.KernelIdeal.Whole.scale m c :=
  funext fun j => (scale_eq m m' c j h2 hb).1

end values

/-! ## The precondition -/

instance : Subsingleton Cert.Pre_dy_finite.S_.Idx := ⟨fun x y => funext fun a => a.elim0⟩

theorem all_le {s u t : Shape} {axes : List (Fin s.rank)} [Subsingleton t.Idx] (y : FVec Ideal s .bf16) (b : (⟨0, ![]⟩ : Shape).BroadcastsInDim s ![]) (h : s.ReducesTo axes t) (hu : 0 < u.numel) (v : u.Idx → BitVec 1)
    (w : BitVec 16) (j : t.Idx)
    (e : Host.reduce IntOp.andi (cmpf .ole (Host.absf y) (broadcastInDim s ![] b (constant (F := Ideal) ⟨0, ![]⟩ .bf16 w))) v h hu j = 1#1) (i : s.Idx) : ab (y i) ≤ Ideal.ofBits .bf16 w := by
  have h := Host.reduce_andi_all _ v h hu j e i
  have h' : BitVec.ofBool (decide (ab (y i) ≤ broadcastInDim s ![] b (constant (F := Ideal) ⟨0, ![]⟩ .bf16 w) i)) = 1#1 := h
  rw [broadcastInDim_scalar_apply] at h'
  by_contra hc
  have h'' : BitVec.ofBool (decide (ab (y i) ≤ Ideal.ofBits .bf16 w)) = 1#1 := h'
  rw [decide_eq_false hc] at h''
  exact absurd h'' (by decide)

theorem bounded (m : (ℓ : Loc Cert.KernelIdeal.nD Cert.KernelIdeal.τ Cert.KernelIdeal.sig) → Buf (Elt Ideal) ℓ) (h : Cert.Pre_KernelIdeal_dy_finite (hPre_dy_finite := Cert.Pre_dy_finite.Gen.facts) m) (c : Dev nD) :
    ∀ i, ab (Cert.KernelIdeal.Whole.dy3 m c i) ≤ Ideal.ofBits .bf16 0x7F7F#16 := by
  intro i
  have e := congrFun (h c) ix0
  unfold Cert.Pre_dy_finite.fn at e
  exact all_le (Cert.KernelIdeal.Whole.dy3 m c) _ _ _ _ _ _ e i

end Cert.ReferenceIdeal.Whole

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_dy_finite
public import proofs.«01_k».proof.Proof.KRun
public import proofs.«01_k».proof.Proof.IRun
public import proofs.«01_k».proof.Proof.VKernel
public import proofs.«01_k».proof.Proof.RefRun
public import proofs.«01_k».proof.Proof.RefVal
public import Idealize.ShloMosaic.Adequacy
public import Idealize.ShloMosaic.Init

@[expose] public section

noncomputable section

namespace Cert.Proof

open Idealize.ShloMosaic Idealize.ShloMosaic.TcCoe Idealize.SL.Sem

/-- Over the extended reals the kernel and the reference end with the same three results. -/
theorem algebraic : Cert.algebraic_KernelIdeal_ReferenceIdeal_pre_dy_finite (hKernelIdeal := Cert.KernelIdeal.Gen.facts) (hReferenceIdeal := Cert.ReferenceIdeal.Gen.facts)
    (hPre_dy_finite := Cert.Pre_dy_finite.Gen.facts) := by
  intro m g m' g' hpre hargs
  have hb := Cert.ReferenceIdeal.Whole.bounded m hpre
  refine ⟨fun c => Cert.KernelIdeal.Whole.W6 m c Cert.KernelIdeal.main_v5, fun c => Cert.KernelIdeal.Whole.W6 m c Cert.KernelIdeal.main_v6,
    fun c => Cert.KernelIdeal.Whole.W6 m c Cert.KernelIdeal.main_v8, ?_, ?_⟩
  · exact (θ_run _ _ _).mono (fun r h c => ⟨(h.1 c).1.1, (h.1 c).1.2.1, (h.1 c).1.2.2, (h.1 c).2⟩) (Cert.KernelIdeal.Whole.run_ends m g)
  · refine (θ_run _ _ _).mono (fun r h c => ?_) (Cert.ReferenceIdeal.Whole.run_ends m' g')
    obtain ⟨⟨e5, e6, e8⟩, ha⟩ := h c
    obtain ⟨h0, h1, h2, h3⟩ := hargs c
    exact ⟨e5.trans ((Cert.ReferenceIdeal.Whole.grad_eq m m' c h0 h1 h2 h3 (hb c)).trans (Cert.KernelIdeal.Whole.v5_eq m c).symm),
      e6.trans ((Cert.ReferenceIdeal.Whole.codes3_eq m m' c h2 (hb c)).trans (Cert.KernelIdeal.Whole.v6_eq m c).symm),
      e8.trans ((Cert.ReferenceIdeal.Whole.scaleV_eq m m' c h2 (hb c)).trans (Cert.KernelIdeal.Whole.v8_eq m c).symm), ha⟩

theorem claim : Cert.Claim := ⟨Cert.Kernel.Gen.facts, Cert.KernelIdeal.Gen.facts, Cert.ReferenceIdeal.Gen.facts, Cert.Pre_dy_finite.Gen.facts,
  fun m g _ => Cert.Kernel.Whole.frame m g, fun m g _ => Cert.KernelIdeal.Whole.frame m g, fun m g _ => Cert.KernelIdeal.Whole.frame m g,
  fun m g _ => Cert.ReferenceIdeal.Gen.frame m g, fun m g _ => Cert.ReferenceIdeal.Gen.frame m g, trivial, algebraic⟩

end Cert.Proof

end
